-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_unmasked [hPre_finite_unmasked : Cert.Pre_finite_unmasked.Facts] (m : (ℓ : Loc Cert.KernelIdeal.nD Cert.KernelIdeal.τ Cert.KernelIdeal.sig) → Buf (Elt Ideal) ℓ) : Prop :=
  ∀ c : Dev Cert.KernelIdeal.nD,
    (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_unmasked [hPre_finite_unmasked : Cert.Pre_finite_unmasked.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_finite_unmasked [hKernelIdeal : Cert.KernelIdeal.Facts] [hPre_finite_unmasked : Cert.Pre_finite_unmasked.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_unmasked m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_finite_unmasked [hReferenceIdeal : Cert.ReferenceIdeal.Facts] [hPre_finite_unmasked : Cert.Pre_finite_unmasked.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_unmasked m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "inv_sqrt_dh" .f32 0x3DB504F3#32 (((Real.sqrt 128)⁻¹ : ℝ) : EReal)

def algebraic_KernelIdeal_ReferenceIdeal_pre_finite_unmasked [hKernelIdeal : Cert.KernelIdeal.Facts] [hReferenceIdeal : Cert.ReferenceIdeal.Facts] [hPre_finite_unmasked : Cert.Pre_finite_unmasked.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_unmasked m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v393) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_unmasked : Cert.Pre_finite_unmasked.Facts),
    quiescent_Kernel (hKernel := hKernel)
    ∧ quiescent_KernelIdeal (hKernelIdeal := hKernelIdeal)
    ∧ quiescent_KernelIdeal_pre_finite_unmasked (hKernelIdeal := hKernelIdeal) (hPre_finite_unmasked := hPre_finite_unmasked)
    ∧ quiescent_ReferenceIdeal (hReferenceIdeal := hReferenceIdeal)
    ∧ quiescent_ReferenceIdeal_pre_finite_unmasked (hReferenceIdeal := hReferenceIdeal) (hPre_finite_unmasked := hPre_finite_unmasked)
    ∧ preserves_Kernel_KernelIdeal
    ∧ algebraic_KernelIdeal_ReferenceIdeal_pre_finite_unmasked (hKernelIdeal := hKernelIdeal) (hReferenceIdeal := hReferenceIdeal) (hPre_finite_unmasked := hPre_finite_unmasked)
-- ==== Pre_finite_unmasked.lean ====
abbrev S8x2048 : Shape := ⟨2, ![8, 2048]⟩
abbrev S8x2048x2048 : Shape := ⟨3, ![8, 2048, 2048]⟩
abbrev S2048 : Shape := ⟨1, ![2048]⟩
abbrev S6144x2048 : Shape := ⟨2, ![6144, 2048]⟩
abbrev S6144 : Shape := ⟨1, ![6144]⟩
abbrev S2048x2048 : Shape := ⟨2, ![2048, 2048]⟩
abbrev S1x1x2048 : Shape := ⟨3, ![1, 1, 2048]⟩
abbrev S1x4096 : Shape := ⟨2, ![1, 4096]⟩
abbrev S1 : Shape := ⟨1, ![1]⟩
abbrev S8192x2048 : Shape := ⟨2, ![8192, 2048]⟩
abbrev S8192 : Shape := ⟨1, ![8192]⟩
abbrev S2048x4096 : Shape := ⟨2, ![2048, 4096]⟩
abbrev S_ : Shape := ⟨0, ![]⟩

class Facts : Prop where
  bcast_S_S8x2048 : S_.BroadcastsInDim S8x2048 (![] : Fin 0 → Fin S8x2048.rank)
  reducesTo_S8x2048_S_d0_1 : S8x2048.ReducesTo [0, 1] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S2048 : S_.BroadcastsInDim S2048 (![] : Fin 0 → Fin S2048.rank)
  reducesTo_S2048_S_d0 : S2048.ReducesTo [0] S_
  bcast_S_S6144x2048 : S_.BroadcastsInDim S6144x2048 (![] : Fin 0 → Fin S6144x2048.rank)
  reducesTo_S6144x2048_S_d0_1 : S6144x2048.ReducesTo [0, 1] S_
  bcast_S_S6144 : S_.BroadcastsInDim S6144 (![] : Fin 0 → Fin S6144.rank)
  reducesTo_S6144_S_d0 : S6144.ReducesTo [0] S_
  bcast_S_S2048x2048 : S_.BroadcastsInDim S2048x2048 (![] : Fin 0 → Fin S2048x2048.rank)
  reducesTo_S2048x2048_S_d0_1 : S2048x2048.ReducesTo [0, 1] S_
  bcast_S_S1x1x2048 : S_.BroadcastsInDim S1x1x2048 (![] : Fin 0 → Fin S1x1x2048.rank)
  reducesTo_S1x1x2048_S_d0_1_2 : S1x1x2048.ReducesTo [0, 1, 2] S_
  bcast_S_S1x4096 : S_.BroadcastsInDim S1x4096 (![] : Fin 0 → Fin S1x4096.rank)
  reducesTo_S1x4096_S_d0_1 : S1x4096.ReducesTo [0, 1] S_
  bcast_S_S1 : S_.BroadcastsInDim S1 (![] : Fin 0 → Fin S1.rank)
  reducesTo_S1_S_d0 : S1.ReducesTo [0] S_
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_
  bcast_S_S2048x4096 : S_.BroadcastsInDim S2048x4096 (![] : Fin 0 → Fin S2048x4096.rank)
  reducesTo_S2048x4096_S_d0_1 : S2048x4096.ReducesTo [0, 1] S_

variable [Facts]

def fn_part5 {F : FTy → Type} [FloatOps F] (main_arg18 : FVec F S2048 .f32) (main_v81 : IVec S_ 1) (main_v84 : IVec S2048x4096 1) : IVec S_ 1 :=
  let main_c_33 : IVec S_ 1 := constantI S_ 1 1#1
  let main_v85 : IVec S_ 1 := (fun x v => Host.reduce IntOp.andi x v reducesTo_S2048x4096_S_d0_1 h_S_) main_v84 main_c_33
  let main_v86 : IVec S_ 1 := andi main_v81 main_v85
  let main_v87 : FVec F S2048 .f32 := Host.absf main_arg18
  let main_cst_34 : FVec F S_ .f32 := constant S_ .f32 0x7F800000#32
  let main_v88 : FVec F S2048 .f32 := broadcastInDim S2048 ![] bcast_S_S2048 main_cst_34
  let main_v89 : IVec S2048 1 := cmpf .olt main_v87 main_v88
  let main_c_35 : IVec S_ 1 := constantI S_ 1 1#1
  let main_v90 : IVec S_ 1 := (fun x v => Host.reduce IntOp.andi x v reducesTo_S2048_S_d0 h_S_) main_v89 main_c_35
  let main_v91 : IVec S_ 1 := andi main_v86 main_v90
  main_v91

def fn_part4 {F : FTy → Type} [FloatOps F] (main_arg15 : FVec F S8192x2048 .f32) (main_arg16 : FVec F S8192 .f32) (main_arg17 : FVec F S2048x4096 .f32) (main_arg18 : FVec F S2048 .f32) (main_v66 : IVec S_ 1) (main_v67 : FVec F S1 .f32) : IVec S_ 1 :=
  let main_cst_26 : FVec F S_ .f32 := constant S_ .f32 0x7F800000#32
  let main_v68 : FVec F S1 .f32 := broadcastInDim S1 ![] bcast_S_S1 main_cst_26
  let main_v69 : IVec S1 1 := cmpf .olt main_v67 main_v68
  let main_c_27 : IVec S_ 1 := constantI S_ 1 1#1
  let main_v70 : IVec S_ 1 := (fun x v => Host.reduce IntOp.andi x v reducesTo_S1_S_d0 h_S_) main_v69 main_c_27
  let main_v71 : IVec S_ 1 := andi main_v66 main_v70
  let main_v72 : FVec F S8192x2048 .f32 := Host.absf main_arg15
  let main_cst_28 : FVec F S_ .f32 := constant S_ .f32 0x7F800000#32
  let main_v73 : FVec F S8192x2048 .f32 := broadcastInDim S8192x2048 ![] bcast_S_S8192x2048 main_cst_28
  let main_v74 : IVec S8192x2048 1 := cmpf .olt main_v72 main_v73
  let main_c_29 : IVec S_ 1 := constantI S_ 1 1#1
  let main_v75 : IVec S_ 1 := (fun x v => Host.reduce IntOp.andi x v reducesTo_S8192x2048_S_d0_1 h_S_) main_v74 main_c_29
  let main_v76 : IVec S_ 1 := andi main_v71 main_v75
  let main_v77 : FVec F S8192 .f32 := Host.absf main_arg16
  let main_cst_30 : FVec F S_ .f32 := constant S_ .f32 0x7F800000#32
  let main_v78 : FVec F S8192 .f32 := broadcastInDim S8192 ![] bcast_S_S8192 main_cst_30
  let main_v79 : IVec S8192 1 := cmpf .olt main_v77 main_v78
  let main_c_31 : IVec S_ 1 := constantI S_ 1 1#1
  let main_v80 : IVec S_ 1 := (fun x v => Host.reduce IntOp.andi x v reducesTo_S8192_S_d0 h_S_) main_v79 main_c_31
  let main_v81 : IVec S_ 1 := andi main_v76 main_v80
  let main_v82 : FVec F S2048x4096 .f32 := Host.absf main_arg17
  let main_cst_32 : FVec F S_ .f32 := constant S_ .f32 0x7F800000#32
  let main_v83 : FVec F S2048x4096 .f32 := broadcastInDim S2048x4096 ![] bcast_S_S2048x4096 main_cst_32
  let main_v84 : IVec S2048x4096 1 := cmpf .olt main_v82 main_v83
  fn_part5 (F := F) main_arg18 main_v81 main_v84

def fn_part3 {F : FTy → Type} [FloatOps F] (main_arg11 : FVec F S2048 .f32) (main_arg12 : FVec F S1x1x2048 .f32) (main_arg13 : FVec F S1x4096 .f32) (main_arg14 : FVec F S1 .f32) (main_arg15 : FVec F S8192x2048 .f32) (main_arg16 : FVec F S8192 .f32) (main_arg17 : FVec F S2048x4096 .f32) (main_arg18 : FVec F S2048 .f32) (main_v46 : IVec S_ 1) (main_v49 : IVec S2048x2048 1) (main_c_19 : IVec S_ 1) : IVec S_ 1 :=
  let main_v50 : IVec S_ 1 := (fun x v => Host.reduce IntOp.andi x v reducesTo_S2048x2048_S_d0_1 h_S_) main_v49 main_c_19
  let main_v51 : IVec S_ 1 := andi main_v46 main_v50
  let main_v52 : FVec F S2048 .f32 := Host.absf main_arg11
  let main_cst_20 : FVec F S_ .f32 := constant S_ .f32 0x7F800000#32
  let main_v53 : FVec F S2048 .f32 := broadcastInDim S2048 ![] bcast_S_S2048 main_cst_20
  let main_v54 : IVec S2048 1 := cmpf .olt main_v52 main_v53
  let main_c_21 : IVec S_ 1 := constantI S_ 1 1#1
  let main_v55 : IVec S_ 1 := (fun x v => Host.reduce IntOp.andi x v reducesTo_S2048_S_d0 h_S_) main_v54 main_c_21
  let main_v56 : IVec S_ 1 := andi main_v51 main_v55
  let main_v57 : FVec F S1x1x2048 .f32 := Host.absf main_arg12
  let main_cst_22 : FVec F S_ .f32 := constant S_ .f32 0x7F800000#32
  let main_v58 : FVec F S1x1x2048 .f32 := broadcastInDim S1x1x2048 ![] bcast_S_S1x1x2048 main_cst_22
  let main_v59 : IVec S1x1x2048 1 := cmpf .olt main_v57 main_v58
  let main_c_23 : IVec S_ 1 := constantI S_ 1 1#1
  let main_v60 : IVec S_ 1 := (fun x v => Host.reduce IntOp.andi x v reducesTo_S1x1x2048_S_d0_1_2 h_S_) main_v59 main_c_23
  let main_v61 : IVec S_ 1 := andi main_v56 main_v60
  let main_v62 : FVec F S1x4096 .f32 := Host.absf main_arg13
  let main_cst_24 : FVec F S_ .f32 := constant S_ .f32 0x7F800000#32
  let main_v63 : FVec F S1x4096 .f32 := broadcastInDim S1x4096 ![] bcast_S_S1x4096 main_cst_24
  let main_v64 : IVec S1x4096 1 := cmpf .olt main_v62 main_v63
  let main_c_25 : IVec S_ 1 := constantI S_ 1 1#1
  let main_v65 : IVec S_ 1 := (fun x v => Host.reduce IntOp.andi x v reducesTo_S1x4096_S_d0_1 h_S_) main_v64 main_c_25
  let main_v66 : IVec S_ 1 := andi main_v61 main_v65
  let main_v67 : FVec F S1 .f32 := Host.absf main_arg14
  fn_part4 (F := F) main_arg15 main_arg16 main_arg17 main_arg18 main_v66 main_v67

def fn_part2 {F : FTy → Type} [FloatOps F] (main_arg8 : FVec F S6144x2048 .f32) (main_arg9 : FVec F S6144 .f32) (main_arg10 : FVec F S2048x2048 .f32) (main_arg11 : FVec F S2048 .f32) (main_arg12 : FVec F S1x1x2048 .f32) (main_arg13 : FVec F S1x4096 .f32) (main_arg14 : FVec F S1 .f32) (main_arg15 : FVec F S8192x2048 .f32) (main_arg16 : FVec F S8192 .f32) (main_arg17 : FVec F S2048x4096 .f32) (main_arg18 : FVec F S2048 .f32) (main_v31 : IVec S_ 1) (main_v32 : FVec F S2048 .f32) (main_cst_12 : FVec F S_ .f32) : IVec S_ 1 :=
  let main_v33 : FVec F S2048 .f32 := broadcastInDim S2048 ![] bcast_S_S2048 main_cst_12
  let main_v34 : IVec S2048 1 := cmpf .olt main_v32 main_v33
  let main_c_13 : IVec S_ 1 := constantI S_ 1 1#1
  let main_v35 : IVec S_ 1 := (fun x v => Host.reduce IntOp.andi x v reducesTo_S2048_S_d0 h_S_) main_v34 main_c_13
  let main_v36 : IVec S_ 1 := andi main_v31 main_v35
  let main_v37 : FVec F S6144x2048 .f32 := Host.absf main_arg8
  let main_cst_14 : FVec F S_ .f32 := constant S_ .f32 0x7F800000#32
  let main_v38 : FVec F S6144x2048 .f32 := broadcastInDim S6144x2048 ![] bcast_S_S6144x2048 main_cst_14
  let main_v39 : IVec S6144x2048 1 := cmpf .olt main_v37 main_v38
  let main_c_15 : IVec S_ 1 := constantI S_ 1 1#1
  let main_v40 : IVec S_ 1 := (fun x v => Host.reduce IntOp.andi x v reducesTo_S6144x2048_S_d0_1 h_S_) main_v39 main_c_15
  let main_v41 : IVec S_ 1 := andi main_v36 main_v40
  let main_v42 : FVec F S6144 .f32 := Host.absf main_arg9
  let main_cst_16 : FVec F S_ .f32 := constant S_ .f32 0x7F800000#32
  let main_v43 : FVec F S6144 .f32 := broadcastInDim S6144 ![] bcast_S_S6144 main_cst_16
  let main_v44 : IVec S6144 1 := cmpf .olt main_v42 main_v43
  let main_c_17 : IVec S_ 1 := constantI S_ 1 1#1
  let main_v45 : IVec S_ 1 := (fun x v => Host.reduce IntOp.andi x v reducesTo_S6144_S_d0 h_S_) main_v44 main_c_17
  let main_v46 : IVec S_ 1 := andi main_v41 main_v45
  let main_v47 : FVec F S2048x2048 .f32 := Host.absf main_arg10
  let main_cst_18 : FVec F S_ .f32 := constant S_ .f32 0x7F800000#32
  let main_v48 : FVec F S2048x2048 .f32 := broadcastInDim S2048x2048 ![] bcast_S_S2048x2048 main_cst_18
  let main_v49 : IVec S2048x2048 1 := cmpf .olt main_v47 main_v48
  let main_c_19 : IVec S_ 1 := constantI S_ 1 1#1
  fn_part3 (F := F) main_arg11 main_arg12 main_arg13 main_arg14 main_arg15 main_arg16 main_arg17 main_arg18 main_v46 main_v49 main_c_19

def fn_part1 {F : FTy → Type} [FloatOps F] (main_arg2 : FVec F S8x2048x2048 .f32) (main_arg5 : FVec F S2048 .f32) (main_arg6 : FVec F S2048 .f32) (main_arg7 : FVec F S2048 .f32) (main_arg8 : FVec F S6144x2048 .f32) (main_arg9 : FVec F S6144 .f32) (main_arg10 : FVec F S2048x2048 .f32) (main_arg11 : FVec F S2048 .f32) (main_arg12 : FVec F S1x1x2048 .f32) (main_arg13 : FVec F S1x4096 .f32) (main_arg14 : FVec F S1 .f32) (main_arg15 : FVec F S8192x2048 .f32) (main_arg16 : FVec F S8192 .f32) (main_arg17 : FVec F S2048x4096 .f32) (main_arg18 : FVec F S2048 .f32) (main_v11 : IVec S_ 1) (main_v15 : IVec S_ 1) : IVec S_ 1 :=
  let main_v16 : IVec S_ 1 := andi main_v11 main_v15
  let main_v17 : FVec F S8x2048x2048 .f32 := Host.absf main_arg2
  let main_cst_6 : FVec F S_ .f32 := constant S_ .f32 0x7F800000#32
  let main_v18 : FVec F S8x2048x2048 .f32 := broadcastInDim S8x2048x2048 ![] bcast_S_S8x2048x2048 main_cst_6
  let main_v19 : IVec S8x2048x2048 1 := cmpf .olt main_v17 main_v18
  let main_c_7 : IVec S_ 1 := constantI S_ 1 1#1
  let main_v20 : IVec S_ 1 := (fun x v => Host.reduce IntOp.andi x v reducesTo_S8x2048x2048_S_d0_1_2 h_S_) main_v19 main_c_7
  let main_v21 : IVec S_ 1 := andi main_v16 main_v20
  let main_v22 : FVec F S2048 .f32 := Host.absf main_arg5
  let main_cst_8 : FVec F S_ .f32 := constant S_ .f32 0x7F800000#32
  let main_v23 : FVec F S2048 .f32 := broadcastInDim S2048 ![] bcast_S_S2048 main_cst_8
  let main_v24 : IVec S2048 1 := cmpf .olt main_v22 main_v23
  let main_c_9 : IVec S_ 1 := constantI S_ 1 1#1
  let main_v25 : IVec S_ 1 := (fun x v => Host.reduce IntOp.andi x v reducesTo_S2048_S_d0 h_S_) main_v24 main_c_9
  let main_v26 : IVec S_ 1 := andi main_v21 main_v25
  let main_v27 : FVec F S2048 .f32 := Host.absf main_arg6
  let main_cst_10 : FVec F S_ .f32 := constant S_ .f32 0x7F800000#32
  let main_v28 : FVec F S2048 .f32 := broadcastInDim S2048 ![] bcast_S_S2048 main_cst_10
  let main_v29 : IVec S2048 1 := cmpf .olt main_v27 main_v28
  let main_c_11 : IVec S_ 1 := constantI S_ 1 1#1
  let main_v30 : IVec S_ 1 := (fun x v => Host.reduce IntOp.andi x v reducesTo_S2048_S_d0 h_S_) main_v29 main_c_11
  let main_v31 : IVec S_ 1 := andi main_v26 main_v30
  let main_v32 : FVec F S2048 .f32 := Host.absf main_arg7
  let main_cst_12 : FVec F S_ .f32 := constant S_ .f32 0x7F800000#32
  fn_part2 (F := F) main_arg8 main_arg9 main_arg10 main_arg11 main_arg12 main_arg13 main_arg14 main_arg15 main_arg16 main_arg17 main_arg18 main_v31 main_v32 main_cst_12

def fn {F : FTy → Type} [FloatOps F] (main_arg0 : FVec F S8x2048 .f32) (main_arg1 : FVec F S8x2048x2048 .f32) (main_arg2 : FVec F S8x2048x2048 .f32) (main_arg3 : IVec S8x2048 1) (main_arg4 : IVec S8x2048 1) (main_arg5 : FVec F S2048 .f32) (main_arg6 : FVec F S2048 .f32) (main_arg7 : FVec F S2048 .f32) (main_arg8 : FVec F S6144x2048 .f32) (main_arg9 : FVec F S6144 .f32) (main_arg10 : FVec F S2048x2048 .f32) (main_arg11 : FVec F S2048 .f32) (main_arg12 : FVec F S1x1x2048 .f32) (main_arg13 : FVec F S1x4096 .f32) (main_arg14 : FVec F S1 .f32) (main_arg15 : FVec F S8192x2048 .f32) (main_arg16 : FVec F S8192 .f32) (main_arg17 : FVec F S2048x4096 .f32) (main_arg18 : FVec F S2048 .f32) : IVec S_ 1 :=
  let main_c : IVec S_ 1 := constantI S_ 1 0#1
  let main_v0 : IVec S8x2048 1 := broadcastInDim S8x2048 ![] bcast_S_S8x2048 main_c
  let main_v1 : IVec S8x2048 1 := cmpi .eq main_arg3 main_v0
  let main_c_0 : IVec S_ 1 := constantI S_ 1 1#1
  let main_v2 : IVec S_ 1 := (fun x v => Host.reduce IntOp.andi x v reducesTo_S8x2048_S_d0_1 h_S_) main_v1 main_c_0
  let main_c_1 : IVec S_ 1 := constantI S_ 1 0#1
  let main_v3 : IVec S8x2048 1 := broadcastInDim S8x2048 ![] bcast_S_S8x2048 main_c_1
  let main_v4 : IVec S8x2048 1 := cmpi .eq main_arg4 main_v3
  let main_c_2 : IVec S_ 1 := constantI S_ 1 1#1
  let main_v5 : IVec S_ 1 := (fun x v => Host.reduce IntOp.andi x v reducesTo_S8x2048_S_d0_1 h_S_) main_v4 main_c_2
  let main_v6 : IVec S_ 1 := andi main_v2 main_v5
  let main_v7 : FVec F S8x2048 .f32 := Host.absf main_arg0
  let main_cst : FVec F S_ .f32 := constant S_ .f32 0x7F800000#32
  let main_v8 : FVec F S8x2048 .f32 := broadcastInDim S8x2048 ![] bcast_S_S8x2048 main_cst
  let main_v9 : IVec S8x2048 1 := cmpf .olt main_v7 main_v8
  let main_c_3 : IVec S_ 1 := constantI S_ 1 1#1
  let main_v10 : IVec S_ 1 := (fun x v => Host.reduce IntOp.andi x v reducesTo_S8x2048_S_d0_1 h_S_) main_v9 main_c_3
  let main_v11 : IVec S_ 1 := andi main_v6 main_v10
  let main_v12 : FVec F S8x2048x2048 .f32 := Host.absf main_arg1
  let main_cst_4 : FVec F S_ .f32 := constant S_ .f32 0x7F800000#32
  let main_v13 : FVec F S8x2048x2048 .f32 := broadcastInDim S8x2048x2048 ![] bcast_S_S8x2048x2048 main_cst_4
  let main_v14 : IVec S8x2048x2048 1 := cmpf .olt main_v12 main_v13
  let main_c_5 : IVec S_ 1 := constantI S_ 1 1#1
  let main_v15 : IVec S_ 1 := (fun x v => Host.reduce IntOp.andi x v reducesTo_S8x2048x2048_S_d0_1_2 h_S_) main_v14 main_c_5
  fn_part1 (F := F) main_arg2 main_arg5 main_arg6 main_arg7 main_arg8 main_arg9 main_arg10 main_arg11 main_arg12 main_arg13 main_arg14 main_arg15 main_arg16 main_arg17 main_arg18 main_v11 main_v15
-- ==== Kernel.lean ====
abbrev S8x2048 : Shape := ⟨2, ![8, 2048]⟩
abbrev S8x2048x2048 : Shape := ⟨3, ![8, 2048, 2048]⟩
abbrev S2048 : Shape := ⟨1, ![2048]⟩
abbrev S6144x2048 : Shape := ⟨2, ![6144, 2048]⟩
abbrev S6144 : Shape := ⟨1, ![6144]⟩
abbrev S2048x2048 : Shape := ⟨2, ![2048, 2048]⟩
abbrev S1x1x2048 : Shape := ⟨3, ![1, 1, 2048]⟩
abbrev S1x4096 : Shape := ⟨2, ![1, 4096]⟩
abbrev S1 : Shape := ⟨1, ![1]⟩
abbrev S8192x2048 : Shape := ⟨2, ![8192, 2048]⟩
abbrev S8192 : Shape := ⟨1, ![8192]⟩
abbrev S2048x4096 : Shape := ⟨2, ![2048, 4096]⟩
abbrev S1x2048 : Shape := ⟨2, ![1, 2048]⟩
abbrev S3x1x2048 : Shape := ⟨3, ![3, 1, 2048]⟩
abbrev S1x1 : Shape := ⟨2, ![1, 1]⟩
abbrev S128x2048 : Shape := ⟨2, ![128, 2048]⟩
abbrev S8 : Shape := ⟨1, ![8]⟩
abbrev S8x1 : Shape := ⟨2, ![8, 1]⟩
abbrev S8x128 : Shape := ⟨2, ![8, 128]⟩
abbrev S16x8x2048 : Shape := ⟨3, ![16, 8, 2048]⟩
abbrev S8x16x2048 : Shape := ⟨3, ![8, 16, 2048]⟩
abbrev S8x1x16 : Shape := ⟨3, ![8, 1, 16]⟩
abbrev S1x2048x2048 : Shape := ⟨3, ![1, 2048, 2048]⟩
abbrev S16x2048 : Shape := ⟨2, ![16, 2048]⟩
abbrev S1x1x16 : Shape := ⟨3, ![1, 1, 16]⟩
abbrev S128x16x2048 : Shape := ⟨3, ![128, 16, 2048]⟩
abbrev S128 : Shape := ⟨1, ![128]⟩
abbrev S128x1 : Shape := ⟨2, ![128, 1]⟩
abbrev S512x2048 : Shape := ⟨2, ![512, 2048]⟩
abbrev S512 : Shape := ⟨1, ![512]⟩
abbrev S512x1 : Shape := ⟨2, ![512, 1]⟩
abbrev S1x128 : Shape := ⟨2, ![1, 128]⟩
abbrev S128x128 : Shape := ⟨2, ![128, 128]⟩
abbrev S1x16 : Shape := ⟨2, ![1, 16]⟩
abbrev S512x16 : Shape := ⟨2, ![512, 16]⟩
abbrev S128x16 : Shape := ⟨2, ![128, 16]⟩
abbrev S16 : Shape := ⟨1, ![16]⟩
abbrev S8x16 : Shape := ⟨2, ![8, 16]⟩
abbrev S8x1x1024 : Shape := ⟨3, ![8, 1, 1024]⟩
abbrev S1024x2048 : Shape := ⟨2, ![1024, 2048]⟩
abbrev S1x1x1024 : Shape := ⟨3, ![1, 1, 1024]⟩
abbrev S2048x1024 : Shape := ⟨2, ![2048, 1024]⟩
abbrev S16x1024 : Shape := ⟨2, ![16, 1024]⟩
abbrev S1x1024 : Shape := ⟨2, ![1, 1024]⟩

abbrev nBuf : Space → Nat
  | .hbm => 49
  | .vmem => 57
  | .smem => 0
  | _ => 0

abbrev bufTy : (tb : Table) → Fin (tcTables nBuf tb) → BufTy
  | .hbm, ⟨0, _⟩ => ⟨S8x2048, .f32⟩
  | .hbm, ⟨1, _⟩ => ⟨S8x2048x2048, .f32⟩
  | .hbm, ⟨2, _⟩ => ⟨S8x2048x2048, .f32⟩
  | .hbm, ⟨3, _⟩ => ⟨S8x2048, .i1⟩
  | .hbm, ⟨4, _⟩ => ⟨S8x2048, .i1⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S6144x2048, .f32⟩
  | .hbm, ⟨9, _⟩ => ⟨S6144, .f32⟩
  | .hbm, ⟨10, _⟩ => ⟨S2048x2048, .f32⟩
  | .hbm, ⟨11, _⟩ => ⟨S2048, .f32⟩
  | .hbm, ⟨12, _⟩ => ⟨S1x1x2048, .f32⟩
  | .hbm, ⟨13, _⟩ => ⟨S1x4096, .f32⟩
  | .hbm, ⟨14, _⟩ => ⟨S1, .f32⟩
  | .hbm, ⟨15, _⟩ => ⟨S8192x2048, .f32⟩
  | .hbm, ⟨16, _⟩ => ⟨S8192, .f32⟩
  | .hbm, ⟨17, _⟩ => ⟨S2048x4096, .f32⟩
  | .hbm, ⟨18, _⟩ => ⟨S2048, .f32⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S3x1x2048, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S1x1, .f32⟩
  | .hbm, ⟨27, _⟩ => ⟨S8x2048, .f32⟩
  | .hbm, ⟨28, _⟩ => ⟨S128x2048, .f32⟩
  | .hbm, ⟨29, _⟩ => ⟨S16x8x2048, .f32⟩
  | .hbm, ⟨30, _⟩ => ⟨S8x16x2048, .f32⟩
  | .hbm, ⟨31, _⟩ => ⟨S128x2048, .f32⟩
  | .hbm, ⟨32, _⟩ => ⟨S128x2048, .f32⟩
  | .hbm, ⟨33, _⟩ => ⟨S8x1x16, .f32⟩
  | .hbm, ⟨34, _⟩ => ⟨S128x2048, .f32⟩
  | .hbm, ⟨35, _⟩ => ⟨S8x1x16, .f32⟩
  | .hbm, ⟨36, _⟩ => ⟨S8x16x2048, .f32⟩
  | .hbm, ⟨37, _⟩ => ⟨S16x8x2048, .f32⟩
  | .hbm, ⟨38, _⟩ => ⟨S128x2048, .f32⟩
  | .hbm, ⟨39, _⟩ => ⟨S8x16x2048, .f32⟩
  | .hbm, ⟨40, _⟩ => ⟨S16x8x2048, .f32⟩
  | .hbm, ⟨41, _⟩ => ⟨S128x2048, .f32⟩
  | .hbm, ⟨42, _⟩ => ⟨S8x16, .f32⟩
  | .hbm, ⟨43, _⟩ => ⟨S8x16, .f32⟩
  | .hbm, ⟨44, _⟩ => ⟨S16x2048, .f32⟩
  | .hbm, ⟨45, _⟩ => ⟨S16x2048, .f32⟩
  | .hbm, ⟨46, _⟩ => ⟨S8x1x1024, .f32⟩
  | .hbm, ⟨47, _⟩ => ⟨S16x2048, .f32⟩
  | .hbm, ⟨48, _⟩ => ⟨S8x2048, .f32⟩
  | .local _ .vmem, ⟨0, _⟩ => ⟨S8x2048, .f32⟩
  | .local _ .vmem, ⟨1, _⟩ => ⟨S1x2048, .f32⟩
  | .local _ .vmem, ⟨2, _⟩ => ⟨S2048x2048, .f32⟩
  | .local _ .vmem, ⟨3, _⟩ => ⟨S1x1x2048, .f32⟩
  | .local _ .vmem, ⟨4, _⟩ => ⟨S2048x2048, .f32⟩
  | .local _ .vmem, ⟨5, _⟩ => ⟨S8x2048, .f32⟩
  | .local _ .vmem, ⟨6, _⟩ => ⟨S128x2048, .f32⟩
  | .local _ .vmem, ⟨7, _⟩ => ⟨S1x2048x2048, .f32⟩
  | .local _ .vmem, ⟨8, _⟩ => ⟨S1x2048x2048, .f32⟩
  | .local _ .vmem, ⟨9, _⟩ => ⟨S8x2048, .f32⟩
  | .local _ .vmem, ⟨10, _⟩ => ⟨S128x2048, .f32⟩
  | .local _ .vmem, ⟨11, _⟩ => ⟨S1x2048, .f32⟩
  | .local _ .vmem, ⟨12, _⟩ => ⟨S1x2048, .f32⟩
  | .local _ .vmem, ⟨13, _⟩ => ⟨S16x2048, .f32⟩
  | .local _ .vmem, ⟨14, _⟩ => ⟨S16x2048, .f32⟩
  | .local _ .vmem, ⟨15, _⟩ => ⟨S1x1x16, .f32⟩
  | .local _ .vmem, ⟨16, _⟩ => ⟨S1x1x16, .f32⟩
  | .local _ .vmem, ⟨17, _⟩ => ⟨S1x2048x2048, .f32⟩
  | .local _ .vmem, ⟨18, _⟩ => ⟨S1x2048x2048, .f32⟩
  | .local _ .vmem, ⟨19, _⟩ => ⟨S8x2048, .f32⟩
  | .local _ .vmem, ⟨20, _⟩ => ⟨S128x2048, .f32⟩
  | .local _ .vmem, ⟨21, _⟩ => ⟨S1x2048, .f32⟩
  | .local _ .vmem, ⟨22, _⟩ => ⟨S1x2048, .f32⟩
  | .local _ .vmem, ⟨23, _⟩ => ⟨S16x2048, .f32⟩
  | .local _ .vmem, ⟨24, _⟩ => ⟨S16x2048, .f32⟩
  | .local _ .vmem, ⟨25, _⟩ => ⟨S1x1x16, .f32⟩
  | .local _ .vmem, ⟨26, _⟩ => ⟨S1x1x16, .f32⟩
  | .local _ .vmem, ⟨27, _⟩ => ⟨S128x2048, .f32⟩
  | .local _ .vmem, ⟨28, _⟩ => ⟨S128x2048, .f32⟩
  | .local _ .vmem, ⟨29, _⟩ => ⟨S8x16, .f32⟩
  | .local _ .vmem, ⟨30, _⟩ => ⟨S8x16, .f32⟩
  | .local _ .vmem, ⟨31, _⟩ => ⟨S2048x2048, .f32⟩
  | .local _ .vmem, ⟨32, _⟩ => ⟨S1x1x2048, .f32⟩
  | .local _ .vmem, ⟨33, _⟩ => ⟨S2048x2048, .f32⟩
  | .local _ .vmem, ⟨34, _⟩ => ⟨S1x2048, .f32⟩
  | .local _ .vmem, ⟨35, _⟩ => ⟨S1x2048, .f32⟩
  | .local _ .vmem, ⟨36, _⟩ => ⟨S16x2048, .f32⟩
  | .local _ .vmem, ⟨37, _⟩ => ⟨S16x2048, .f32⟩
  | .local _ .vmem, ⟨38, _⟩ => ⟨S16x2048, .f32⟩
  | .local _ .vmem, ⟨39, _⟩ => ⟨S1024x2048, .f32⟩
  | .local _ .vmem, ⟨40, _⟩ => ⟨S1024x2048, .f32⟩
  | .local _ .vmem, ⟨41, _⟩ => ⟨S1024x2048, .f32⟩
  | .local _ .vmem, ⟨42, _⟩ => ⟨S1024x2048, .f32⟩
  | .local _ .vmem, ⟨43, _⟩ => ⟨S1x1x1024, .f32⟩
  | .local _ .vmem, ⟨44, _⟩ => ⟨S1x1x1024, .f32⟩
  | .local _ .vmem, ⟨45, _⟩ => ⟨S1x1x1024, .f32⟩
  | .local _ .vmem, ⟨46, _⟩ => ⟨S1x1x1024, .f32⟩
  | .local _ .vmem, ⟨47, _⟩ => ⟨S2048x1024, .f32⟩
  | .local _ .vmem, ⟨48, _⟩ => ⟨S2048x1024, .f32⟩
  | .local _ .vmem, ⟨49, _⟩ => ⟨S16x2048, .f32⟩
  | .local _ .vmem, ⟨50, _⟩ => ⟨S16x2048, .f32⟩
  | .local _ .vmem, ⟨51, _⟩ => ⟨S16x2048, .f32⟩
  | .local _ .vmem, ⟨52, _⟩ => ⟨S1x2048, .f32⟩
  | .local _ .vmem, ⟨53, _⟩ => ⟨S8x2048, .f32⟩
  | .local _ .vmem, ⟨54, _⟩ => ⟨S1x4096, .f32⟩
  | .local _ .vmem, ⟨55, _⟩ => ⟨S1x1, .f32⟩
  | .local _ .vmem, ⟨56, _⟩ => ⟨S8x2048, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8_0 : Ref sig .tc := ⟨.hbm, 27, rfl⟩
abbrev main_v8_1 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12_0 : Ref sig .tc := ⟨.hbm, 32, rfl⟩
abbrev main_v12_1 : Ref sig .tc := ⟨.hbm, 33, rfl⟩
abbrev main_v13_0 : Ref sig .tc := ⟨.hbm, 34, rfl⟩
abbrev main_v13_1 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22_0 : Ref sig .tc := ⟨.hbm, 44, rfl⟩
abbrev main_v22_1 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc2_stg6_0 : Ref sig .tc := ⟨.vmem, 25, rfl⟩
abbrev cc2_stg6_1 : Ref sig .tc := ⟨.vmem, 26, rfl⟩
abbrev cc3_stg0_0 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg7_0 : Ref sig .tc := ⟨.vmem, 34, rfl⟩
abbrev cc3_stg8_0 : Ref sig .tc := ⟨.vmem, 35, rfl⟩
abbrev cc3_stg9_0 : Ref sig .tc := ⟨.vmem, 36, rfl⟩
abbrev cc3_stg10_0 : Ref sig .tc := ⟨.vmem, 37, rfl⟩
abbrev cc4_stg0_0 : Ref sig .tc := ⟨.vmem, 38, rfl⟩
abbrev cc4_stg1_0 : Ref sig .tc := ⟨.vmem, 39, rfl⟩
abbrev cc4_stg1_1 : Ref sig .tc := ⟨.vmem, 40, rfl⟩
abbrev cc4_stg2_0 : Ref sig .tc := ⟨.vmem, 41, rfl⟩
abbrev cc4_stg2_1 : Ref sig .tc := ⟨.vmem, 42, rfl⟩
abbrev cc4_stg3_0 : Ref sig .tc := ⟨.vmem, 43, rfl⟩
abbrev cc4_stg3_1 : Ref sig .tc := ⟨.vmem, 44, rfl⟩
abbrev cc4_stg4_0 : Ref sig .tc := ⟨.vmem, 45, rfl⟩
abbrev cc4_stg4_1 : Ref sig .tc := ⟨.vmem, 46, rfl⟩
abbrev cc4_stg5_0 : Ref sig .tc := ⟨.vmem, 47, rfl⟩
abbrev cc4_stg5_1 : Ref sig .tc := ⟨.vmem, 48, rfl⟩
abbrev cc4_stg6_0 : Ref sig .tc := ⟨.vmem, 49, rfl⟩
abbrev cc5_stg0_0 : Ref sig .tc := ⟨.vmem, 50, rfl⟩
abbrev cc5_stg1_0 : Ref sig .tc := ⟨.vmem, 51, rfl⟩
abbrev cc5_stg2_0 : Ref sig .tc := ⟨.vmem, 52, rfl⟩
abbrev cc5_stg3_0 : Ref sig .tc := ⟨.vmem, 53, rfl⟩
abbrev cc5_stg4_0 : Ref sig .tc := ⟨.vmem, 54, rfl⟩
abbrev cc5_stg5_0 : Ref sig .tc := ⟨.vmem, 55, rfl⟩
abbrev cc5_stg6_0 : Ref sig .tc := ⟨.vmem, 56, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24
abbrev cc2_sem6_0 : DmaSem sig := 25
abbrev cc2_sem6_1 : DmaSem sig := 26
abbrev cc3_sem0_0 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem7_0 : DmaSem sig := 34
abbrev cc3_sem8_0 : DmaSem sig := 35
abbrev cc3_sem9_0 : DmaSem sig := 36
abbrev cc3_sem10_0 : DmaSem sig := 37
abbrev cc4_sem0_0 : DmaSem sig := 38
abbrev cc4_sem1_0 : DmaSem sig := 39
abbrev cc4_sem1_1 : DmaSem sig := 40
abbrev cc4_sem2_0 : DmaSem sig := 41
abbrev cc4_sem2_1 : DmaSem sig := 42
abbrev cc4_sem3_0 : DmaSem sig := 43
abbrev cc4_sem3_1 : DmaSem sig := 44
abbrev cc4_sem4_0 : DmaSem sig := 45
abbrev cc4_sem4_1 : DmaSem sig := 46
abbrev cc4_sem5_0 : DmaSem sig := 47
abbrev cc4_sem5_1 : DmaSem sig := 48
abbrev cc4_sem6_0 : DmaSem sig := 49
abbrev cc5_sem0_0 : DmaSem sig := 50
abbrev cc5_sem1_0 : DmaSem sig := 51
abbrev cc5_sem2_0 : DmaSem sig := 52
abbrev cc5_sem3_0 : DmaSem sig := 53
abbrev cc5_sem4_0 : DmaSem sig := 54
abbrev cc5_sem5_0 : DmaSem sig := 55
abbrev cc5_sem6_0 : DmaSem sig := 56

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![8], ![false]⟩

def k1_off1 (i : grid1.Coords) : Fin 2 → Nat :=
  let arg0 : BitVec 32 := BitVec.ofNat 32 (i 0).val
  let v61 : Index := Scalar.indexCast arg0
  let c0_21 : Index := 0#32
  ![v61.toNat, 0]
def k1_off2 (i : grid1.Coords) : Fin 2 → Nat :=
  let arg0 : BitVec 32 := BitVec.ofNat 32 (i 0).val
  let c16_i32 : BitVec 32 := 16#32
  let v88 : BitVec 32 := Scalar.muli arg0 c16_i32
  let v89 : Index := Scalar.indexCast v88
  let c0_27 : Index := 0#32
  ![v89.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S16x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![8], ![false]⟩

def k2_off1 (i : grid2.Coords) : Fin 2 → Nat :=
  let arg0 : BitVec 32 := BitVec.ofNat 32 (i 0).val
  let v61 : Index := Scalar.indexCast arg0
  let c0_21 : Index := 0#32
  ![v61.toNat, 0]
def k2_off2 (i : grid2.Coords) : Fin 2 → Nat :=
  let arg0 : BitVec 32 := BitVec.ofNat 32 (i 0).val
  let c16_i32 : BitVec 32 := 16#32
  let v88 : BitVec 32 := Scalar.muli arg0 c16_i32
  let v89 : Index := Scalar.indexCast v88
  let c0_27 : Index := 0#32
  ![v89.toNat, 0]
def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x2048x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x2048 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2048 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S16x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x1x16 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc3_transform_5 (i : grid3.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S128x2048 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x2048 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S8x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S8x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S2048x2048 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1x2048 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S2048x2048 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x2048 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x2048 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S16x2048 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S16x2048 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev grid4 : Pipeline.Grid := ⟨1, ![4], ![false]⟩

def k4_cond1 (i : grid4.Coords) : BitVec 1 :=
  let arg0 : BitVec 32 := BitVec.ofNat 32 (i 0).val
  let c0_i32 : BitVec 32 := 0#32
  let v19 : BitVec 1 := Scalar.cmpi .eq arg0 c0_i32
  let v20 : BitVec 32 := Scalar.extui v19
  let c0_i32_15 : BitVec 32 := 0#32
  let v21 : BitVec 1 := Scalar.cmpi .ne v20 c0_i32_15
  v21

def k4_cond2 (i : grid4.Coords) : BitVec 1 :=
  let arg0 : BitVec 32 := BitVec.ofNat 32 (i 0).val
  let c0_i32_16 : BitVec 32 := 0#32
  let v22 : BitVec 1 := Scalar.cmpi .ne arg0 c0_i32_16
  let v23 : BitVec 32 := Scalar.extui v22
  let c0_i32_17 : BitVec 32 := 0#32
  let v24 : BitVec 1 := Scalar.cmpi .ne v23 c0_i32_17
  v24

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_4 (i : grid4.Coords) : Fin 3 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S16x2048 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 2 → Memref sig .tc .vmem S1024x2048 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1024x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1x1x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S1x1x1024 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S2048x1024 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S16x2048 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S16x2048 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S16x2048 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x2048 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S8x2048 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x4096 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x1 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S8x2048 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]
-- ==== KernelIdeal.lean ====
variable {F : FTy → Type} [FloatOps F] [Named F]
def κ : String → Option EReal := fun
  | "inv_sqrt_dh" => some (((Real.sqrt 128)⁻¹ : ℝ) : EReal)
  | "mask" => some ⊥
  | _ => none
-- ==== ReferenceIdeal.lean ====
abbrev S8x2048 : Shape := ⟨2, ![8, 2048]⟩
abbrev S8x2048x2048 : Shape := ⟨3, ![8, 2048, 2048]⟩
abbrev S2048 : Shape := ⟨1, ![2048]⟩
abbrev S6144x2048 : Shape := ⟨2, ![6144, 2048]⟩
abbrev S6144 : Shape := ⟨1, ![6144]⟩
abbrev S2048x2048 : Shape := ⟨2, ![2048, 2048]⟩
abbrev S1x1x2048 : Shape := ⟨3, ![1, 1, 2048]⟩
abbrev S1x4096 : Shape := ⟨2, ![1, 4096]⟩
abbrev S1 : Shape := ⟨1, ![1]⟩
abbrev S8192x2048 : Shape := ⟨2, ![8192, 2048]⟩
abbrev S8192 : Shape := ⟨1, ![8192]⟩
abbrev S2048x4096 : Shape := ⟨2, ![2048, 4096]⟩
abbrev S_ : Shape := ⟨0, ![]⟩
abbrev S8 : Shape := ⟨1, ![8]⟩
abbrev S8x1 : Shape := ⟨2, ![8, 1]⟩
abbrev S1x2048 : Shape := ⟨2, ![1, 2048]⟩
abbrev S8x1x2048 : Shape := ⟨3, ![8, 1, 2048]⟩
abbrev S8x512x2048 : Shape := ⟨3, ![8, 512, 2048]⟩
abbrev S8x512 : Shape := ⟨2, ![8, 512]⟩
abbrev S8x128x16x2048 : Shape := ⟨4, ![8, 128, 16, 2048]⟩
abbrev S8x128x16 : Shape := ⟨3, ![8, 128, 16]⟩
abbrev S8x128x16x1 : Shape := ⟨4, ![8, 128, 16, 1]⟩
abbrev S8x128x2048 : Shape := ⟨3, ![8, 128, 2048]⟩
abbrev S8x128x1 : Shape := ⟨3, ![8, 128, 1]⟩
abbrev S8x128 : Shape := ⟨2, ![8, 128]⟩
abbrev S8x64 : Shape := ⟨2, ![8, 64]⟩
abbrev S8x64x1 : Shape := ⟨3, ![8, 64, 1]⟩
abbrev S1x1x1 : Shape := ⟨3, ![1, 1, 1]⟩
abbrev S8x64x2048 : Shape := ⟨3, ![8, 64, 2048]⟩
abbrev S8x2048x1 : Shape := ⟨3, ![8, 2048, 1]⟩
abbrev S8x578x2048 : Shape := ⟨3, ![8, 578, 2048]⟩
abbrev S8x578 : Shape := ⟨2, ![8, 578]⟩
abbrev S8x578x1 : Shape := ⟨3, ![8, 578, 1]⟩
abbrev S8x1x16x128 : Shape := ⟨4, ![8, 1, 16, 128]⟩
abbrev S8x16x1x128 : Shape := ⟨4, ![8, 16, 1, 128]⟩
abbrev S8x578x16x128 : Shape := ⟨4, ![8, 578, 16, 128]⟩
abbrev S8x16x578x128 : Shape := ⟨4, ![8, 16, 578, 128]⟩
abbrev S8x16x1x578 : Shape := ⟨4, ![8, 16, 1, 578]⟩
abbrev S8x1x1x578 : Shape := ⟨4, ![8, 1, 1, 578]⟩
abbrev S8x16x1 : Shape := ⟨3, ![8, 16, 1]⟩
abbrev S8x16x1x1 : Shape := ⟨4, ![8, 16, 1, 1]⟩
abbrev S2048x8192 : Shape := ⟨2, ![2048, 8192]⟩
abbrev S8x8192 : Shape := ⟨2, ![8, 8192]⟩
abbrev S1x8192 : Shape := ⟨2, ![1, 8192]⟩
abbrev S8x4096 : Shape := ⟨2, ![8, 4096]⟩
abbrev S4096x2048 : Shape := ⟨2, ![4096, 2048]⟩
abbrev S4096x1 : Shape := ⟨2, ![4096, 1]⟩
abbrev S1x1 : Shape := ⟨2, ![1, 1]⟩
abbrev S8x1x1 : Shape := ⟨3, ![8, 1, 1]⟩
abbrev S8x2x1 : Shape := ⟨3, ![8, 2, 1]⟩
abbrev S8x2x2048 : Shape := ⟨3, ![8, 2, 2048]⟩

abbrev nBuf : Space → Nat
  | .hbm => 602
  | .vmem => 0
  | .smem => 0
  | _ => 0

abbrev hbmTy0_0 (i : Nat) : BufTy := match i % 128 with
  | 0 => ⟨S8x2048, .f32⟩
  | 1 => ⟨S8x2048x2048, .f32⟩
  | 2 => ⟨S8x2048x2048, .f32⟩
  | 3 => ⟨S8x2048, .i1⟩
  | 4 => ⟨S8x2048, .i1⟩
  | 5 => ⟨S2048, .f32⟩
  | 6 => ⟨S2048, .f32⟩
  | 7 => ⟨S2048, .f32⟩
  | 8 => ⟨S6144x2048, .f32⟩
  | 9 => ⟨S6144, .f32⟩
  | 10 => ⟨S2048x2048, .f32⟩
  | 11 => ⟨S2048, .f32⟩
  | 12 => ⟨S1x1x2048, .f32⟩
  | 13 => ⟨S1x4096, .f32⟩
  | 14 => ⟨S1, .f32⟩
  | 15 => ⟨S8192x2048, .f32⟩
  | 16 => ⟨S8192, .f32⟩
  | 17 => ⟨S2048x4096, .f32⟩
  | 18 => ⟨S2048, .f32⟩
  | 19 => ⟨S8x2048, .f32⟩
  | 20 => ⟨S_, .f32⟩
  | 21 => ⟨S8, .f32⟩
  | 22 => ⟨S8x1, .f32⟩
  | 23 => ⟨S_, .f32⟩
  | 24 => ⟨S8x1, .f32⟩
  | 25 => ⟨S8x1, .f32⟩
  | 26 => ⟨S_, .f32⟩
  | 27 => ⟨S8x1, .f32⟩
  | 28 => ⟨S8x1, .f32⟩
  | 29 => ⟨S8x1, .f32⟩
  | 30 => ⟨S8x2048, .f32⟩
  | 31 => ⟨S8x2048, .f32⟩
  | 32 => ⟨S1x2048, .f32⟩
  | 33 => ⟨S8x2048, .f32⟩
  | 34 => ⟨S8x2048, .f32⟩
  | 35 => ⟨S8x1x2048, .f32⟩
  | 36 => ⟨S8x1x2048, .f32⟩
  | 37 => ⟨S_, .i1⟩
  | 38 => ⟨S8x1, .i1⟩
  | 39 => ⟨S8x512x2048, .f32⟩
  | 40 => ⟨S8x512, .i1⟩
  | 41 => ⟨S8x128x16x2048, .f32⟩
  | 42 => ⟨S8x128x16, .i1⟩
  | 43 => ⟨S8x128x16, .i1⟩
  | 44 => ⟨S8x128x16, .f32⟩
  | 45 => ⟨S8x128x16x1, .f32⟩
  | 46 => ⟨S8x128x16x2048, .f32⟩
  | 47 => ⟨S8x128x16x2048, .f32⟩
  | 48 => ⟨S_, .f32⟩
  | 49 => ⟨S8x128x2048, .f32⟩
  | 50 => ⟨S_, .f32⟩
  | 51 => ⟨S8x128x1, .f32⟩
  | 52 => ⟨S_, .f32⟩
  | 53 => ⟨S8x128x1, .f32⟩
  | 54 => ⟨S8x128x1, .f32⟩
  | 55 => ⟨S8x128x2048, .f32⟩
  | 56 => ⟨S8x128x2048, .f32⟩
  | 57 => ⟨S_, .i1⟩
  | 58 => ⟨S8x128, .i1⟩
  | 59 => ⟨S8x128x2048, .f32⟩
  | 60 => ⟨S_, .f32⟩
  | 61 => ⟨S8x128, .f32⟩
  | 62 => ⟨S8x128x1, .f32⟩
  | 63 => ⟨S_, .f32⟩
  | 64 => ⟨S8x128x1, .f32⟩
  | 65 => ⟨S8x128x1, .f32⟩
  | 66 => ⟨S_, .f32⟩
  | 67 => ⟨S8x128x1, .f32⟩
  | 68 => ⟨S8x128x1, .f32⟩
  | 69 => ⟨S8x128x1, .f32⟩
  | 70 => ⟨S8x128x2048, .f32⟩
  | 71 => ⟨S8x128x2048, .f32⟩
  | 72 => ⟨S1x1x2048, .f32⟩
  | 73 => ⟨S8x128x2048, .f32⟩
  | 74 => ⟨S8x128x2048, .f32⟩
  | 75 => ⟨S8x2048, .f32⟩
  | 76 => ⟨S_, .f32⟩
  | 77 => ⟨S8, .f32⟩
  | 78 => ⟨S8x1, .f32⟩
  | 79 => ⟨S_, .f32⟩
  | 80 => ⟨S8x1, .f32⟩
  | 81 => ⟨S8x1, .f32⟩
  | 82 => ⟨S_, .f32⟩
  | 83 => ⟨S8x1, .f32⟩
  | 84 => ⟨S8x1, .f32⟩
  | 85 => ⟨S8x1, .f32⟩
  | 86 => ⟨S8x2048, .f32⟩
  | 87 => ⟨S8x2048, .f32⟩
  | 88 => ⟨S1x2048, .f32⟩
  | 89 => ⟨S8x2048, .f32⟩
  | 90 => ⟨S8x2048, .f32⟩
  | 91 => ⟨S8x1x2048, .f32⟩
  | 92 => ⟨S8x128x2048, .f32⟩
  | 93 => ⟨S8x128x2048, .f32⟩
  | 94 => ⟨S_, .f32⟩
  | 95 => ⟨S8x128, .f32⟩
  | 96 => ⟨S_, .f32⟩
  | 97 => ⟨S8x128, .f32⟩
  | 98 => ⟨S8x128, .f32⟩
  | 99 => ⟨S8x64, .f32⟩
  | 100 => ⟨S8x64, .i32⟩
  | 101 => ⟨S8x64x1, .i32⟩
  | 102 => ⟨S_, .i32⟩
  | 103 => ⟨S8x64x1, .i32⟩
  | 104 => ⟨S8x64x1, .i1⟩
  | 105 => ⟨S_, .i32⟩
  | 106 => ⟨S8x64x1, .i32⟩
  | 107 => ⟨S8x64x1, .i32⟩
  | 108 => ⟨S8x64x1, .i32⟩
  | 109 => ⟨S1, .i32⟩
  | 110 => ⟨S_, .i32⟩
  | 111 => ⟨S8x64x1, .i32⟩
  | 112 => ⟨S8x64x1, .i1⟩
  | 113 => ⟨S1x1x1, .i32⟩
  | 114 => ⟨S8x64x1, .i32⟩
  | 115 => ⟨S8x64x1, .i1⟩
  | 116 => ⟨S8x64x1, .i1⟩
  | 117 => ⟨S_, .i1⟩
  | 118 => ⟨S8x64, .i1⟩
  | 119 => ⟨S8x64x2048, .f32⟩
  | 120 => ⟨S8x64x2048, .i1⟩
  | 121 => ⟨S_, .f32⟩
  | 122 => ⟨S8x64x2048, .f32⟩
  | 123 => ⟨S8x64x2048, .f32⟩
  | 124 => ⟨S_, .i32⟩
  | 125 => ⟨S8x64, .i32⟩
  | 126 => ⟨S8x64, .i1⟩
  | 127 => ⟨S_, .i32⟩
  | _ => ⟨S8x2048, .f32⟩

abbrev hbmTy0_1 (i : Nat) : BufTy := match i % 128 with
  | 0 => ⟨S8x64, .i32⟩
  | 1 => ⟨S8x64, .i32⟩
  | 2 => ⟨S8x64, .i32⟩
  | 3 => ⟨S8x64x1, .i32⟩
  | 4 => ⟨S1, .i32⟩
  | 5 => ⟨S_, .i32⟩
  | 6 => ⟨S8x64x1, .i32⟩
  | 7 => ⟨S8x64x1, .i1⟩
  | 8 => ⟨S1x1x1, .i32⟩
  | 9 => ⟨S8x64x1, .i32⟩
  | 10 => ⟨S8x64x1, .i1⟩
  | 11 => ⟨S8x64x1, .i1⟩
  | 12 => ⟨S_, .i1⟩
  | 13 => ⟨S8x64, .i1⟩
  | 14 => ⟨S8x64, .i1⟩
  | 15 => ⟨S_, .i1⟩
  | 16 => ⟨S8x64, .i1⟩
  | 17 => ⟨S8x64, .i1⟩
  | 18 => ⟨S8x2048, .i1⟩
  | 19 => ⟨S8x2048, .f32⟩
  | 20 => ⟨S8x2048x1, .f32⟩
  | 21 => ⟨S8x2048x2048, .f32⟩
  | 22 => ⟨S8x2048x2048, .f32⟩
  | 23 => ⟨S_, .f32⟩
  | 24 => ⟨S8x2048, .f32⟩
  | 25 => ⟨S_, .f32⟩
  | 26 => ⟨S8x1, .f32⟩
  | 27 => ⟨S_, .f32⟩
  | 28 => ⟨S8x1, .f32⟩
  | 29 => ⟨S8x1, .f32⟩
  | 30 => ⟨S8x2048, .f32⟩
  | 31 => ⟨S8x2048, .f32⟩
  | 32 => ⟨S8x1x2048, .f32⟩
  | 33 => ⟨S_, .i1⟩
  | 34 => ⟨S8, .i1⟩
  | 35 => ⟨S8x1, .i1⟩
  | 36 => ⟨S8x578x2048, .f32⟩
  | 37 => ⟨S8x578, .i1⟩
  | 38 => ⟨S8x578x2048, .f32⟩
  | 39 => ⟨S_, .f32⟩
  | 40 => ⟨S8x578, .f32⟩
  | 41 => ⟨S8x578x1, .f32⟩
  | 42 => ⟨S_, .f32⟩
  | 43 => ⟨S8x578x1, .f32⟩
  | 44 => ⟨S8x578x1, .f32⟩
  | 45 => ⟨S_, .f32⟩
  | 46 => ⟨S8x578x1, .f32⟩
  | 47 => ⟨S8x578x1, .f32⟩
  | 48 => ⟨S8x578x1, .f32⟩
  | 49 => ⟨S8x578x2048, .f32⟩
  | 50 => ⟨S8x578x2048, .f32⟩
  | 51 => ⟨S1x1x2048, .f32⟩
  | 52 => ⟨S8x578x2048, .f32⟩
  | 53 => ⟨S8x578x2048, .f32⟩
  | 54 => ⟨S_, .i1⟩
  | 55 => ⟨S8, .i1⟩
  | 56 => ⟨S8x1, .i1⟩
  | 57 => ⟨S_, .i1⟩
  | 58 => ⟨S8x578, .i1⟩
  | 59 => ⟨S8x578, .i1⟩
  | 60 => ⟨S8x578, .i1⟩
  | 61 => ⟨S2048x2048, .f32⟩
  | 62 => ⟨S2048x2048, .f32⟩
  | 63 => ⟨S2048x2048, .f32⟩
  | 64 => ⟨S2048, .f32⟩
  | 65 => ⟨S2048, .f32⟩
  | 66 => ⟨S2048, .f32⟩
  | 67 => ⟨S2048x2048, .f32⟩
  | 68 => ⟨S8x1x2048, .f32⟩
  | 69 => ⟨S1x1x2048, .f32⟩
  | 70 => ⟨S8x1x2048, .f32⟩
  | 71 => ⟨S8x1x2048, .f32⟩
  | 72 => ⟨S8x1x16x128, .f32⟩
  | 73 => ⟨S8x16x1x128, .f32⟩
  | 74 => ⟨S2048x2048, .f32⟩
  | 75 => ⟨S8x578x2048, .f32⟩
  | 76 => ⟨S1x1x2048, .f32⟩
  | 77 => ⟨S8x578x2048, .f32⟩
  | 78 => ⟨S8x578x2048, .f32⟩
  | 79 => ⟨S8x578x16x128, .f32⟩
  | 80 => ⟨S8x16x578x128, .f32⟩
  | 81 => ⟨S2048x2048, .f32⟩
  | 82 => ⟨S8x578x2048, .f32⟩
  | 83 => ⟨S1x1x2048, .f32⟩
  | 84 => ⟨S8x578x2048, .f32⟩
  | 85 => ⟨S8x578x2048, .f32⟩
  | 86 => ⟨S8x578x16x128, .f32⟩
  | 87 => ⟨S8x16x578x128, .f32⟩
  | 88 => ⟨S8x16x1x578, .f32⟩
  | 89 => ⟨S_, .f32⟩
  | 90 => ⟨S_, .f32⟩
  | 91 => ⟨S8x16x1x578, .f32⟩
  | 92 => ⟨S8x16x1x578, .f32⟩
  | 93 => ⟨S8x1x1x578, .i1⟩
  | 94 => ⟨S_, .f32⟩
  | 95 => ⟨S8x16x1x578, .i1⟩
  | 96 => ⟨S8x16x1x578, .f32⟩
  | 97 => ⟨S8x16x1x578, .f32⟩
  | 98 => ⟨S_, .f32⟩
  | 99 => ⟨S8x16x1, .f32⟩
  | 100 => ⟨S_, .f32⟩
  | 101 => ⟨S8x16x1, .f32⟩
  | 102 => ⟨S8x16x1, .f32⟩
  | 103 => ⟨S8x16x1x1, .f32⟩
  | 104 => ⟨S8x16x1x578, .f32⟩
  | 105 => ⟨S8x16x1x578, .f32⟩
  | 106 => ⟨S8x16x1x578, .f32⟩
  | 107 => ⟨S_, .f32⟩
  | 108 => ⟨S8x16x1, .f32⟩
  | 109 => ⟨S8x16x1x1, .f32⟩
  | 110 => ⟨S8x16x1x578, .f32⟩
  | 111 => ⟨S8x16x1x578, .f32⟩
  | 112 => ⟨S8x16x1x128, .f32⟩
  | 113 => ⟨S8x1x16x128, .f32⟩
  | 114 => ⟨S8x1x2048, .f32⟩
  | 115 => ⟨S2048x2048, .f32⟩
  | 116 => ⟨S8x1x2048, .f32⟩
  | 117 => ⟨S1x1x2048, .f32⟩
  | 118 => ⟨S8x1x2048, .f32⟩
  | 119 => ⟨S8x1x2048, .f32⟩
  | 120 => ⟨S8x2048, .f32⟩
  | 121 => ⟨S8x2048, .i1⟩
  | 122 => ⟨S_, .i1⟩
  | 123 => ⟨S8, .i1⟩
  | 124 => ⟨S8, .f32⟩
  | 125 => ⟨S8x1, .f32⟩
  | 126 => ⟨S8x2048, .f32⟩
  | 127 => ⟨S_, .f32⟩
  | _ => ⟨S8x2048, .f32⟩

abbrev hbmTy0_2 (i : Nat) : BufTy := match i % 128 with
  | 0 => ⟨S8, .f32⟩
  | 1 => ⟨S8x1, .f32⟩
  | 2 => ⟨S_, .f32⟩
  | 3 => ⟨S8x1, .f32⟩
  | 4 => ⟨S8x1, .f32⟩
  | 5 => ⟨S_, .f32⟩
  | 6 => ⟨S8x1, .f32⟩
  | 7 => ⟨S8x1, .f32⟩
  | 8 => ⟨S8x1, .f32⟩
  | 9 => ⟨S8x2048, .f32⟩
  | 10 => ⟨S8x2048, .f32⟩
  | 11 => ⟨S1x2048, .f32⟩
  | 12 => ⟨S8x2048, .f32⟩
  | 13 => ⟨S8x2048, .f32⟩
  | 14 => ⟨S2048x8192, .f32⟩
  | 15 => ⟨S8x8192, .f32⟩
  | 16 => ⟨S1x8192, .f32⟩
  | 17 => ⟨S8x8192, .f32⟩
  | 18 => ⟨S8x8192, .f32⟩
  | 19 => ⟨S8x4096, .f32⟩
  | 20 => ⟨S8x4096, .f32⟩
  | 21 => ⟨S8x4096, .f32⟩
  | 22 => ⟨S8x4096, .f32⟩
  | 23 => ⟨S_, .f32⟩
  | 24 => ⟨S8x4096, .f32⟩
  | 25 => ⟨S8x4096, .f32⟩
  | 26 => ⟨S_, .f32⟩
  | 27 => ⟨S8x4096, .f32⟩
  | 28 => ⟨S8x4096, .f32⟩
  | 29 => ⟨S8x4096, .f32⟩
  | 30 => ⟨S8x4096, .f32⟩
  | 31 => ⟨S4096x2048, .f32⟩
  | 32 => ⟨S8x2048, .f32⟩
  | 33 => ⟨S1x2048, .f32⟩
  | 34 => ⟨S8x2048, .f32⟩
  | 35 => ⟨S8x2048, .f32⟩
  | 36 => ⟨S8x2048, .f32⟩
  | 37 => ⟨S8x2048, .f32⟩
  | 38 => ⟨S8x2048, .f32⟩
  | 39 => ⟨S8x4096, .f32⟩
  | 40 => ⟨S4096x1, .f32⟩
  | 41 => ⟨S8x1, .f32⟩
  | 42 => ⟨S1x1, .f32⟩
  | 43 => ⟨S8x1, .f32⟩
  | 44 => ⟨S8x1, .f32⟩
  | 45 => ⟨S_, .f32⟩
  | 46 => ⟨S8x1, .f32⟩
  | 47 => ⟨S8x1, .i1⟩
  | 48 => ⟨S_, .f32⟩
  | 49 => ⟨S8x1, .f32⟩
  | 50 => ⟨S8x1, .f32⟩
  | 51 => ⟨S8x1x2048, .f32⟩
  | 52 => ⟨S_, .i1⟩
  | 53 => ⟨S8x1, .i1⟩
  | 54 => ⟨S8x512x2048, .f32⟩
  | 55 => ⟨S8x512, .i1⟩
  | 56 => ⟨S8x128x16x2048, .f32⟩
  | 57 => ⟨S8x128x16, .i1⟩
  | 58 => ⟨S8x128x16, .i1⟩
  | 59 => ⟨S8x128x16, .f32⟩
  | 60 => ⟨S8x128x16x1, .f32⟩
  | 61 => ⟨S8x128x16x2048, .f32⟩
  | 62 => ⟨S8x128x16x2048, .f32⟩
  | 63 => ⟨S_, .f32⟩
  | 64 => ⟨S8x128x2048, .f32⟩
  | 65 => ⟨S_, .f32⟩
  | 66 => ⟨S8x128x1, .f32⟩
  | 67 => ⟨S_, .f32⟩
  | 68 => ⟨S8x128x1, .f32⟩
  | 69 => ⟨S8x128x1, .f32⟩
  | 70 => ⟨S8x128x2048, .f32⟩
  | 71 => ⟨S8x128x2048, .f32⟩
  | 72 => ⟨S_, .i1⟩
  | 73 => ⟨S8x128, .i1⟩
  | 74 => ⟨S8x128x2048, .f32⟩
  | 75 => ⟨S_, .f32⟩
  | 76 => ⟨S8x128, .f32⟩
  | 77 => ⟨S8x128x1, .f32⟩
  | 78 => ⟨S_, .f32⟩
  | 79 => ⟨S8x128x1, .f32⟩
  | 80 => ⟨S8x128x1, .f32⟩
  | 81 => ⟨S_, .f32⟩
  | 82 => ⟨S8x128x1, .f32⟩
  | 83 => ⟨S8x128x1, .f32⟩
  | 84 => ⟨S8x128x1, .f32⟩
  | 85 => ⟨S8x128x2048, .f32⟩
  | 86 => ⟨S8x128x2048, .f32⟩
  | 87 => ⟨S1x1x2048, .f32⟩
  | 88 => ⟨S8x128x2048, .f32⟩
  | 89 => ⟨S8x128x2048, .f32⟩
  | 90 => ⟨S8x2048, .f32⟩
  | 91 => ⟨S_, .f32⟩
  | 92 => ⟨S8, .f32⟩
  | 93 => ⟨S8x1, .f32⟩
  | 94 => ⟨S_, .f32⟩
  | 95 => ⟨S8x1, .f32⟩
  | 96 => ⟨S8x1, .f32⟩
  | 97 => ⟨S_, .f32⟩
  | 98 => ⟨S8x1, .f32⟩
  | 99 => ⟨S8x1, .f32⟩
  | 100 => ⟨S8x1, .f32⟩
  | 101 => ⟨S8x2048, .f32⟩
  | 102 => ⟨S8x2048, .f32⟩
  | 103 => ⟨S1x2048, .f32⟩
  | 104 => ⟨S8x2048, .f32⟩
  | 105 => ⟨S8x2048, .f32⟩
  | 106 => ⟨S8x1x2048, .f32⟩
  | 107 => ⟨S8x128x2048, .f32⟩
  | 108 => ⟨S8x128x2048, .f32⟩
  | 109 => ⟨S_, .f32⟩
  | 110 => ⟨S8x128, .f32⟩
  | 111 => ⟨S_, .f32⟩
  | 112 => ⟨S8x128, .f32⟩
  | 113 => ⟨S8x128, .f32⟩
  | 114 => ⟨S8x64, .f32⟩
  | 115 => ⟨S8x64, .i32⟩
  | 116 => ⟨S8x64x1, .i32⟩
  | 117 => ⟨S_, .i32⟩
  | 118 => ⟨S8x64x1, .i32⟩
  | 119 => ⟨S8x64x1, .i1⟩
  | 120 => ⟨S_, .i32⟩
  | 121 => ⟨S8x64x1, .i32⟩
  | 122 => ⟨S8x64x1, .i32⟩
  | 123 => ⟨S8x64x1, .i32⟩
  | 124 => ⟨S1, .i32⟩
  | 125 => ⟨S_, .i32⟩
  | 126 => ⟨S8x64x1, .i32⟩
  | 127 => ⟨S8x64x1, .i1⟩
  | _ => ⟨S8x2048, .f32⟩

abbrev hbmTy0_3 (i : Nat) : BufTy := match i % 128 with
  | 0 => ⟨S1x1x1, .i32⟩
  | 1 => ⟨S8x64x1, .i32⟩
  | 2 => ⟨S8x64x1, .i1⟩
  | 3 => ⟨S8x64x1, .i1⟩
  | 4 => ⟨S_, .i1⟩
  | 5 => ⟨S8x64, .i1⟩
  | 6 => ⟨S8x64x2048, .f32⟩
  | 7 => ⟨S8x64x2048, .i1⟩
  | 8 => ⟨S_, .f32⟩
  | 9 => ⟨S8x64x2048, .f32⟩
  | 10 => ⟨S8x64x2048, .f32⟩
  | 11 => ⟨S_, .i32⟩
  | 12 => ⟨S8x64, .i32⟩
  | 13 => ⟨S8x64, .i1⟩
  | 14 => ⟨S_, .i32⟩
  | 15 => ⟨S8x64, .i32⟩
  | 16 => ⟨S8x64, .i32⟩
  | 17 => ⟨S8x64, .i32⟩
  | 18 => ⟨S8x64x1, .i32⟩
  | 19 => ⟨S1, .i32⟩
  | 20 => ⟨S_, .i32⟩
  | 21 => ⟨S8x64x1, .i32⟩
  | 22 => ⟨S8x64x1, .i1⟩
  | 23 => ⟨S1x1x1, .i32⟩
  | 24 => ⟨S8x64x1, .i32⟩
  | 25 => ⟨S8x64x1, .i1⟩
  | 26 => ⟨S8x64x1, .i1⟩
  | 27 => ⟨S_, .i1⟩
  | 28 => ⟨S8x64, .i1⟩
  | 29 => ⟨S8x64, .i1⟩
  | 30 => ⟨S_, .i1⟩
  | 31 => ⟨S8x64, .i1⟩
  | 32 => ⟨S8x64, .i1⟩
  | 33 => ⟨S8x2048, .i1⟩
  | 34 => ⟨S8x2048, .f32⟩
  | 35 => ⟨S8x2048x1, .f32⟩
  | 36 => ⟨S8x2048x2048, .f32⟩
  | 37 => ⟨S8x2048x2048, .f32⟩
  | 38 => ⟨S_, .f32⟩
  | 39 => ⟨S8x2048, .f32⟩
  | 40 => ⟨S_, .f32⟩
  | 41 => ⟨S8x1, .f32⟩
  | 42 => ⟨S_, .f32⟩
  | 43 => ⟨S8x1, .f32⟩
  | 44 => ⟨S8x1, .f32⟩
  | 45 => ⟨S8x2048, .f32⟩
  | 46 => ⟨S8x2048, .f32⟩
  | 47 => ⟨S8x1x2048, .f32⟩
  | 48 => ⟨S_, .i1⟩
  | 49 => ⟨S8, .i1⟩
  | 50 => ⟨S8x1, .i1⟩
  | 51 => ⟨S8x578x2048, .f32⟩
  | 52 => ⟨S8x578, .i1⟩
  | 53 => ⟨S8x578x2048, .f32⟩
  | 54 => ⟨S_, .f32⟩
  | 55 => ⟨S8x578, .f32⟩
  | 56 => ⟨S8x578x1, .f32⟩
  | 57 => ⟨S_, .f32⟩
  | 58 => ⟨S8x578x1, .f32⟩
  | 59 => ⟨S8x578x1, .f32⟩
  | 60 => ⟨S_, .f32⟩
  | 61 => ⟨S8x578x1, .f32⟩
  | 62 => ⟨S8x578x1, .f32⟩
  | 63 => ⟨S8x578x1, .f32⟩
  | 64 => ⟨S8x578x2048, .f32⟩
  | 65 => ⟨S8x578x2048, .f32⟩
  | 66 => ⟨S1x1x2048, .f32⟩
  | 67 => ⟨S8x578x2048, .f32⟩
  | 68 => ⟨S8x578x2048, .f32⟩
  | 69 => ⟨S_, .i1⟩
  | 70 => ⟨S8, .i1⟩
  | 71 => ⟨S8x1, .i1⟩
  | 72 => ⟨S_, .i1⟩
  | 73 => ⟨S8x578, .i1⟩
  | 74 => ⟨S8x578, .i1⟩
  | 75 => ⟨S8x578, .i1⟩
  | 76 => ⟨S2048x2048, .f32⟩
  | 77 => ⟨S2048x2048, .f32⟩
  | 78 => ⟨S2048x2048, .f32⟩
  | 79 => ⟨S2048, .f32⟩
  | 80 => ⟨S2048, .f32⟩
  | 81 => ⟨S2048, .f32⟩
  | 82 => ⟨S2048x2048, .f32⟩
  | 83 => ⟨S8x1x2048, .f32⟩
  | 84 => ⟨S1x1x2048, .f32⟩
  | 85 => ⟨S8x1x2048, .f32⟩
  | 86 => ⟨S8x1x2048, .f32⟩
  | 87 => ⟨S8x1x16x128, .f32⟩
  | 88 => ⟨S8x16x1x128, .f32⟩
  | 89 => ⟨S2048x2048, .f32⟩
  | 90 => ⟨S8x578x2048, .f32⟩
  | 91 => ⟨S1x1x2048, .f32⟩
  | 92 => ⟨S8x578x2048, .f32⟩
  | 93 => ⟨S8x578x2048, .f32⟩
  | 94 => ⟨S8x578x16x128, .f32⟩
  | 95 => ⟨S8x16x578x128, .f32⟩
  | 96 => ⟨S2048x2048, .f32⟩
  | 97 => ⟨S8x578x2048, .f32⟩
  | 98 => ⟨S1x1x2048, .f32⟩
  | 99 => ⟨S8x578x2048, .f32⟩
  | 100 => ⟨S8x578x2048, .f32⟩
  | 101 => ⟨S8x578x16x128, .f32⟩
  | 102 => ⟨S8x16x578x128, .f32⟩
  | 103 => ⟨S8x16x1x578, .f32⟩
  | 104 => ⟨S_, .f32⟩
  | 105 => ⟨S_, .f32⟩
  | 106 => ⟨S8x16x1x578, .f32⟩
  | 107 => ⟨S8x16x1x578, .f32⟩
  | 108 => ⟨S8x1x1x578, .i1⟩
  | 109 => ⟨S_, .f32⟩
  | 110 => ⟨S8x16x1x578, .i1⟩
  | 111 => ⟨S8x16x1x578, .f32⟩
  | 112 => ⟨S8x16x1x578, .f32⟩
  | 113 => ⟨S_, .f32⟩
  | 114 => ⟨S8x16x1, .f32⟩
  | 115 => ⟨S_, .f32⟩
  | 116 => ⟨S8x16x1, .f32⟩
  | 117 => ⟨S8x16x1, .f32⟩
  | 118 => ⟨S8x16x1x1, .f32⟩
  | 119 => ⟨S8x16x1x578, .f32⟩
  | 120 => ⟨S8x16x1x578, .f32⟩
  | 121 => ⟨S8x16x1x578, .f32⟩
  | 122 => ⟨S_, .f32⟩
  | 123 => ⟨S8x16x1, .f32⟩
  | 124 => ⟨S8x16x1x1, .f32⟩
  | 125 => ⟨S8x16x1x578, .f32⟩
  | 126 => ⟨S8x16x1x578, .f32⟩
  | 127 => ⟨S8x16x1x128, .f32⟩
  | _ => ⟨S8x2048, .f32⟩

abbrev hbmTy0_4 (i : Nat) : BufTy := match i % 128 with
  | 0 => ⟨S8x1x16x128, .f32⟩
  | 1 => ⟨S8x1x2048, .f32⟩
  | 2 => ⟨S2048x2048, .f32⟩
  | 3 => ⟨S8x1x2048, .f32⟩
  | 4 => ⟨S1x1x2048, .f32⟩
  | 5 => ⟨S8x1x2048, .f32⟩
  | 6 => ⟨S8x1x2048, .f32⟩
  | 7 => ⟨S8x2048, .f32⟩
  | 8 => ⟨S8x2048, .i1⟩
  | 9 => ⟨S_, .i1⟩
  | 10 => ⟨S8, .i1⟩
  | 11 => ⟨S8, .f32⟩
  | 12 => ⟨S8x1, .f32⟩
  | 13 => ⟨S8x2048, .f32⟩
  | 14 => ⟨S_, .f32⟩
  | 15 => ⟨S8, .f32⟩
  | 16 => ⟨S8x1, .f32⟩
  | 17 => ⟨S_, .f32⟩
  | 18 => ⟨S8x1, .f32⟩
  | 19 => ⟨S8x1, .f32⟩
  | 20 => ⟨S_, .f32⟩
  | 21 => ⟨S8x1, .f32⟩
  | 22 => ⟨S8x1, .f32⟩
  | 23 => ⟨S8x1, .f32⟩
  | 24 => ⟨S8x2048, .f32⟩
  | 25 => ⟨S8x2048, .f32⟩
  | 26 => ⟨S1x2048, .f32⟩
  | 27 => ⟨S8x2048, .f32⟩
  | 28 => ⟨S8x2048, .f32⟩
  | 29 => ⟨S2048x8192, .f32⟩
  | 30 => ⟨S8x8192, .f32⟩
  | 31 => ⟨S1x8192, .f32⟩
  | 32 => ⟨S8x8192, .f32⟩
  | 33 => ⟨S8x8192, .f32⟩
  | 34 => ⟨S8x4096, .f32⟩
  | 35 => ⟨S8x4096, .f32⟩
  | 36 => ⟨S8x4096, .f32⟩
  | 37 => ⟨S8x4096, .f32⟩
  | 38 => ⟨S_, .f32⟩
  | 39 => ⟨S8x4096, .f32⟩
  | 40 => ⟨S8x4096, .f32⟩
  | 41 => ⟨S_, .f32⟩
  | 42 => ⟨S8x4096, .f32⟩
  | 43 => ⟨S8x4096, .f32⟩
  | 44 => ⟨S8x4096, .f32⟩
  | 45 => ⟨S8x4096, .f32⟩
  | 46 => ⟨S4096x2048, .f32⟩
  | 47 => ⟨S8x2048, .f32⟩
  | 48 => ⟨S1x2048, .f32⟩
  | 49 => ⟨S8x2048, .f32⟩
  | 50 => ⟨S8x2048, .f32⟩
  | 51 => ⟨S8x2048, .f32⟩
  | 52 => ⟨S8x2048, .f32⟩
  | 53 => ⟨S8x2048, .f32⟩
  | 54 => ⟨S8x4096, .f32⟩
  | 55 => ⟨S4096x1, .f32⟩
  | 56 => ⟨S8x1, .f32⟩
  | 57 => ⟨S1x1, .f32⟩
  | 58 => ⟨S8x1, .f32⟩
  | 59 => ⟨S8x1, .f32⟩
  | 60 => ⟨S_, .f32⟩
  | 61 => ⟨S8x1, .f32⟩
  | 62 => ⟨S8x1, .i1⟩
  | 63 => ⟨S_, .f32⟩
  | 64 => ⟨S8x1, .f32⟩
  | 65 => ⟨S8x1, .f32⟩
  | 66 => ⟨S8x1x1, .f32⟩
  | 67 => ⟨S8x1x1, .f32⟩
  | 68 => ⟨S8x2x1, .f32⟩
  | 69 => ⟨S_, .f32⟩
  | 70 => ⟨S8x1, .f32⟩
  | 71 => ⟨S_, .f32⟩
  | 72 => ⟨S8x1, .f32⟩
  | 73 => ⟨S8x1, .f32⟩
  | 74 => ⟨S8x1x1, .f32⟩
  | 75 => ⟨S8x2x1, .f32⟩
  | 76 => ⟨S8x2x1, .f32⟩
  | 77 => ⟨S8x2x1, .f32⟩
  | 78 => ⟨S_, .f32⟩
  | 79 => ⟨S8x1, .f32⟩
  | 80 => ⟨S8x1x1, .f32⟩
  | 81 => ⟨S8x2x1, .f32⟩
  | 82 => ⟨S8x2x1, .f32⟩
  | 83 => ⟨S8x1x2048, .f32⟩
  | 84 => ⟨S8x1x2048, .f32⟩
  | 85 => ⟨S8x2x2048, .f32⟩
  | 86 => ⟨S8x2x2048, .f32⟩
  | 87 => ⟨S8x2x2048, .f32⟩
  | 88 => ⟨S_, .f32⟩
  | 89 => ⟨S8x2048, .f32⟩
  | _ => ⟨S8x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x2048, .f32⟩

abbrev bufTy : (tb : Table) → Fin (tcTables nBuf tb) → BufTy
  | .hbm, ⟨i, _⟩ => hbmTy i
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_cst : Ref sig .tc := ⟨.hbm, 20, rfl⟩
abbrev main_v1 : Ref sig .tc := ⟨.hbm, 21, rfl⟩
abbrev main_v2 : Ref sig .tc := ⟨.hbm, 22, rfl⟩
abbrev main_cst_0 : Ref sig .tc := ⟨.hbm, 23, rfl⟩
abbrev main_v3 : Ref sig .tc := ⟨.hbm, 24, rfl⟩
abbrev main_v4 : Ref sig .tc := ⟨.hbm, 25, rfl⟩
abbrev main_cst_1 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_2 : Ref sig .tc := ⟨.hbm, 48, rfl⟩
abbrev main_v25 : Ref sig .tc := ⟨.hbm, 49, rfl⟩
abbrev main_cst_3 : Ref sig .tc := ⟨.hbm, 50, rfl⟩
abbrev main_v26 : Ref sig .tc := ⟨.hbm, 51, rfl⟩
abbrev main_cst_4 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_5 : Ref sig .tc := ⟨.hbm, 57, rfl⟩
abbrev main_v31 : Ref sig .tc := ⟨.hbm, 58, rfl⟩
abbrev main_v32 : Ref sig .tc := ⟨.hbm, 59, rfl⟩
abbrev main_cst_6 : Ref sig .tc := ⟨.hbm, 60, rfl⟩
abbrev main_v33 : Ref sig .tc := ⟨.hbm, 61, rfl⟩
abbrev main_v34 : Ref sig .tc := ⟨.hbm, 62, rfl⟩
abbrev main_cst_7 : Ref sig .tc := ⟨.hbm, 63, rfl⟩
abbrev main_v35 : Ref sig .tc := ⟨.hbm, 64, rfl⟩
abbrev main_v36 : Ref sig .tc := ⟨.hbm, 65, rfl⟩
abbrev main_cst_8 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_9 : Ref sig .tc := ⟨.hbm, 76, rfl⟩
abbrev main_v46 : Ref sig .tc := ⟨.hbm, 77, rfl⟩
abbrev main_v47 : Ref sig .tc := ⟨.hbm, 78, rfl⟩
abbrev main_cst_10 : Ref sig .tc := ⟨.hbm, 79, rfl⟩
abbrev main_v48 : Ref sig .tc := ⟨.hbm, 80, rfl⟩
abbrev main_v49 : Ref sig .tc := ⟨.hbm, 81, rfl⟩
abbrev main_cst_11 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_12 : Ref sig .tc := ⟨.hbm, 94, rfl⟩
abbrev main_v61 : Ref sig .tc := ⟨.hbm, 95, rfl⟩
abbrev main_cst_13 : Ref sig .tc := ⟨.hbm, 96, rfl⟩
abbrev main_call0_v0 : Ref sig .tc := ⟨.hbm, 97, rfl⟩
abbrev main_v62 : Ref sig .tc := ⟨.hbm, 98, rfl⟩
abbrev main_values : Ref sig .tc := ⟨.hbm, 99, rfl⟩
abbrev main_indices : Ref sig .tc := ⟨.hbm, 100, rfl⟩
abbrev main_v63 : Ref sig .tc := ⟨.hbm, 101, rfl⟩
abbrev main_call1_c : Ref sig .tc := ⟨.hbm, 102, rfl⟩
abbrev main_call1_v0 : Ref sig .tc := ⟨.hbm, 103, rfl⟩
abbrev main_call1_v1 : Ref sig .tc := ⟨.hbm, 104, rfl⟩
abbrev main_call1_c_0 : Ref sig .tc := ⟨.hbm, 105, rfl⟩
abbrev main_call1_v2 : Ref sig .tc := ⟨.hbm, 106, rfl⟩
abbrev main_call1_v3 : Ref sig .tc := ⟨.hbm, 107, rfl⟩
abbrev main_call1_v4 : Ref sig .tc := ⟨.hbm, 108, rfl⟩
abbrev main_call1_c_1 : Ref sig .tc := ⟨.hbm, 109, rfl⟩
abbrev main_call1_c_2 : Ref sig .tc := ⟨.hbm, 110, rfl⟩
abbrev main_call1_v5 : Ref sig .tc := ⟨.hbm, 111, rfl⟩
abbrev main_call1_v6 : Ref sig .tc := ⟨.hbm, 112, rfl⟩
abbrev main_call1_v7 : Ref sig .tc := ⟨.hbm, 113, rfl⟩
abbrev main_call1_v8 : Ref sig .tc := ⟨.hbm, 114, rfl⟩
abbrev main_call1_v9 : Ref sig .tc := ⟨.hbm, 115, rfl⟩
abbrev main_call1_v10 : Ref sig .tc := ⟨.hbm, 116, rfl⟩
abbrev main_call1_c_3 : Ref sig .tc := ⟨.hbm, 117, rfl⟩
abbrev main_call1_v11 : Ref sig .tc := ⟨.hbm, 118, rfl⟩
abbrev main_call1_v12 : Ref sig .tc := ⟨.hbm, 119, rfl⟩
abbrev main_call1_v13 : Ref sig .tc := ⟨.hbm, 120, rfl⟩
abbrev main_call1_cst : Ref sig .tc := ⟨.hbm, 121, rfl⟩
abbrev main_call1_v14 : Ref sig .tc := ⟨.hbm, 122, rfl⟩
abbrev main_v64 : Ref sig .tc := ⟨.hbm, 123, rfl⟩
abbrev main_call2_c : Ref sig .tc := ⟨.hbm, 124, rfl⟩
abbrev main_call2_v0 : Ref sig .tc := ⟨.hbm, 125, rfl⟩
abbrev main_call2_v1 : Ref sig .tc := ⟨.hbm, 126, rfl⟩
abbrev main_call2_c_0 : Ref sig .tc := ⟨.hbm, 127, rfl⟩
abbrev main_call2_v2 : Ref sig .tc := ⟨.hbm, 128, rfl⟩
abbrev main_call2_v3 : Ref sig .tc := ⟨.hbm, 129, rfl⟩
abbrev main_call2_v4 : Ref sig .tc := ⟨.hbm, 130, rfl⟩
abbrev main_call2_v5 : Ref sig .tc := ⟨.hbm, 131, rfl⟩
abbrev main_call2_c_1 : Ref sig .tc := ⟨.hbm, 132, rfl⟩
abbrev main_call2_c_2 : Ref sig .tc := ⟨.hbm, 133, rfl⟩
abbrev main_call2_v6 : Ref sig .tc := ⟨.hbm, 134, rfl⟩
abbrev main_call2_v7 : Ref sig .tc := ⟨.hbm, 135, rfl⟩
abbrev main_call2_v8 : Ref sig .tc := ⟨.hbm, 136, rfl⟩
abbrev main_call2_v9 : Ref sig .tc := ⟨.hbm, 137, rfl⟩
abbrev main_call2_v10 : Ref sig .tc := ⟨.hbm, 138, rfl⟩
abbrev main_call2_v11 : Ref sig .tc := ⟨.hbm, 139, rfl⟩
abbrev main_call2_c_3 : Ref sig .tc := ⟨.hbm, 140, rfl⟩
abbrev main_call2_v12 : Ref sig .tc := ⟨.hbm, 141, rfl⟩
abbrev main_call2_v13 : Ref sig .tc := ⟨.hbm, 142, rfl⟩
abbrev main_call2_c_4 : Ref sig .tc := ⟨.hbm, 143, rfl⟩
abbrev main_call2_v14 : Ref sig .tc := ⟨.hbm, 144, rfl⟩
abbrev main_v65 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev main_v69 : Ref sig .tc := ⟨.hbm, 149, rfl⟩
abbrev main_v70 : Ref sig .tc := ⟨.hbm, 150, rfl⟩
abbrev main_cst_14 : Ref sig .tc := ⟨.hbm, 151, rfl⟩
abbrev main_v71 : Ref sig .tc := ⟨.hbm, 152, rfl⟩
abbrev main_cst_15 : Ref sig .tc := ⟨.hbm, 153, rfl⟩
abbrev main_v72 : Ref sig .tc := ⟨.hbm, 154, rfl⟩
abbrev main_cst_16 : Ref sig .tc := ⟨.hbm, 155, rfl⟩
abbrev main_v73 : Ref sig .tc := ⟨.hbm, 156, rfl⟩
abbrev main_v74 : Ref sig .tc := ⟨.hbm, 157, rfl⟩
abbrev main_v75 : Ref sig .tc := ⟨.hbm, 158, rfl⟩
abbrev main_v76 : Ref sig .tc := ⟨.hbm, 159, rfl⟩
abbrev main_v77 : Ref sig .tc := ⟨.hbm, 160, rfl⟩
abbrev main_c_17 : Ref sig .tc := ⟨.hbm, 161, rfl⟩
abbrev main_v78 : Ref sig .tc := ⟨.hbm, 162, rfl⟩
abbrev main_v79 : Ref sig .tc := ⟨.hbm, 163, rfl⟩
abbrev main_v80 : Ref sig .tc := ⟨.hbm, 164, rfl⟩
abbrev main_v81 : Ref sig .tc := ⟨.hbm, 165, rfl⟩
abbrev main_v82 : Ref sig .tc := ⟨.hbm, 166, rfl⟩
abbrev main_cst_18 : Ref sig .tc := ⟨.hbm, 167, rfl⟩
abbrev main_v83 : Ref sig .tc := ⟨.hbm, 168, rfl⟩
abbrev main_v84 : Ref sig .tc := ⟨.hbm, 169, rfl⟩
abbrev main_cst_19 : Ref sig .tc := ⟨.hbm, 170, rfl⟩
abbrev main_v85 : Ref sig .tc := ⟨.hbm, 171, rfl⟩
abbrev main_v86 : Ref sig .tc := ⟨.hbm, 172, rfl⟩
abbrev main_cst_20 : Ref sig .tc := ⟨.hbm, 173, rfl⟩
abbrev main_v87 : Ref sig .tc := ⟨.hbm, 174, rfl⟩
abbrev main_v88 : Ref sig .tc := ⟨.hbm, 175, rfl⟩
abbrev main_v89 : Ref sig .tc := ⟨.hbm, 176, rfl⟩
abbrev main_v90 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩
abbrev main_v94 : Ref sig .tc := ⟨.hbm, 181, rfl⟩
abbrev main_c_21 : Ref sig .tc := ⟨.hbm, 182, rfl⟩
abbrev main_v95 : Ref sig .tc := ⟨.hbm, 183, rfl⟩
abbrev main_v96 : Ref sig .tc := ⟨.hbm, 184, rfl⟩
abbrev main_c_22 : Ref sig .tc := ⟨.hbm, 185, rfl⟩
abbrev main_call3_v0 : Ref sig .tc := ⟨.hbm, 186, rfl⟩
abbrev main_call3_v1 : Ref sig .tc := ⟨.hbm, 187, rfl⟩
abbrev main_v97 : Ref sig .tc := ⟨.hbm, 188, rfl⟩
abbrev main_v98 : Ref sig .tc := ⟨.hbm, 189, rfl⟩
abbrev main_v99 : Ref sig .tc := ⟨.hbm, 190, rfl⟩
abbrev main_v100 : Ref sig .tc := ⟨.hbm, 191, rfl⟩
abbrev main_v101 : Ref sig .tc := ⟨.hbm, 192, rfl⟩
abbrev main_v102 : Ref sig .tc := ⟨.hbm, 193, rfl⟩
abbrev main_v103 : Ref sig .tc := ⟨.hbm, 194, rfl⟩
abbrev main_v104 : Ref sig .tc := ⟨.hbm, 195, rfl⟩
abbrev main_v105 : Ref sig .tc := ⟨.hbm, 196, rfl⟩
abbrev main_v106 : Ref sig .tc := ⟨.hbm, 197, rfl⟩
abbrev main_v107 : Ref sig .tc := ⟨.hbm, 198, rfl⟩
abbrev main_v108 : Ref sig .tc := ⟨.hbm, 199, rfl⟩
abbrev main_v109 : Ref sig .tc := ⟨.hbm, 200, rfl⟩
abbrev main_v110 : Ref sig .tc := ⟨.hbm, 201, rfl⟩
abbrev main_v111 : Ref sig .tc := ⟨.hbm, 202, rfl⟩
abbrev main_v112 : Ref sig .tc := ⟨.hbm, 203, rfl⟩
abbrev main_v113 : Ref sig .tc := ⟨.hbm, 204, rfl⟩
abbrev main_v114 : Ref sig .tc := ⟨.hbm, 205, rfl⟩
abbrev main_v115 : Ref sig .tc := ⟨.hbm, 206, rfl⟩
abbrev main_v116 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_v120 : Ref sig .tc := ⟨.hbm, 211, rfl⟩
abbrev main_v121 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_v125 : Ref sig .tc := ⟨.hbm, 216, rfl⟩
abbrev main_cst_23 : Ref sig .tc := ⟨.hbm, 217, rfl⟩
abbrev main_v126 : Ref sig .tc := ⟨.hbm, 218, rfl⟩
abbrev main_v127 : Ref sig .tc := ⟨.hbm, 219, rfl⟩
abbrev main_v128 : Ref sig .tc := ⟨.hbm, 220, rfl⟩
abbrev main_v129 : Ref sig .tc := ⟨.hbm, 221, rfl⟩
abbrev main_cst_24 : Ref sig .tc := ⟨.hbm, 222, rfl⟩
abbrev main_call4_v0 : Ref sig .tc := ⟨.hbm, 223, rfl⟩
abbrev main_call4_v1 : Ref sig .tc := ⟨.hbm, 224, rfl⟩
abbrev main_v130 : Ref sig .tc := ⟨.hbm, 225, rfl⟩
abbrev main_cst_25 : Ref sig .tc := ⟨.hbm, 226, rfl⟩
abbrev main_v131 : Ref sig .tc := ⟨.hbm, 227, rfl⟩
abbrev main_cst_26 : Ref sig .tc := ⟨.hbm, 228, rfl⟩
abbrev main_v132 : Ref sig .tc := ⟨.hbm, 229, rfl⟩
abbrev main_v133 : Ref sig .tc := ⟨.hbm, 230, rfl⟩
abbrev main_v134 : Ref sig .tc := ⟨.hbm, 231, rfl⟩
abbrev main_v135 : Ref sig .tc := ⟨.hbm, 232, rfl⟩
abbrev main_v136 : Ref sig .tc := ⟨.hbm, 233, rfl⟩
abbrev main_v137 : Ref sig .tc := ⟨.hbm, 234, rfl⟩
abbrev main_cst_27 : Ref sig .tc := ⟨.hbm, 235, rfl⟩
abbrev main_v138 : Ref sig .tc := ⟨.hbm, 236, rfl⟩
abbrev main_v139 : Ref sig .tc := ⟨.hbm, 237, rfl⟩
abbrev main_v140 : Ref sig .tc := ⟨.hbm, 238, rfl⟩
abbrev main_v141 : Ref sig .tc := ⟨.hbm, 239, rfl⟩
abbrev main_v142 : Ref sig .tc := ⟨.hbm, 240, rfl⟩
abbrev main_v143 : Ref sig .tc := ⟨.hbm, 241, rfl⟩
abbrev main_v144 : Ref sig .tc := ⟨.hbm, 242, rfl⟩
abbrev main_v145 : Ref sig .tc := ⟨.hbm, 243, rfl⟩
abbrev main_v146 : Ref sig .tc := ⟨.hbm, 244, rfl⟩
abbrev main_v147 : Ref sig .tc := ⟨.hbm, 245, rfl⟩
abbrev main_v148 : Ref sig .tc := ⟨.hbm, 246, rfl⟩
abbrev main_v149 : Ref sig .tc := ⟨.hbm, 247, rfl⟩
abbrev main_v150 : Ref sig .tc := ⟨.hbm, 248, rfl⟩
abbrev main_v151 : Ref sig .tc := ⟨.hbm, 249, rfl⟩
abbrev main_c_28 : Ref sig .tc := ⟨.hbm, 250, rfl⟩
abbrev main_v152 : Ref sig .tc := ⟨.hbm, 251, rfl⟩
abbrev main_v153 : Ref sig .tc := ⟨.hbm, 252, rfl⟩
abbrev main_v154 : Ref sig .tc := ⟨.hbm, 253, rfl⟩
abbrev main_v155 : Ref sig .tc := ⟨.hbm, 254, rfl⟩
abbrev main_cst_29 : Ref sig .tc := ⟨.hbm, 255, rfl⟩
abbrev main_v156 : Ref sig .tc := ⟨.hbm, 256, rfl⟩
abbrev main_v157 : Ref sig .tc := ⟨.hbm, 257, rfl⟩
abbrev main_cst_30 : Ref sig .tc := ⟨.hbm, 258, rfl⟩
abbrev main_v158 : Ref sig .tc := ⟨.hbm, 259, rfl⟩
abbrev main_v159 : Ref sig .tc := ⟨.hbm, 260, rfl⟩
abbrev main_cst_31 : Ref sig .tc := ⟨.hbm, 261, rfl⟩
abbrev main_v160 : Ref sig .tc := ⟨.hbm, 262, rfl⟩
abbrev main_v161 : Ref sig .tc := ⟨.hbm, 263, rfl⟩
abbrev main_v162 : Ref sig .tc := ⟨.hbm, 264, rfl⟩
abbrev main_v163 : Ref sig .tc := ⟨.hbm, 265, rfl⟩
abbrev main_v164 : Ref sig .tc := ⟨.hbm, 266, rfl⟩
abbrev main_v165 : Ref sig .tc := ⟨.hbm, 267, rfl⟩
abbrev main_v166 : Ref sig .tc := ⟨.hbm, 268, rfl⟩
abbrev main_v167 : Ref sig .tc := ⟨.hbm, 269, rfl⟩
abbrev main_v168 : Ref sig .tc := ⟨.hbm, 270, rfl⟩
abbrev main_v169 : Ref sig .tc := ⟨.hbm, 271, rfl⟩
abbrev main_v170 : Ref sig .tc := ⟨.hbm, 272, rfl⟩
abbrev main_v171 : Ref sig .tc := ⟨.hbm, 273, rfl⟩
abbrev main_v172 : Ref sig .tc := ⟨.hbm, 274, rfl⟩
abbrev main_v173 : Ref sig .tc := ⟨.hbm, 275, rfl⟩
abbrev main_v174 : Ref sig .tc := ⟨.hbm, 276, rfl⟩
abbrev main_call5_v0 : Ref sig .tc := ⟨.hbm, 277, rfl⟩
abbrev main_call5_v1 : Ref sig .tc := ⟨.hbm, 278, rfl⟩
abbrev main_call5_cst : Ref sig .tc := ⟨.hbm, 279, rfl⟩
abbrev main_call5_v2 : Ref sig .tc := ⟨.hbm, 280, rfl⟩
abbrev main_call5_v3 : Ref sig .tc := ⟨.hbm, 281, rfl⟩
abbrev main_call5_cst_0 : Ref sig .tc := ⟨.hbm, 282, rfl⟩
abbrev main_call5_v4 : Ref sig .tc := ⟨.hbm, 283, rfl⟩
abbrev main_call5_v5 : Ref sig .tc := ⟨.hbm, 284, rfl⟩
abbrev main_v175 : Ref sig .tc := ⟨.hbm, 285, rfl⟩
abbrev main_v176 : Ref sig .tc := ⟨.hbm, 286, rfl⟩
abbrev main_v177 : Ref sig .tc := ⟨.hbm, 287, rfl⟩
abbrev main_v178 : Ref sig .tc := ⟨.hbm, 288, rfl⟩
abbrev main_v179 : Ref sig .tc := ⟨.hbm, 289, rfl⟩
abbrev main_v180 : Ref sig .tc := ⟨.hbm, 290, rfl⟩
abbrev main_v181 : Ref sig .tc := ⟨.hbm, 291, rfl⟩
abbrev main_v182 : Ref sig .tc := ⟨.hbm, 292, rfl⟩
abbrev main_v183 : Ref sig .tc := ⟨.hbm, 293, rfl⟩
abbrev main_v184 : Ref sig .tc := ⟨.hbm, 294, rfl⟩
abbrev main_v185 : Ref sig .tc := ⟨.hbm, 295, rfl⟩
abbrev main_v186 : Ref sig .tc := ⟨.hbm, 296, rfl⟩
abbrev main_v187 : Ref sig .tc := ⟨.hbm, 297, rfl⟩
abbrev main_v188 : Ref sig .tc := ⟨.hbm, 298, rfl⟩
abbrev main_v189 : Ref sig .tc := ⟨.hbm, 299, rfl⟩
abbrev main_v190 : Ref sig .tc := ⟨.hbm, 300, rfl⟩
abbrev main_cst_32 : Ref sig .tc := ⟨.hbm, 301, rfl⟩
abbrev main_v191 : Ref sig .tc := ⟨.hbm, 302, rfl⟩
abbrev main_v192 : Ref sig .tc := ⟨.hbm, 303, rfl⟩
abbrev main_cst_33 : Ref sig .tc := ⟨.hbm, 304, rfl⟩
abbrev main_call6_v0 : Ref sig .tc := ⟨.hbm, 305, rfl⟩
abbrev main_v193 : Ref sig .tc := ⟨.hbm, 306, rfl⟩
abbrev main_v194 : Ref sig .tc := ⟨.hbm, 307, rfl⟩
abbrev main_c_34 : Ref sig .tc := ⟨.hbm, 308, rfl⟩
abbrev main_v195 : Ref sig .tc := ⟨.hbm, 309, rfl⟩
abbrev main_v196 : Ref sig .tc := ⟨.hbm, 310, rfl⟩
abbrev main_v197 : Ref sig .tc := ⟨.hbm, 311, rfl⟩
abbrev main_v198 : Ref sig .tc := ⟨.hbm, 312, rfl⟩
abbrev main_v199 : Ref sig .tc := ⟨.hbm, 313, rfl⟩
abbrev main_v200 : Ref sig .tc := ⟨.hbm, 314, rfl⟩
abbrev main_v201 : Ref sig .tc := ⟨.hbm, 315, rfl⟩
abbrev main_v202 : Ref sig .tc := ⟨.hbm, 316, rfl⟩
abbrev main_v203 : Ref sig .tc := ⟨.hbm, 317, rfl⟩
abbrev main_v204 : Ref sig .tc := ⟨.hbm, 318, rfl⟩
abbrev main_cst_35 : Ref sig .tc := ⟨.hbm, 319, rfl⟩
abbrev main_v205 : Ref sig .tc := ⟨.hbm, 320, rfl⟩
abbrev main_cst_36 : Ref sig .tc := ⟨.hbm, 321, rfl⟩
abbrev main_v206 : Ref sig .tc := ⟨.hbm, 322, rfl⟩
abbrev main_cst_37 : Ref sig .tc := ⟨.hbm, 323, rfl⟩
abbrev main_v207 : Ref sig .tc := ⟨.hbm, 324, rfl⟩
abbrev main_v208 : Ref sig .tc := ⟨.hbm, 325, rfl⟩
abbrev main_v209 : Ref sig .tc := ⟨.hbm, 326, rfl⟩
abbrev main_v210 : Ref sig .tc := ⟨.hbm, 327, rfl⟩
abbrev main_c_38 : Ref sig .tc := ⟨.hbm, 328, rfl⟩
abbrev main_v211 : Ref sig .tc := ⟨.hbm, 329, rfl⟩
abbrev main_v212 : Ref sig .tc := ⟨.hbm, 330, rfl⟩
abbrev main_cst_39 : Ref sig .tc := ⟨.hbm, 331, rfl⟩
abbrev main_v213 : Ref sig .tc := ⟨.hbm, 332, rfl⟩
abbrev main_v214 : Ref sig .tc := ⟨.hbm, 333, rfl⟩
abbrev main_cst_40 : Ref sig .tc := ⟨.hbm, 334, rfl⟩
abbrev main_v215 : Ref sig .tc := ⟨.hbm, 335, rfl⟩
abbrev main_v216 : Ref sig .tc := ⟨.hbm, 336, rfl⟩
abbrev main_cst_41 : Ref sig .tc := ⟨.hbm, 337, rfl⟩
abbrev main_v217 : Ref sig .tc := ⟨.hbm, 338, rfl⟩
abbrev main_v218 : Ref sig .tc := ⟨.hbm, 339, rfl⟩
abbrev main_v219 : Ref sig .tc := ⟨.hbm, 340, rfl⟩
abbrev main_v220 : Ref sig .tc := ⟨.hbm, 341, rfl⟩
abbrev main_v221 : Ref sig .tc := ⟨.hbm, 342, rfl⟩
abbrev main_v222 : Ref sig .tc := ⟨.hbm, 343, rfl⟩
abbrev main_v223 : Ref sig .tc := ⟨.hbm, 344, rfl⟩
abbrev main_v224 : Ref sig .tc := ⟨.hbm, 345, rfl⟩
abbrev main_v225 : Ref sig .tc := ⟨.hbm, 346, rfl⟩
abbrev main_cst_42 : Ref sig .tc := ⟨.hbm, 347, rfl⟩
abbrev main_v226 : Ref sig .tc := ⟨.hbm, 348, rfl⟩
abbrev main_v227 : Ref sig .tc := ⟨.hbm, 349, rfl⟩
abbrev main_cst_43 : Ref sig .tc := ⟨.hbm, 350, rfl⟩
abbrev main_v228 : Ref sig .tc := ⟨.hbm, 351, rfl⟩
abbrev main_v229 : Ref sig .tc := ⟨.hbm, 352, rfl⟩
abbrev main_cst_44 : Ref sig .tc := ⟨.hbm, 353, rfl⟩
abbrev main_v230 : Ref sig .tc := ⟨.hbm, 354, rfl⟩
abbrev main_v231 : Ref sig .tc := ⟨.hbm, 355, rfl⟩
abbrev main_v232 : Ref sig .tc := ⟨.hbm, 356, rfl⟩
abbrev main_v233 : Ref sig .tc := ⟨.hbm, 357, rfl⟩
abbrev main_v234 : Ref sig .tc := ⟨.hbm, 358, rfl⟩
abbrev main_v235 : Ref sig .tc := ⟨.hbm, 359, rfl⟩
abbrev main_v236 : Ref sig .tc := ⟨.hbm, 360, rfl⟩
abbrev main_v237 : Ref sig .tc := ⟨.hbm, 361, rfl⟩
abbrev main_v238 : Ref sig .tc := ⟨.hbm, 362, rfl⟩
abbrev main_v239 : Ref sig .tc := ⟨.hbm, 363, rfl⟩
abbrev main_v240 : Ref sig .tc := ⟨.hbm, 364, rfl⟩
abbrev main_cst_45 : Ref sig .tc := ⟨.hbm, 365, rfl⟩
abbrev main_v241 : Ref sig .tc := ⟨.hbm, 366, rfl⟩
abbrev main_cst_46 : Ref sig .tc := ⟨.hbm, 367, rfl⟩
abbrev main_call7_v0 : Ref sig .tc := ⟨.hbm, 368, rfl⟩
abbrev main_v242 : Ref sig .tc := ⟨.hbm, 369, rfl⟩
abbrev main_values_47 : Ref sig .tc := ⟨.hbm, 370, rfl⟩
abbrev main_indices_48 : Ref sig .tc := ⟨.hbm, 371, rfl⟩
abbrev main_v243 : Ref sig .tc := ⟨.hbm, 372, rfl⟩
abbrev main_call8_c : Ref sig .tc := ⟨.hbm, 373, rfl⟩
abbrev main_call8_v0 : Ref sig .tc := ⟨.hbm, 374, rfl⟩
abbrev main_call8_v1 : Ref sig .tc := ⟨.hbm, 375, rfl⟩
abbrev main_call8_c_0 : Ref sig .tc := ⟨.hbm, 376, rfl⟩
abbrev main_call8_v2 : Ref sig .tc := ⟨.hbm, 377, rfl⟩
abbrev main_call8_v3 : Ref sig .tc := ⟨.hbm, 378, rfl⟩
abbrev main_call8_v4 : Ref sig .tc := ⟨.hbm, 379, rfl⟩
abbrev main_call8_c_1 : Ref sig .tc := ⟨.hbm, 380, rfl⟩
abbrev main_call8_c_2 : Ref sig .tc := ⟨.hbm, 381, rfl⟩
abbrev main_call8_v5 : Ref sig .tc := ⟨.hbm, 382, rfl⟩
abbrev main_call8_v6 : Ref sig .tc := ⟨.hbm, 383, rfl⟩
abbrev main_call8_v7 : Ref sig .tc := ⟨.hbm, 384, rfl⟩
abbrev main_call8_v8 : Ref sig .tc := ⟨.hbm, 385, rfl⟩
abbrev main_call8_v9 : Ref sig .tc := ⟨.hbm, 386, rfl⟩
abbrev main_call8_v10 : Ref sig .tc := ⟨.hbm, 387, rfl⟩
abbrev main_call8_c_3 : Ref sig .tc := ⟨.hbm, 388, rfl⟩
abbrev main_call8_v11 : Ref sig .tc := ⟨.hbm, 389, rfl⟩
abbrev main_call8_v12 : Ref sig .tc := ⟨.hbm, 390, rfl⟩
abbrev main_call8_v13 : Ref sig .tc := ⟨.hbm, 391, rfl⟩
abbrev main_call8_cst : Ref sig .tc := ⟨.hbm, 392, rfl⟩
abbrev main_call8_v14 : Ref sig .tc := ⟨.hbm, 393, rfl⟩
abbrev main_v244 : Ref sig .tc := ⟨.hbm, 394, rfl⟩
abbrev main_call9_c : Ref sig .tc := ⟨.hbm, 395, rfl⟩
abbrev main_call9_v0 : Ref sig .tc := ⟨.hbm, 396, rfl⟩
abbrev main_call9_v1 : Ref sig .tc := ⟨.hbm, 397, rfl⟩
abbrev main_call9_c_0 : Ref sig .tc := ⟨.hbm, 398, rfl⟩
abbrev main_call9_v2 : Ref sig .tc := ⟨.hbm, 399, rfl⟩
abbrev main_call9_v3 : Ref sig .tc := ⟨.hbm, 400, rfl⟩
abbrev main_call9_v4 : Ref sig .tc := ⟨.hbm, 401, rfl⟩
abbrev main_call9_v5 : Ref sig .tc := ⟨.hbm, 402, rfl⟩
abbrev main_call9_c_1 : Ref sig .tc := ⟨.hbm, 403, rfl⟩
abbrev main_call9_c_2 : Ref sig .tc := ⟨.hbm, 404, rfl⟩
abbrev main_call9_v6 : Ref sig .tc := ⟨.hbm, 405, rfl⟩
abbrev main_call9_v7 : Ref sig .tc := ⟨.hbm, 406, rfl⟩
abbrev main_call9_v8 : Ref sig .tc := ⟨.hbm, 407, rfl⟩
abbrev main_call9_v9 : Ref sig .tc := ⟨.hbm, 408, rfl⟩
abbrev main_call9_v10 : Ref sig .tc := ⟨.hbm, 409, rfl⟩
abbrev main_call9_v11 : Ref sig .tc := ⟨.hbm, 410, rfl⟩
abbrev main_call9_c_3 : Ref sig .tc := ⟨.hbm, 411, rfl⟩
abbrev main_call9_v12 : Ref sig .tc := ⟨.hbm, 412, rfl⟩
abbrev main_call9_v13 : Ref sig .tc := ⟨.hbm, 413, rfl⟩
abbrev main_call9_c_4 : Ref sig .tc := ⟨.hbm, 414, rfl⟩
abbrev main_call9_v14 : Ref sig .tc := ⟨.hbm, 415, rfl⟩
abbrev main_v245 : Ref sig .tc := ⟨.hbm, 416, rfl⟩
abbrev main_v246 : Ref sig .tc := ⟨.hbm, 417, rfl⟩
abbrev main_v247 : Ref sig .tc := ⟨.hbm, 418, rfl⟩
abbrev main_v248 : Ref sig .tc := ⟨.hbm, 419, rfl⟩
abbrev main_v249 : Ref sig .tc := ⟨.hbm, 420, rfl⟩
abbrev main_v250 : Ref sig .tc := ⟨.hbm, 421, rfl⟩
abbrev main_cst_49 : Ref sig .tc := ⟨.hbm, 422, rfl⟩
abbrev main_v251 : Ref sig .tc := ⟨.hbm, 423, rfl⟩
abbrev main_cst_50 : Ref sig .tc := ⟨.hbm, 424, rfl⟩
abbrev main_v252 : Ref sig .tc := ⟨.hbm, 425, rfl⟩
abbrev main_cst_51 : Ref sig .tc := ⟨.hbm, 426, rfl⟩
abbrev main_v253 : Ref sig .tc := ⟨.hbm, 427, rfl⟩
abbrev main_v254 : Ref sig .tc := ⟨.hbm, 428, rfl⟩
abbrev main_v255 : Ref sig .tc := ⟨.hbm, 429, rfl⟩
abbrev main_v256 : Ref sig .tc := ⟨.hbm, 430, rfl⟩
abbrev main_v257 : Ref sig .tc := ⟨.hbm, 431, rfl⟩
abbrev main_c_52 : Ref sig .tc := ⟨.hbm, 432, rfl⟩
abbrev main_v258 : Ref sig .tc := ⟨.hbm, 433, rfl⟩
abbrev main_v259 : Ref sig .tc := ⟨.hbm, 434, rfl⟩
abbrev main_v260 : Ref sig .tc := ⟨.hbm, 435, rfl⟩
abbrev main_v261 : Ref sig .tc := ⟨.hbm, 436, rfl⟩
abbrev main_v262 : Ref sig .tc := ⟨.hbm, 437, rfl⟩
abbrev main_cst_53 : Ref sig .tc := ⟨.hbm, 438, rfl⟩
abbrev main_v263 : Ref sig .tc := ⟨.hbm, 439, rfl⟩
abbrev main_v264 : Ref sig .tc := ⟨.hbm, 440, rfl⟩
abbrev main_cst_54 : Ref sig .tc := ⟨.hbm, 441, rfl⟩
abbrev main_v265 : Ref sig .tc := ⟨.hbm, 442, rfl⟩
abbrev main_v266 : Ref sig .tc := ⟨.hbm, 443, rfl⟩
abbrev main_cst_55 : Ref sig .tc := ⟨.hbm, 444, rfl⟩
abbrev main_v267 : Ref sig .tc := ⟨.hbm, 445, rfl⟩
abbrev main_v268 : Ref sig .tc := ⟨.hbm, 446, rfl⟩
abbrev main_v269 : Ref sig .tc := ⟨.hbm, 447, rfl⟩
abbrev main_v270 : Ref sig .tc := ⟨.hbm, 448, rfl⟩
abbrev main_v271 : Ref sig .tc := ⟨.hbm, 449, rfl⟩
abbrev main_v272 : Ref sig .tc := ⟨.hbm, 450, rfl⟩
abbrev main_v273 : Ref sig .tc := ⟨.hbm, 451, rfl⟩
abbrev main_v274 : Ref sig .tc := ⟨.hbm, 452, rfl⟩
abbrev main_c_56 : Ref sig .tc := ⟨.hbm, 453, rfl⟩
abbrev main_v275 : Ref sig .tc := ⟨.hbm, 454, rfl⟩
abbrev main_v276 : Ref sig .tc := ⟨.hbm, 455, rfl⟩
abbrev main_c_57 : Ref sig .tc := ⟨.hbm, 456, rfl⟩
abbrev main_call10_v0 : Ref sig .tc := ⟨.hbm, 457, rfl⟩
abbrev main_call10_v1 : Ref sig .tc := ⟨.hbm, 458, rfl⟩
abbrev main_v277 : Ref sig .tc := ⟨.hbm, 459, rfl⟩
abbrev main_v278 : Ref sig .tc := ⟨.hbm, 460, rfl⟩
abbrev main_v279 : Ref sig .tc := ⟨.hbm, 461, rfl⟩
abbrev main_v280 : Ref sig .tc := ⟨.hbm, 462, rfl⟩
abbrev main_v281 : Ref sig .tc := ⟨.hbm, 463, rfl⟩
abbrev main_v282 : Ref sig .tc := ⟨.hbm, 464, rfl⟩
abbrev main_v283 : Ref sig .tc := ⟨.hbm, 465, rfl⟩
abbrev main_v284 : Ref sig .tc := ⟨.hbm, 466, rfl⟩
abbrev main_v285 : Ref sig .tc := ⟨.hbm, 467, rfl⟩
abbrev main_v286 : Ref sig .tc := ⟨.hbm, 468, rfl⟩
abbrev main_v287 : Ref sig .tc := ⟨.hbm, 469, rfl⟩
abbrev main_v288 : Ref sig .tc := ⟨.hbm, 470, rfl⟩
abbrev main_v289 : Ref sig .tc := ⟨.hbm, 471, rfl⟩
abbrev main_v290 : Ref sig .tc := ⟨.hbm, 472, rfl⟩
abbrev main_v291 : Ref sig .tc := ⟨.hbm, 473, rfl⟩
abbrev main_v292 : Ref sig .tc := ⟨.hbm, 474, rfl⟩
abbrev main_v293 : Ref sig .tc := ⟨.hbm, 475, rfl⟩
abbrev main_v294 : Ref sig .tc := ⟨.hbm, 476, rfl⟩
abbrev main_v295 : Ref sig .tc := ⟨.hbm, 477, rfl⟩
abbrev main_v296 : Ref sig .tc := ⟨.hbm, 478, rfl⟩
abbrev main_v297 : Ref sig .tc := ⟨.hbm, 479, rfl⟩
abbrev main_v298 : Ref sig .tc := ⟨.hbm, 480, rfl⟩
abbrev main_v299 : Ref sig .tc := ⟨.hbm, 481, rfl⟩
abbrev main_v300 : Ref sig .tc := ⟨.hbm, 482, rfl⟩
abbrev main_v301 : Ref sig .tc := ⟨.hbm, 483, rfl⟩
abbrev main_v302 : Ref sig .tc := ⟨.hbm, 484, rfl⟩
abbrev main_v303 : Ref sig .tc := ⟨.hbm, 485, rfl⟩
abbrev main_v304 : Ref sig .tc := ⟨.hbm, 486, rfl⟩
abbrev main_v305 : Ref sig .tc := ⟨.hbm, 487, rfl⟩
abbrev main_cst_58 : Ref sig .tc := ⟨.hbm, 488, rfl⟩
abbrev main_v306 : Ref sig .tc := ⟨.hbm, 489, rfl⟩
abbrev main_v307 : Ref sig .tc := ⟨.hbm, 490, rfl⟩
abbrev main_v308 : Ref sig .tc := ⟨.hbm, 491, rfl⟩
abbrev main_v309 : Ref sig .tc := ⟨.hbm, 492, rfl⟩
abbrev main_cst_59 : Ref sig .tc := ⟨.hbm, 493, rfl⟩
abbrev main_call11_v0 : Ref sig .tc := ⟨.hbm, 494, rfl⟩
abbrev main_call11_v1 : Ref sig .tc := ⟨.hbm, 495, rfl⟩
abbrev main_v310 : Ref sig .tc := ⟨.hbm, 496, rfl⟩
abbrev main_cst_60 : Ref sig .tc := ⟨.hbm, 497, rfl⟩
abbrev main_v311 : Ref sig .tc := ⟨.hbm, 498, rfl⟩
abbrev main_cst_61 : Ref sig .tc := ⟨.hbm, 499, rfl⟩
abbrev main_v312 : Ref sig .tc := ⟨.hbm, 500, rfl⟩
abbrev main_v313 : Ref sig .tc := ⟨.hbm, 501, rfl⟩
abbrev main_v314 : Ref sig .tc := ⟨.hbm, 502, rfl⟩
abbrev main_v315 : Ref sig .tc := ⟨.hbm, 503, rfl⟩
abbrev main_v316 : Ref sig .tc := ⟨.hbm, 504, rfl⟩
abbrev main_v317 : Ref sig .tc := ⟨.hbm, 505, rfl⟩
abbrev main_cst_62 : Ref sig .tc := ⟨.hbm, 506, rfl⟩
abbrev main_v318 : Ref sig .tc := ⟨.hbm, 507, rfl⟩
abbrev main_v319 : Ref sig .tc := ⟨.hbm, 508, rfl⟩
abbrev main_v320 : Ref sig .tc := ⟨.hbm, 509, rfl⟩
abbrev main_v321 : Ref sig .tc := ⟨.hbm, 510, rfl⟩
abbrev main_v322 : Ref sig .tc := ⟨.hbm, 511, rfl⟩
abbrev main_v323 : Ref sig .tc := ⟨.hbm, 512, rfl⟩
abbrev main_v324 : Ref sig .tc := ⟨.hbm, 513, rfl⟩
abbrev main_v325 : Ref sig .tc := ⟨.hbm, 514, rfl⟩
abbrev main_v326 : Ref sig .tc := ⟨.hbm, 515, rfl⟩
abbrev main_v327 : Ref sig .tc := ⟨.hbm, 516, rfl⟩
abbrev main_v328 : Ref sig .tc := ⟨.hbm, 517, rfl⟩
abbrev main_v329 : Ref sig .tc := ⟨.hbm, 518, rfl⟩
abbrev main_v330 : Ref sig .tc := ⟨.hbm, 519, rfl⟩
abbrev main_v331 : Ref sig .tc := ⟨.hbm, 520, rfl⟩
abbrev main_c_63 : Ref sig .tc := ⟨.hbm, 521, rfl⟩
abbrev main_v332 : Ref sig .tc := ⟨.hbm, 522, rfl⟩
abbrev main_v333 : Ref sig .tc := ⟨.hbm, 523, rfl⟩
abbrev main_v334 : Ref sig .tc := ⟨.hbm, 524, rfl⟩
abbrev main_v335 : Ref sig .tc := ⟨.hbm, 525, rfl⟩
abbrev main_cst_64 : Ref sig .tc := ⟨.hbm, 526, rfl⟩
abbrev main_v336 : Ref sig .tc := ⟨.hbm, 527, rfl⟩
abbrev main_v337 : Ref sig .tc := ⟨.hbm, 528, rfl⟩
abbrev main_cst_65 : Ref sig .tc := ⟨.hbm, 529, rfl⟩
abbrev main_v338 : Ref sig .tc := ⟨.hbm, 530, rfl⟩
abbrev main_v339 : Ref sig .tc := ⟨.hbm, 531, rfl⟩
abbrev main_cst_66 : Ref sig .tc := ⟨.hbm, 532, rfl⟩
abbrev main_v340 : Ref sig .tc := ⟨.hbm, 533, rfl⟩
abbrev main_v341 : Ref sig .tc := ⟨.hbm, 534, rfl⟩
abbrev main_v342 : Ref sig .tc := ⟨.hbm, 535, rfl⟩
abbrev main_v343 : Ref sig .tc := ⟨.hbm, 536, rfl⟩
abbrev main_v344 : Ref sig .tc := ⟨.hbm, 537, rfl⟩
abbrev main_v345 : Ref sig .tc := ⟨.hbm, 538, rfl⟩
abbrev main_v346 : Ref sig .tc := ⟨.hbm, 539, rfl⟩
abbrev main_v347 : Ref sig .tc := ⟨.hbm, 540, rfl⟩
abbrev main_v348 : Ref sig .tc := ⟨.hbm, 541, rfl⟩
abbrev main_v349 : Ref sig .tc := ⟨.hbm, 542, rfl⟩
abbrev main_v350 : Ref sig .tc := ⟨.hbm, 543, rfl⟩
abbrev main_v351 : Ref sig .tc := ⟨.hbm, 544, rfl⟩
abbrev main_v352 : Ref sig .tc := ⟨.hbm, 545, rfl⟩
abbrev main_v353 : Ref sig .tc := ⟨.hbm, 546, rfl⟩
abbrev main_v354 : Ref sig .tc := ⟨.hbm, 547, rfl⟩
abbrev main_call12_v0 : Ref sig .tc := ⟨.hbm, 548, rfl⟩
abbrev main_call12_v1 : Ref sig .tc := ⟨.hbm, 549, rfl⟩
abbrev main_call12_cst : Ref sig .tc := ⟨.hbm, 550, rfl⟩
abbrev main_call12_v2 : Ref sig .tc := ⟨.hbm, 551, rfl⟩
abbrev main_call12_v3 : Ref sig .tc := ⟨.hbm, 552, rfl⟩
abbrev main_call12_cst_0 : Ref sig .tc := ⟨.hbm, 553, rfl⟩
abbrev main_call12_v4 : Ref sig .tc := ⟨.hbm, 554, rfl⟩
abbrev main_call12_v5 : Ref sig .tc := ⟨.hbm, 555, rfl⟩
abbrev main_v355 : Ref sig .tc := ⟨.hbm, 556, rfl⟩
abbrev main_v356 : Ref sig .tc := ⟨.hbm, 557, rfl⟩
abbrev main_v357 : Ref sig .tc := ⟨.hbm, 558, rfl⟩
abbrev main_v358 : Ref sig .tc := ⟨.hbm, 559, rfl⟩
abbrev main_v359 : Ref sig .tc := ⟨.hbm, 560, rfl⟩
abbrev main_v360 : Ref sig .tc := ⟨.hbm, 561, rfl⟩
abbrev main_v361 : Ref sig .tc := ⟨.hbm, 562, rfl⟩
abbrev main_v362 : Ref sig .tc := ⟨.hbm, 563, rfl⟩
abbrev main_v363 : Ref sig .tc := ⟨.hbm, 564, rfl⟩
abbrev main_v364 : Ref sig .tc := ⟨.hbm, 565, rfl⟩
abbrev main_v365 : Ref sig .tc := ⟨.hbm, 566, rfl⟩
abbrev main_v366 : Ref sig .tc := ⟨.hbm, 567, rfl⟩
abbrev main_v367 : Ref sig .tc := ⟨.hbm, 568, rfl⟩
abbrev main_v368 : Ref sig .tc := ⟨.hbm, 569, rfl⟩
abbrev main_v369 : Ref sig .tc := ⟨.hbm, 570, rfl⟩
abbrev main_v370 : Ref sig .tc := ⟨.hbm, 571, rfl⟩
abbrev main_cst_67 : Ref sig .tc := ⟨.hbm, 572, rfl⟩
abbrev main_v371 : Ref sig .tc := ⟨.hbm, 573, rfl⟩
abbrev main_v372 : Ref sig .tc := ⟨.hbm, 574, rfl⟩
abbrev main_cst_68 : Ref sig .tc := ⟨.hbm, 575, rfl⟩
abbrev main_call13_v0 : Ref sig .tc := ⟨.hbm, 576, rfl⟩
abbrev main_v373 : Ref sig .tc := ⟨.hbm, 577, rfl⟩
abbrev main_v374 : Ref sig .tc := ⟨.hbm, 578, rfl⟩
abbrev main_v375 : Ref sig .tc := ⟨.hbm, 579, rfl⟩
abbrev main_v376 : Ref sig .tc := ⟨.hbm, 580, rfl⟩
abbrev main_cst_69 : Ref sig .tc := ⟨.hbm, 581, rfl⟩
abbrev main_v377 : Ref sig .tc := ⟨.hbm, 582, rfl⟩
abbrev main_cst_70 : Ref sig .tc := ⟨.hbm, 583, rfl⟩
abbrev main_v378 : Ref sig .tc := ⟨.hbm, 584, rfl⟩
abbrev main_v379 : Ref sig .tc := ⟨.hbm, 585, rfl⟩
abbrev main_v380 : Ref sig .tc := ⟨.hbm, 586, rfl⟩
abbrev main_v381 : Ref sig .tc := ⟨.hbm, 587, rfl⟩
abbrev main_v382 : Ref sig .tc := ⟨.hbm, 588, rfl⟩
abbrev main_v383 : Ref sig .tc := ⟨.hbm, 589, rfl⟩
abbrev main_cst_71 : Ref sig .tc := ⟨.hbm, 590, rfl⟩
abbrev main_v384 : Ref sig .tc := ⟨.hbm, 591, rfl⟩
abbrev main_v385 : Ref sig .tc := ⟨.hbm, 592, rfl⟩
abbrev main_v386 : Ref sig .tc := ⟨.hbm, 593, rfl⟩
abbrev main_v387 : Ref sig .tc := ⟨.hbm, 594, rfl⟩
abbrev main_v388 : Ref sig .tc := ⟨.hbm, 595, rfl⟩
abbrev main_v389 : Ref sig .tc := ⟨.hbm, 596, rfl⟩
abbrev main_v390 : Ref sig .tc := ⟨.hbm, 597, rfl⟩
abbrev main_v391 : Ref sig .tc := ⟨.hbm, 598, rfl⟩
abbrev main_v392 : Ref sig .tc := ⟨.hbm, 599, rfl⟩
abbrev main_cst_72 : Ref sig .tc := ⟨.hbm, 600, rfl⟩
abbrev main_v393 : Ref sig .tc := ⟨.hbm, 601, rfl⟩

abbrev nD : Nat := 1
abbrev τ : Topo := Topo.v7x

variable {F : FTy → Type} [FloatOps F]
-- ==== Proof.KernelIdealRun.Region0.lean ====
/- What the body of custom call 0 leaves in its windows at each grid point, and the body obligation. Program `KernelIdeal`. The layout of this module follows the launch kit. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S8x2048 := Rect.unit (s := S8x2048) ![0, 0] S8x2048.size inb_S8x2048_S8x2048_0_0
abbrev r0_1 : Rect S1x2048 := Rect.unit (s := S1x2048) ![0, 0] S1x2048.size inb_S1x2048_S1x2048_0_0
abbrev r0_2 : Rect S2048x2048 := Rect.unit (s := S2048x2048) ![0, 0] S2048x2048.size inb_S2048x2048_S2048x2048_0_0
abbrev r0_3 : Rect S1x1x2048 := Rect.unit (s := S1x1x2048) ![0, 0, 0] S1x1x2048.size inb_S1x1x2048_S1x1x2048_0_0_0
abbrev r0_4 : Rect S2048x2048 := Rect.unit (s := S2048x2048) ![0, 0] S128x2048.size inb_S2048x2048_S128x2048_0_0
abbrev r0_5 : Rect S128x2048 := Rect.unit (s := S128x2048) ![0, 0] S8x2048.size inb_S128x2048_S8x2048_0_0
abbrev r0_6 : Rect S2048x2048 := Rect.unit (s := S2048x2048) ![128, 0] S128x2048.size inb_S2048x2048_S128x2048_128_0
abbrev r0_7 : Rect S128x2048 := Rect.unit (s := S128x2048) ![8, 0] S8x2048.size inb_S128x2048_S8x2048_8_0
abbrev r0_8 : Rect S2048x2048 := Rect.unit (s := S2048x2048) ![256, 0] S128x2048.size inb_S2048x2048_S128x2048_256_0
abbrev r0_9 : Rect S128x2048 := Rect.unit (s := S128x2048) ![16, 0] S8x2048.size inb_S128x2048_S8x2048_16_0
abbrev r0_10 : Rect S2048x2048 := Rect.unit (s := S2048x2048) ![384, 0] S128x2048.size inb_S2048x2048_S128x2048_384_0
abbrev r0_11 : Rect S128x2048 := Rect.unit (s := S128x2048) ![24, 0] S8x2048.size inb_S128x2048_S8x2048_24_0
abbrev r0_12 : Rect S2048x2048 := Rect.unit (s := S2048x2048) ![512, 0] S128x2048.size inb_S2048x2048_S128x2048_512_0
abbrev r0_13 : Rect S128x2048 := Rect.unit (s := S128x2048) ![32, 0] S8x2048.size inb_S128x2048_S8x2048_32_0
abbrev r0_14 : Rect S2048x2048 := Rect.unit (s := S2048x2048) ![640, 0] S128x2048.size inb_S2048x2048_S128x2048_640_0
abbrev r0_15 : Rect S128x2048 := Rect.unit (s := S128x2048) ![40, 0] S8x2048.size inb_S128x2048_S8x2048_40_0
abbrev r0_16 : Rect S2048x2048 := Rect.unit (s := S2048x2048) ![768, 0] S128x2048.size inb_S2048x2048_S128x2048_768_0
abbrev r0_17 : Rect S128x2048 := Rect.unit (s := S128x2048) ![48, 0] S8x2048.size inb_S128x2048_S8x2048_48_0
abbrev r0_18 : Rect S2048x2048 := Rect.unit (s := S2048x2048) ![896, 0] S128x2048.size inb_S2048x2048_S128x2048_896_0
abbrev r0_19 : Rect S128x2048 := Rect.unit (s := S128x2048) ![56, 0] S8x2048.size inb_S128x2048_S8x2048_56_0
abbrev r0_20 : Rect S2048x2048 := Rect.unit (s := S2048x2048) ![1024, 0] S128x2048.size inb_S2048x2048_S128x2048_1024_0
abbrev r0_21 : Rect S128x2048 := Rect.unit (s := S128x2048) ![64, 0] S8x2048.size inb_S128x2048_S8x2048_64_0
abbrev r0_22 : Rect S2048x2048 := Rect.unit (s := S2048x2048) ![1152, 0] S128x2048.size inb_S2048x2048_S128x2048_1152_0
abbrev r0_23 : Rect S128x2048 := Rect.unit (s := S128x2048) ![72, 0] S8x2048.size inb_S128x2048_S8x2048_72_0
abbrev r0_24 : Rect S2048x2048 := Rect.unit (s := S2048x2048) ![1280, 0] S128x2048.size inb_S2048x2048_S128x2048_1280_0
abbrev r0_25 : Rect S128x2048 := Rect.unit (s := S128x2048) ![80, 0] S8x2048.size inb_S128x2048_S8x2048_80_0
abbrev r0_26 : Rect S2048x2048 := Rect.unit (s := S2048x2048) ![1408, 0] S128x2048.size inb_S2048x2048_S128x2048_1408_0
abbrev r0_27 : Rect S128x2048 := Rect.unit (s := S128x2048) ![88, 0] S8x2048.size inb_S128x2048_S8x2048_88_0
abbrev r0_28 : Rect S2048x2048 := Rect.unit (s := S2048x2048) ![1536, 0] S128x2048.size inb_S2048x2048_S128x2048_1536_0
abbrev r0_29 : Rect S128x2048 := Rect.unit (s := S128x2048) ![96, 0] S8x2048.size inb_S128x2048_S8x2048_96_0
abbrev r0_30 : Rect S2048x2048 := Rect.unit (s := S2048x2048) ![1664, 0] S128x2048.size inb_S2048x2048_S128x2048_1664_0
abbrev r0_31 : Rect S128x2048 := Rect.unit (s := S128x2048) ![104, 0] S8x2048.size inb_S128x2048_S8x2048_104_0
abbrev r0_32 : Rect S2048x2048 := Rect.unit (s := S2048x2048) ![1792, 0] S128x2048.size inb_S2048x2048_S128x2048_1792_0
abbrev r0_33 : Rect S128x2048 := Rect.unit (s := S128x2048) ![112, 0] S8x2048.size inb_S128x2048_S8x2048_112_0
abbrev r0_34 : Rect S2048x2048 := Rect.unit (s := S2048x2048) ![1920, 0] S128x2048.size inb_S2048x2048_S128x2048_1920_0
abbrev r0_35 : Rect S128x2048 := Rect.unit (s := S128x2048) ![120, 0] S8x2048.size inb_S128x2048_S8x2048_120_0

def k0_pay22 (x0 : Vec F S8x2048 .f32) (x1 : Vec F S1x2048 .f32) (x2 : Vec F S2048x2048 .f32) (x3 : Vec F S1x1x2048 .f32) (x4 : Vec F S2048x2048 .f32) : FVec F S8x2048 .f32 :=
  k0_pay4 (View.ld x0 r0_0) (View.ld x1 r0_1) (View.ld x2 r0_2) (View.ld x3 r0_3)

def out0_5 (x0 : Vec F S8x2048 .f32) (x1 : Vec F S1x2048 .f32) (x2 : Vec F S2048x2048 .f32) (x3 : Vec F S1x1x2048 .f32) (x4 : Vec F S2048x2048 .f32) : Vec F S8x2048 .f32 :=
  View.canon [⟨r0_0, k0_pay3 (View.ld x0 r0_0) (View.ld x1 r0_1)⟩]

theorem cover0_5 (p0 : Vec F S8x2048 .f32) (y : S8x2048.Idx) :
    ∃ pc ∈ ([⟨r0_0, p0⟩] : List (View.Piece (Elt F) S8x2048 .f32)), y ∈ pc.1.set :=
  View.cover_of_tiled [⟨r0_0, p0⟩] S8x2048.size (by rfl) y

def out0_6 (x0 : Vec F S8x2048 .f32) (x1 : Vec F S1x2048 .f32) (x2 : Vec F S2048x2048 .f32) (x3 : Vec F S1x1x2048 .f32) (x4 : Vec F S2048x2048 .f32) : Vec F S128x2048 .f32 :=
  View.canon [⟨r0_35, k0_pay2 (k0_pay22 x0 x1 x2 x3 x4) (View.ld x4 r0_34)⟩,
    ⟨r0_33, k0_pay1 (k0_pay21 (k0_pay22 x0 x1 x2 x3 x4)) (View.ld x4 r0_32)⟩,
    ⟨r0_31, k0_pay20 (k0_pay22 x0 x1 x2 x3 x4) (View.ld x4 r0_30)⟩,
    ⟨r0_29, k0_pay19 (k0_pay22 x0 x1 x2 x3 x4) (View.ld x4 r0_28)⟩,
    ⟨r0_27, k0_pay18 (k0_pay22 x0 x1 x2 x3 x4) (View.ld x4 r0_26)⟩,
    ⟨r0_25, k0_pay17 (k0_pay22 x0 x1 x2 x3 x4) (View.ld x4 r0_24)⟩,
    ⟨r0_23, k0_pay16 (k0_pay22 x0 x1 x2 x3 x4) (View.ld x4 r0_22)⟩,
    ⟨r0_21, k0_pay15 (k0_pay14 (k0_pay22 x0 x1 x2 x3 x4)) (View.ld x4 r0_20)⟩,
    ⟨r0_19, k0_pay13 (k0_pay22 x0 x1 x2 x3 x4) (View.ld x4 r0_18)⟩,
    ⟨r0_17, k0_pay12 (k0_pay22 x0 x1 x2 x3 x4) (View.ld x4 r0_16)⟩,
    ⟨r0_15, k0_pay11 (k0_pay22 x0 x1 x2 x3 x4) (View.ld x4 r0_14)⟩,
    ⟨r0_13, k0_pay10 (k0_pay22 x0 x1 x2 x3 x4) (View.ld x4 r0_12)⟩,
    ⟨r0_11, k0_pay9 (k0_pay22 x0 x1 x2 x3 x4) (View.ld x4 r0_10)⟩,
    ⟨r0_9, k0_pay8 (k0_pay7 (View.ld x0 r0_0) (View.ld x1 r0_1) (View.ld x2 r0_2) (View.ld x3 r0_3)) (View.ld x4 r0_8)⟩,
    ⟨r0_7, k0_pay6 (View.ld x0 r0_0) (View.ld x1 r0_1) (View.ld x2 r0_2) (View.ld x3 r0_3) (View.ld x4 r0_6)⟩,
    ⟨r0_5, k0_pay5 (View.ld x0 r0_0) (View.ld x1 r0_1) (View.ld x2 r0_2) (View.ld x3 r0_3) (View.ld x4 r0_4)⟩]

theorem cover0_6 (p0 : Vec F S8x2048 .f32) (p1 : Vec F S8x2048 .f32) (p2 : Vec F S8x2048 .f32) (p3 : Vec F S8x2048 .f32) (p4 : Vec F S8x2048 .f32) (p5 : Vec F S8x2048 .f32) (p6 : Vec F S8x2048 .f32) (p7 : Vec F S8x2048 .f32) (p8 : Vec F S8x2048 .f32) (p9 : Vec F S8x2048 .f32) (p10 : Vec F S8x2048 .f32) (p11 : Vec F S8x2048 .f32) (p12 : Vec F S8x2048 .f32) (p13 : Vec F S8x2048 .f32) (p14 : Vec F S8x2048 .f32) (p15 : Vec F S8x2048 .f32) (y : S128x2048.Idx) :
    ∃ pc ∈ ([⟨r0_35, p0⟩, ⟨r0_33, p1⟩, ⟨r0_31, p2⟩, ⟨r0_29, p3⟩, ⟨r0_27, p4⟩, ⟨r0_25, p5⟩, ⟨r0_23, p6⟩, ⟨r0_21, p7⟩, ⟨r0_19, p8⟩, ⟨r0_17, p9⟩, ⟨r0_15, p10⟩, ⟨r0_13, p11⟩, ⟨r0_11, p12⟩, ⟨r0_9, p13⟩, ⟨r0_7, p14⟩, ⟨r0_5, p15⟩] : List (View.Piece (Elt F) S128x2048 .f32)), y ∈ pc.1.set :=
  View.cover_of_tiled [⟨r0_35, p0⟩, ⟨r0_33, p1⟩, ⟨r0_31, p2⟩, ⟨r0_29, p3⟩, ⟨r0_27, p4⟩, ⟨r0_25, p5⟩, ⟨r0_23, p6⟩, ⟨r0_21, p7⟩, ⟨r0_19, p8⟩, ⟨r0_17, p9⟩, ⟨r0_15, p10⟩, ⟨r0_13, p11⟩, ⟨r0_11, p12⟩, ⟨r0_9, p13⟩, ⟨r0_7, p14⟩, ⟨r0_5, p15⟩] S8x2048.size (by rfl) y

set_option maxHeartbeats 1000000 in
theorem sound_kernel0 (c : Dev nD) (E : Set ℕ) (i : grid0.Coords) (arg1 : Memref sig .tc .vmem S8x2048 .f32) (harg1 : arg1.IsWhole) (arg2 : Memref sig .tc .vmem S1x2048 .f32) (harg2 : arg2.IsWhole) (arg3 : Memref sig .tc .vmem S2048x2048 .f32) (harg3 : arg3.IsWhole) (arg4 : Memref sig .tc .vmem S1x1x2048 .f32) (harg4 : arg4.IsWhole) (arg5 : Memref sig .tc .vmem S2048x2048 .f32) (harg5 : arg5.IsWhole) (arg6 : Memref sig .tc .vmem S8x2048 .f32) (harg6 : arg6.IsWhole) (arg7 : Memref sig .tc .vmem S128x2048 .f32) (harg7 : arg7.IsWhole)
    (x0 : Vec F S8x2048 .f32) (x1 : Vec F S1x2048 .f32) (x2 : Vec F S2048x2048 .f32) (x3 : Vec F S1x1x2048 .f32) (x4 : Vec F S2048x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4) ∗ owns (c : Thread nD τ) arg7 fullShare (out0_6 x0 x1 x2 x3 x4)) -∗ K ⟨⟩))
      ⊢ wp frame (wpE (defs₀ (F := F)) Variants.none c none) E (cc0__k1_body i arg1 harg1 arg2 harg2 arg3 harg3 arg4 harg4 arg5 harg5 arg6 harg6 arg7 harg7) K := by
  simp only [cc0__k1_body_eq_skeleton]; unfold cc0__k1_body_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover0_5 _)).trans ?_
    rfl
  iexists _; isplitr
  swap; · iexact H6
  ipureintro
  refine (View.read_writes_eq_canon _ _ _ (cover0_6 _ _ _ _ _ _ _ _ _ _ _ _ _ _ _ _)).trans ?_
  rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
  Φ _ := Pipeline.ΦA spec0 c
  q w := Pipeline.shareOf spec0 w
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gen

end
-- ==== Proof.KernelIdealRun.Region1.lean ====
/- What the body of custom call 1 leaves in its windows at each grid point, and the body obligation. Program `KernelIdeal`. The layout of this module follows the launch kit. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions

variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev VO1_5 : View sig .tc .vmem S16x2048 .f32 := (Memref.whole cc1_stg5_0 : Memref sig .tc .vmem S16x2048 .f32).view

abbrev VO1_6 : View sig .tc .vmem S1x1x16 .f32 := (Memref.whole cc1_stg6_0 : Memref sig .tc .vmem S1x1x16 .f32).view

abbrev ms1_0 (t : Fin cfg1.N) : Memref sig .tc .vmem S1x2048x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2048 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x2048 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S16x2048 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1x16 .f32 := win1_6.stage (cfg1.slots t 6)
abbrev hs1_6 (t : Fin cfg1.N) : (ms1_6 t).IsWhole := hstage1_6 ((cfg1.slots t 6).cast nbuf1_6)

set_option maxHeartbeats 1000000 in
noncomputable def kernelRun1_A (c : Dev nD) (i : grid1.Coords) (arg1 : Memref sig .tc .vmem S1x2048x2048 .f32) (harg1 : arg1.IsWhole) (arg2 : Memref sig .tc .vmem S8x2048 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S16x2048 .f32) (harg6 : arg6.IsWhole) (arg7 : Memref sig .tc .vmem S1x1x16 .f32) (harg7 : arg7.IsWhole)
    (x0 : Vec F S1x2048x2048 .f32) (x1 : Vec F S8x2048 .f32) (x2 : Vec F S128x2048 .f32) (x3 : Vec F S1x2048 .f32) (x4 : Vec F S1x2048 .f32) :
    Σ' (L5 : List (View.Piece (Elt F) S16x2048 .f32)), { L6 : List (View.Piece (Elt F) S1x1x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)) -∗ K ⟨⟩))
          ⊢ wp frame (wpE (defs₀ (F := F)) Variants.none c none) E (cc1__k2_body i arg1 harg1 arg2 harg2 arg3 harg3 arg4 harg4 arg5 harg5 arg6 harg6 arg7 harg7) K } := by
  refine ⟨?_, ?_, fun E K => ?run⟩
  case run =>
    simp only [cc1__k2_body_eq_skeleton]; unfold cc1__k2_body_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact H6

theorem cover1_A_5 (c : Dev nD) (i : grid1.Coords) (arg1 : Memref sig .tc .vmem S1x2048x2048 .f32) (harg1 : arg1.IsWhole) (arg2 : Memref sig .tc .vmem S8x2048 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S16x2048 .f32) (harg6 : arg6.IsWhole) (arg7 : Memref sig .tc .vmem S1x1x16 .f32) (harg7 : arg7.IsWhole)
    (x0 : Vec F S1x2048x2048 .f32) (x1 : Vec F S8x2048 .f32) (x2 : Vec F S128x2048 .f32) (x3 : Vec F S1x2048 .f32) (x4 : Vec F S1x2048 .f32) (y : S16x2048.Idx) :
    ∃ pc ∈ (kernelRun1_A c i arg1 harg1 arg2 harg2 arg3 harg3 arg4 harg4 arg5 harg5 arg6 harg6 arg7 harg7 x0 x1 x2 x3 x4).1, y ∈ pc.1.set :=
  View.cover_of_tiledL (kernelRun1_A c i arg1 harg1 arg2 harg2 arg3 harg3 arg4 harg4 arg5 harg5 arg6 harg6 arg7 harg7 x0 x1 x2 x3 x4).1 S16x2048.size (by sl_kernel_rfl) y

def out1_A_5 (c : Dev nD) (i : grid1.Coords) (arg1 : Memref sig .tc .vmem S1x2048x2048 .f32) (harg1 : arg1.IsWhole) (arg2 : Memref sig .tc .vmem S8x2048 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S16x2048 .f32) (harg6 : arg6.IsWhole) (arg7 : Memref sig .tc .vmem S1x1x16 .f32) (harg7 : arg7.IsWhole)
    (x0 : Vec F S1x2048x2048 .f32) (x1 : Vec F S8x2048 .f32) (x2 : Vec F S128x2048 .f32) (x3 : Vec F S1x2048 .f32) (x4 : Vec F S1x2048 .f32) : Vec F S16x2048 .f32 :=
  VO1_5.read (Elt F) (VO1_5.writes (Elt F) VO1_5.junk (kernelRun1_A c i arg1 harg1 arg2 harg2 arg3 harg3 arg4 harg4 arg5 harg5 arg6 harg6 arg7 harg7 x0 x1 x2 x3 x4).1)

theorem cover1_A_6 (c : Dev nD) (i : grid1.Coords) (arg1 : Memref sig .tc .vmem S1x2048x2048 .f32) (harg1 : arg1.IsWhole) (arg2 : Memref sig .tc .vmem S8x2048 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S16x2048 .f32) (harg6 : arg6.IsWhole) (arg7 : Memref sig .tc .vmem S1x1x16 .f32) (harg7 : arg7.IsWhole)
    (x0 : Vec F S1x2048x2048 .f32) (x1 : Vec F S8x2048 .f32) (x2 : Vec F S128x2048 .f32) (x3 : Vec F S1x2048 .f32) (x4 : Vec F S1x2048 .f32) (y : S1x1x16.Idx) :
    ∃ pc ∈ (kernelRun1_A c i arg1 harg1 arg2 harg2 arg3 harg3 arg4 harg4 arg5 harg5 arg6 harg6 arg7 harg7 x0 x1 x2 x3 x4).2.1, y ∈ pc.1.set :=
  View.cover_of_tiledL (kernelRun1_A c i arg1 harg1 arg2 harg2 arg3 harg3 arg4 harg4 arg5 harg5 arg6 harg6 arg7 harg7 x0 x1 x2 x3 x4).2.1 S1x1x16.size (by sl_kernel_rfl) y

def out1_A_6 (c : Dev nD) (i : grid1.Coords) (arg1 : Memref sig .tc .vmem S1x2048x2048 .f32) (harg1 : arg1.IsWhole) (arg2 : Memref sig .tc .vmem S8x2048 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S16x2048 .f32) (harg6 : arg6.IsWhole) (arg7 : Memref sig .tc .vmem S1x1x16 .f32) (harg7 : arg7.IsWhole)
    (x0 : Vec F S1x2048x2048 .f32) (x1 : Vec F S8x2048 .f32) (x2 : Vec F S128x2048 .f32) (x3 : Vec F S1x2048 .f32) (x4 : Vec F S1x2048 .f32) : Vec F S1x1x16 .f32 :=
  VO1_6.read (Elt F) (VO1_6.writes (Elt F) VO1_6.junk (kernelRun1_A c i arg1 harg1 arg2 harg2 arg3 harg3 arg4 harg4 arg5 harg5 arg6 harg6 arg7 harg7 x0 x1 x2 x3 x4).2.1)

def outsAt1 (c : Dev nD) (t : Fin cfg1.N) : Vec F S16x2048 .f32 × Vec F S1x1x16 .f32 :=
  (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) (iblk1 V c 4 t), out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) (iblk1 V c 4 t))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t).1
    | ⟨6, _⟩ => (outsAt1 V c t).2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t).1 := by dsimp only [dat1]
theorem after1_6 (c : Dev nD) (t : Fin cfg1.N) : (dat1 V c).after 6 t = (outsAt1 V c t).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  unfold outsAt1
  unfold out1_A_5 out1_A_6; (try dsimp only)
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun1_A c (grid1.coords t) _ _ _ _ _ _ _ _ _ _ _ _ _ _ (iblk1 V c 0 t) (iblk1 V c 1 t) (iblk1 V c 2 t) (iblk1 V c 3 t) (iblk1 V c 4 t)).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, ⟨%e5, H5⟩, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover1_A_5 c _ _ _ _ _ _ _ _ _ _ _ _ _ _ _ _ _ _ _ _)
  unfold owns; iexists _; isplitr
  swap; · iexact H6
  ipureintro; exact View.read_writes_of_cover _ _ _ _ _ (cover1_A_6 c _ _ _ _ _ _ _ _ _ _ _ _ _ _ _ _ _ _ _ _)

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen

end
-- ==== Proof.KernelIdealRun.Region2.lean ====
/- What the body of custom call 2 leaves in its windows at each grid point, and the body obligation. Program `KernelIdeal`. The layout of this module follows the launch kit. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions

variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev VO2_5 : View sig .tc .vmem S16x2048 .f32 := (Memref.whole cc2_stg5_0 : Memref sig .tc .vmem S16x2048 .f32).view

abbrev VO2_6 : View sig .tc .vmem S1x1x16 .f32 := (Memref.whole cc2_stg6_0 : Memref sig .tc .vmem S1x1x16 .f32).view

abbrev ms2_0 (t : Fin cfg2.N) : Memref sig .tc .vmem S1x2048x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8x2048 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x2048 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x2048 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x2048 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S16x2048 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x1x16 .f32 := win2_6.stage (cfg2.slots t 6)
abbrev hs2_6 (t : Fin cfg2.N) : (ms2_6 t).IsWhole := hstage2_6 ((cfg2.slots t 6).cast nbuf2_6)

set_option maxHeartbeats 1000000 in
noncomputable def kernelRun2_A (c : Dev nD) (i : grid2.Coords) (arg1 : Memref sig .tc .vmem S1x2048x2048 .f32) (harg1 : arg1.IsWhole) (arg2 : Memref sig .tc .vmem S8x2048 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S16x2048 .f32) (harg6 : arg6.IsWhole) (arg7 : Memref sig .tc .vmem S1x1x16 .f32) (harg7 : arg7.IsWhole)
    (x0 : Vec F S1x2048x2048 .f32) (x1 : Vec F S8x2048 .f32) (x2 : Vec F S128x2048 .f32) (x3 : Vec F S1x2048 .f32) (x4 : Vec F S1x2048 .f32) :
    Σ' (L5 : List (View.Piece (Elt F) S16x2048 .f32)), { L6 : List (View.Piece (Elt F) S1x1x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)) -∗ K ⟨⟩))
          ⊢ wp frame (wpE (defs₀ (F := F)) Variants.none c none) E (cc2__k2_body i arg1 harg1 arg2 harg2 arg3 harg3 arg4 harg4 arg5 harg5 arg6 harg6 arg7 harg7) K } := by
  refine ⟨?_, ?_, fun E K => ?run⟩
  case run =>
    simp only [cc2__k2_body_eq_skeleton]; unfold cc2__k2_body_skel
    simp only [k2_part1_eq_skeleton, k2_part2_eq_skeleton, k2_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact H6

theorem cover2_A_5 (c : Dev nD) (i : grid2.Coords) (arg1 : Memref sig .tc .vmem S1x2048x2048 .f32) (harg1 : arg1.IsWhole) (arg2 : Memref sig .tc .vmem S8x2048 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S16x2048 .f32) (harg6 : arg6.IsWhole) (arg7 : Memref sig .tc .vmem S1x1x16 .f32) (harg7 : arg7.IsWhole)
    (x0 : Vec F S1x2048x2048 .f32) (x1 : Vec F S8x2048 .f32) (x2 : Vec F S128x2048 .f32) (x3 : Vec F S1x2048 .f32) (x4 : Vec F S1x2048 .f32) (y : S16x2048.Idx) :
    ∃ pc ∈ (kernelRun2_A c i arg1 harg1 arg2 harg2 arg3 harg3 arg4 harg4 arg5 harg5 arg6 harg6 arg7 harg7 x0 x1 x2 x3 x4).1, y ∈ pc.1.set :=
  View.cover_of_tiledL (kernelRun2_A c i arg1 harg1 arg2 harg2 arg3 harg3 arg4 harg4 arg5 harg5 arg6 harg6 arg7 harg7 x0 x1 x2 x3 x4).1 S16x2048.size (by sl_kernel_rfl) y

def out2_A_5 (c : Dev nD) (i : grid2.Coords) (arg1 : Memref sig .tc .vmem S1x2048x2048 .f32) (harg1 : arg1.IsWhole) (arg2 : Memref sig .tc .vmem S8x2048 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S16x2048 .f32) (harg6 : arg6.IsWhole) (arg7 : Memref sig .tc .vmem S1x1x16 .f32) (harg7 : arg7.IsWhole)
    (x0 : Vec F S1x2048x2048 .f32) (x1 : Vec F S8x2048 .f32) (x2 : Vec F S128x2048 .f32) (x3 : Vec F S1x2048 .f32) (x4 : Vec F S1x2048 .f32) : Vec F S16x2048 .f32 :=
  VO2_5.read (Elt F) (VO2_5.writes (Elt F) VO2_5.junk (kernelRun2_A c i arg1 harg1 arg2 harg2 arg3 harg3 arg4 harg4 arg5 harg5 arg6 harg6 arg7 harg7 x0 x1 x2 x3 x4).1)

theorem cover2_A_6 (c : Dev nD) (i : grid2.Coords) (arg1 : Memref sig .tc .vmem S1x2048x2048 .f32) (harg1 : arg1.IsWhole) (arg2 : Memref sig .tc .vmem S8x2048 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S16x2048 .f32) (harg6 : arg6.IsWhole) (arg7 : Memref sig .tc .vmem S1x1x16 .f32) (harg7 : arg7.IsWhole)
    (x0 : Vec F S1x2048x2048 .f32) (x1 : Vec F S8x2048 .f32) (x2 : Vec F S128x2048 .f32) (x3 : Vec F S1x2048 .f32) (x4 : Vec F S1x2048 .f32) (y : S1x1x16.Idx) :
    ∃ pc ∈ (kernelRun2_A c i arg1 harg1 arg2 harg2 arg3 harg3 arg4 harg4 arg5 harg5 arg6 harg6 arg7 harg7 x0 x1 x2 x3 x4).2.1, y ∈ pc.1.set :=
  View.cover_of_tiledL (kernelRun2_A c i arg1 harg1 arg2 harg2 arg3 harg3 arg4 harg4 arg5 harg5 arg6 harg6 arg7 harg7 x0 x1 x2 x3 x4).2.1 S1x1x16.size (by sl_kernel_rfl) y

def out2_A_6 (c : Dev nD) (i : grid2.Coords) (arg1 : Memref sig .tc .vmem S1x2048x2048 .f32) (harg1 : arg1.IsWhole) (arg2 : Memref sig .tc .vmem S8x2048 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S16x2048 .f32) (harg6 : arg6.IsWhole) (arg7 : Memref sig .tc .vmem S1x1x16 .f32) (harg7 : arg7.IsWhole)
    (x0 : Vec F S1x2048x2048 .f32) (x1 : Vec F S8x2048 .f32) (x2 : Vec F S128x2048 .f32) (x3 : Vec F S1x2048 .f32) (x4 : Vec F S1x2048 .f32) : Vec F S1x1x16 .f32 :=
  VO2_6.read (Elt F) (VO2_6.writes (Elt F) VO2_6.junk (kernelRun2_A c i arg1 harg1 arg2 harg2 arg3 harg3 arg4 harg4 arg5 harg5 arg6 harg6 arg7 harg7 x0 x1 x2 x3 x4).2.1)

def outsAt2 (c : Dev nD) (t : Fin cfg2.N) : Vec F S16x2048 .f32 × Vec F S1x1x16 .f32 :=
  (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (iblk2 V c 0 t) (iblk2 V c 1 t) (iblk2 V c 2 t) (iblk2 V c 3 t) (iblk2 V c 4 t), out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (iblk2 V c 0 t) (iblk2 V c 1 t) (iblk2 V c 2 t) (iblk2 V c 3 t) (iblk2 V c 4 t))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t).1
    | ⟨6, _⟩ => (outsAt2 V c t).2
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t).1 := by dsimp only [dat2]
theorem after2_6 (c : Dev nD) (t : Fin cfg2.N) : (dat2 V c).after 6 t = (outsAt2 V c t).2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  unfold outsAt2
  unfold out2_A_5 out2_A_6; (try dsimp only)
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun2_A c (grid2.coords t) _ _ _ _ _ _ _ _ _ _ _ _ _ _ (iblk2 V c 0 t) (iblk2 V c 1 t) (iblk2 V c 2 t) (iblk2 V c 3 t) (iblk2 V c 4 t)).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, ⟨%e5, H5⟩, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover2_A_5 c _ _ _ _ _ _ _ _ _ _ _ _ _ _ _ _ _ _ _ _)
  unfold owns; iexists _; isplitr
  swap; · iexact H6
  ipureintro; exact View.read_writes_of_cover _ _ _ _ _ (cover2_A_6 c _ _ _ _ _ _ _ _ _ _ _ _ _ _ _ _ _ _ _ _)

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Gen

end
-- ==== Proof.KernelIdealRun.Region3.lean ====
/- What the body of custom call 3 leaves in its windows at each grid point, and the body obligation. Program `KernelIdeal`. The layout of this module follows the launch kit. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions

variable (V : (c : Dev nD) → (b : Ref sig .tc) → Buf (Elt F) ((c : Thread nD τ).loc b))

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S8x16 := Rect.unit (s := S8x16) ![0, 0] S8x16.size inb_S8x16_S8x16_0_0
abbrev r3_1 : Rect S128x2048 := Rect.unit (s := S128x2048) ![0, 0] S8x2048.size inb_S128x2048_S8x2048_0_0
abbrev r3_2 : Rect S2048x2048 := Rect.unit (s := S2048x2048) ![0, 0] S128x2048.size inb_S2048x2048_S128x2048_0_0
abbrev r3_3 : Rect S128x2048 := Rect.unit (s := S128x2048) ![8, 0] S8x2048.size inb_S128x2048_S8x2048_8_0
abbrev r3_4 : Rect S2048x2048 := Rect.unit (s := S2048x2048) ![128, 0] S128x2048.size inb_S2048x2048_S128x2048_128_0
abbrev r3_5 : Rect S128x2048 := Rect.unit (s := S128x2048) ![16, 0] S8x2048.size inb_S128x2048_S8x2048_16_0
abbrev r3_6 : Rect S2048x2048 := Rect.unit (s := S2048x2048) ![256, 0] S128x2048.size inb_S2048x2048_S128x2048_256_0
abbrev r3_7 : Rect S128x2048 := Rect.unit (s := S128x2048) ![24, 0] S8x2048.size inb_S128x2048_S8x2048_24_0
abbrev r3_8 : Rect S2048x2048 := Rect.unit (s := S2048x2048) ![384, 0] S128x2048.size inb_S2048x2048_S128x2048_384_0
abbrev r3_9 : Rect S128x2048 := Rect.unit (s := S128x2048) ![32, 0] S8x2048.size inb_S128x2048_S8x2048_32_0
abbrev r3_10 : Rect S2048x2048 := Rect.unit (s := S2048x2048) ![512, 0] S128x2048.size inb_S2048x2048_S128x2048_512_0
abbrev r3_11 : Rect S128x2048 := Rect.unit (s := S128x2048) ![40, 0] S8x2048.size inb_S128x2048_S8x2048_40_0
abbrev r3_12 : Rect S2048x2048 := Rect.unit (s := S2048x2048) ![640, 0] S128x2048.size inb_S2048x2048_S128x2048_640_0
abbrev r3_13 : Rect S128x2048 := Rect.unit (s := S128x2048) ![48, 0] S8x2048.size inb_S128x2048_S8x2048_48_0
abbrev r3_14 : Rect S2048x2048 := Rect.unit (s := S2048x2048) ![768, 0] S128x2048.size inb_S2048x2048_S128x2048_768_0
abbrev r3_15 : Rect S128x2048 := Rect.unit (s := S128x2048) ![56, 0] S8x2048.size inb_S128x2048_S8x2048_56_0
abbrev r3_16 : Rect S2048x2048 := Rect.unit (s := S2048x2048) ![896, 0] S128x2048.size inb_S2048x2048_S128x2048_896_0
abbrev r3_17 : Rect S128x2048 := Rect.unit (s := S128x2048) ![64, 0] S8x2048.size inb_S128x2048_S8x2048_64_0
abbrev r3_18 : Rect S2048x2048 := Rect.unit (s := S2048x2048) ![1024, 0] S128x2048.size inb_S2048x2048_S128x2048_1024_0
abbrev r3_19 : Rect S128x2048 := Rect.unit (s := S128x2048) ![72, 0] S8x2048.size inb_S128x2048_S8x2048_72_0
abbrev r3_20 : Rect S2048x2048 := Rect.unit (s := S2048x2048) ![1152, 0] S128x2048.size inb_S2048x2048_S128x2048_1152_0
abbrev r3_21 : Rect S128x2048 := Rect.unit (s := S128x2048) ![80, 0] S8x2048.size inb_S128x2048_S8x2048_80_0
abbrev r3_22 : Rect S2048x2048 := Rect.unit (s := S2048x2048) ![1280, 0] S128x2048.size inb_S2048x2048_S128x2048_1280_0
abbrev r3_23 : Rect S128x2048 := Rect.unit (s := S128x2048) ![88, 0] S8x2048.size inb_S128x2048_S8x2048_88_0
abbrev r3_24 : Rect S2048x2048 := Rect.unit (s := S2048x2048) ![1408, 0] S128x2048.size inb_S2048x2048_S128x2048_1408_0
abbrev r3_25 : Rect S128x2048 := Rect.unit (s := S128x2048) ![96, 0] S8x2048.size inb_S128x2048_S8x2048_96_0
abbrev r3_26 : Rect S2048x2048 := Rect.unit (s := S2048x2048) ![1536, 0] S128x2048.size inb_S2048x2048_S128x2048_1536_0
abbrev r3_27 : Rect S128x2048 := Rect.unit (s := S128x2048) ![104, 0] S8x2048.size inb_S128x2048_S8x2048_104_0
abbrev r3_28 : Rect S2048x2048 := Rect.unit (s := S2048x2048) ![1664, 0] S128x2048.size inb_S2048x2048_S128x2048_1664_0
abbrev r3_29 : Rect S128x2048 := Rect.unit (s := S128x2048) ![112, 0] S8x2048.size inb_S128x2048_S8x2048_112_0
abbrev r3_30 : Rect S2048x2048 := Rect.unit (s := S2048x2048) ![1792, 0] S128x2048.size inb_S2048x2048_S128x2048_1792_0
abbrev r3_31 : Rect S128x2048 := Rect.unit (s := S128x2048) ![120, 0] S8x2048.size inb_S128x2048_S8x2048_120_0
abbrev r3_32 : Rect S2048x2048 := Rect.unit (s := S2048x2048) ![1920, 0] S128x2048.size inb_S2048x2048_S128x2048_1920_0
abbrev r3_33 : Rect S1x1x2048 := Rect.unit (s := S1x1x2048) ![0, 0, 0] S1x1x2048.size inb_S1x1x2048_S1x1x2048_0_0_0
abbrev r3_34 : Rect S2048x2048 := Rect.unit (s := S2048x2048) ![0, 0] S2048x2048.size inb_S2048x2048_S2048x2048_0_0
abbrev r3_35 : Rect S1x2048 := Rect.unit (s := S1x2048) ![0, 0] S1x2048.size inb_S1x2048_S1x2048_0_0
abbrev r3_36 : Rect S16x2048 := Rect.unit (s := S16x2048) ![0, 0] S8x2048.size inb_S16x2048_S8x2048_0_0
abbrev r3_37 : Rect S16x2048 := Rect.unit (s := S16x2048) ![8, 0] S8x2048.size inb_S16x2048_S8x2048_8_0

def k3_pay43 (x0 : Vec F S128x2048 .f32) (x1 : Vec F S128x2048 .f32) (x2 : Vec F S8x16 .f32) (x3 : Vec F S8x16 .f32) (x4 : Vec F S2048x2048 .f32) (x5 : Vec F S1x1x2048 .f32) (x6 : Vec F S2048x2048 .f32) (x7 : Vec F S1x2048 .f32) (x8 : Vec F S1x2048 .f32) : FVec F S8x16 .f32 :=
  k3_pay2 (View.ld x2 r3_0)
def k3_pay44 (x0 : Vec F S128x2048 .f32) (x1 : Vec F S128x2048 .f32) (x2 : Vec F S8x16 .f32) (x3 : Vec F S8x16 .f32) (x4 : Vec F S2048x2048 .f32) (x5 : Vec F S1x1x2048 .f32) (x6 : Vec F S2048x2048 .f32) (x7 : Vec F S1x2048 .f32) (x8 : Vec F S1x2048 .f32) : FVec F S8x128 .f32 :=
  k3_pay3 (View.ld x2 r3_0) (View.ld x0 r3_1) (View.ld x4 r3_2)
def k3_pay45 (x0 : Vec F S128x2048 .f32) (x1 : Vec F S128x2048 .f32) (x2 : Vec F S8x16 .f32) (x3 : Vec F S8x16 .f32) (x4 : Vec F S2048x2048 .f32) (x5 : Vec F S1x1x2048 .f32) (x6 : Vec F S2048x2048 .f32) (x7 : Vec F S1x2048 .f32) (x8 : Vec F S1x2048 .f32) : FVec F S8x128 .f32 :=
  k3_pay4 (View.ld x2 r3_0) (View.ld x0 r3_3) (View.ld x4 r3_4)
def k3_pay46 (x0 : Vec F S128x2048 .f32) (x1 : Vec F S128x2048 .f32) (x2 : Vec F S8x16 .f32) (x3 : Vec F S8x16 .f32) (x4 : Vec F S2048x2048 .f32) (x5 : Vec F S1x1x2048 .f32) (x6 : Vec F S2048x2048 .f32) (x7 : Vec F S1x2048 .f32) (x8 : Vec F S1x2048 .f32) : FVec F S8x128 .f32 :=
  k3_pay5 (View.ld x2 r3_0) (View.ld x0 r3_5) (View.ld x4 r3_6)
def k3_pay47 (x0 : Vec F S128x2048 .f32) (x1 : Vec F S128x2048 .f32) (x2 : Vec F S8x16 .f32) (x3 : Vec F S8x16 .f32) (x4 : Vec F S2048x2048 .f32) (x5 : Vec F S1x1x2048 .f32) (x6 : Vec F S2048x2048 .f32) (x7 : Vec F S1x2048 .f32) (x8 : Vec F S1x2048 .f32) : FVec F S8x128 .f32 :=
  k3_pay6 (View.ld x2 r3_0) (View.ld x0 r3_7) (View.ld x4 r3_8)
def k3_pay48 (x0 : Vec F S128x2048 .f32) (x1 : Vec F S128x2048 .f32) (x2 : Vec F S8x16 .f32) (x3 : Vec F S8x16 .f32) (x4 : Vec F S2048x2048 .f32) (x5 : Vec F S1x1x2048 .f32) (x6 : Vec F S2048x2048 .f32) (x7 : Vec F S1x2048 .f32) (x8 : Vec F S1x2048 .f32) : FVec F S8x128 .f32 :=
  k3_pay8 (k3_pay43 x0 x1 x2 x3 x4 x5 x6 x7 x8) (k3_pay7 (View.ld x0 r3_9)) (View.ld x4 r3_10)
def k3_pay49 (x0 : Vec F S128x2048 .f32) (x1 : Vec F S128x2048 .f32) (x2 : Vec F S8x16 .f32) (x3 : Vec F S8x16 .f32) (x4 : Vec F S2048x2048 .f32) (x5 : Vec F S1x1x2048 .f32) (x6 : Vec F S2048x2048 .f32) (x7 : Vec F S1x2048 .f32) (x8 : Vec F S1x2048 .f32) : FVec F S8x128 .f32 :=
  k3_pay9 (k3_pay43 x0 x1 x2 x3 x4 x5 x6 x7 x8) (View.ld x0 r3_11) (View.ld x4 r3_12)
def k3_pay50 (x0 : Vec F S128x2048 .f32) (x1 : Vec F S128x2048 .f32) (x2 : Vec F S8x16 .f32) (x3 : Vec F S8x16 .f32) (x4 : Vec F S2048x2048 .f32) (x5 : Vec F S1x1x2048 .f32) (x6 : Vec F S2048x2048 .f32) (x7 : Vec F S1x2048 .f32) (x8 : Vec F S1x2048 .f32) : FVec F S8x128 .f32 :=
  k3_pay10 (k3_pay43 x0 x1 x2 x3 x4 x5 x6 x7 x8) (View.ld x0 r3_13) (View.ld x4 r3_14)
def k3_pay51 (x0 : Vec F S128x2048 .f32) (x1 : Vec F S128x2048 .f32) (x2 : Vec F S8x16 .f32) (x3 : Vec F S8x16 .f32) (x4 : Vec F S2048x2048 .f32) (x5 : Vec F S1x1x2048 .f32) (x6 : Vec F S2048x2048 .f32) (x7 : Vec F S1x2048 .f32) (x8 : Vec F S1x2048 .f32) : FVec F S8x128 .f32 :=
  k3_pay11 (k3_pay43 x0 x1 x2 x3 x4 x5 x6 x7 x8) (View.ld x0 r3_15) (View.ld x4 r3_16)
def k3_pay52 (x0 : Vec F S128x2048 .f32) (x1 : Vec F S128x2048 .f32) (x2 : Vec F S8x16 .f32) (x3 : Vec F S8x16 .f32) (x4 : Vec F S2048x2048 .f32) (x5 : Vec F S1x1x2048 .f32) (x6 : Vec F S2048x2048 .f32) (x7 : Vec F S1x2048 .f32) (x8 : Vec F S1x2048 .f32) : FVec F S8x128 .f32 :=
  k3_pay12 (k3_pay43 x0 x1 x2 x3 x4 x5 x6 x7 x8) (View.ld x0 r3_17) (View.ld x4 r3_18)
def k3_pay53 (x0 : Vec F S128x2048 .f32) (x1 : Vec F S128x2048 .f32) (x2 : Vec F S8x16 .f32) (x3 : Vec F S8x16 .f32) (x4 : Vec F S2048x2048 .f32) (x5 : Vec F S1x1x2048 .f32) (x6 : Vec F S2048x2048 .f32) (x7 : Vec F S1x2048 .f32) (x8 : Vec F S1x2048 .f32) : FVec F S8x128 .f32 :=
  k3_pay14 (k3_pay43 x0 x1 x2 x3 x4 x5 x6 x7 x8) (k3_pay13 (View.ld x0 r3_19)) (View.ld x4 r3_20)
def k3_pay54 (x0 : Vec F S128x2048 .f32) (x1 : Vec F S128x2048 .f32) (x2 : Vec F S8x16 .f32) (x3 : Vec F S8x16 .f32) (x4 : Vec F S2048x2048 .f32) (x5 : Vec F S1x1x2048 .f32) (x6 : Vec F S2048x2048 .f32) (x7 : Vec F S1x2048 .f32) (x8 : Vec F S1x2048 .f32) : FVec F S8x128 .f32 :=
  k3_pay15 (k3_pay43 x0 x1 x2 x3 x4 x5 x6 x7 x8) (View.ld x0 r3_21) (View.ld x4 r3_22)
def k3_pay55 (x0 : Vec F S128x2048 .f32) (x1 : Vec F S128x2048 .f32) (x2 : Vec F S8x16 .f32) (x3 : Vec F S8x16 .f32) (x4 : Vec F S2048x2048 .f32) (x5 : Vec F S1x1x2048 .f32) (x6 : Vec F S2048x2048 .f32) (x7 : Vec F S1x2048 .f32) (x8 : Vec F S1x2048 .f32) : FVec F S8x128 .f32 :=
  k3_pay16 (k3_pay43 x0 x1 x2 x3 x4 x5 x6 x7 x8) (View.ld x0 r3_23) (View.ld x4 r3_24)
def k3_pay56 (x0 : Vec F S128x2048 .f32) (x1 : Vec F S128x2048 .f32) (x2 : Vec F S8x16 .f32) (x3 : Vec F S8x16 .f32) (x4 : Vec F S2048x2048 .f32) (x5 : Vec F S1x1x2048 .f32) (x6 : Vec F S2048x2048 .f32) (x7 : Vec F S1x2048 .f32) (x8 : Vec F S1x2048 .f32) : FVec F S8x128 .f32 :=
  k3_pay17 (k3_pay43 x0 x1 x2 x3 x4 x5 x6 x7 x8) (View.ld x0 r3_25) (View.ld x4 r3_26)
def k3_pay57 (x0 : Vec F S128x2048 .f32) (x1 : Vec F S128x2048 .f32) (x2 : Vec F S8x16 .f32) (x3 : Vec F S8x16 .f32) (x4 : Vec F S2048x2048 .f32) (x5 : Vec F S1x1x2048 .f32) (x6 : Vec F S2048x2048 .f32) (x7 : Vec F S1x2048 .f32) (x8 : Vec F S1x2048 .f32) : FVec F S8x128 .f32 :=
  k3_pay18 (k3_pay43 x0 x1 x2 x3 x4 x5 x6 x7 x8) (View.ld x0 r3_27) (View.ld x4 r3_28)
def k3_pay58 (x0 : Vec F S128x2048 .f32) (x1 : Vec F S128x2048 .f32) (x2 : Vec F S8x16 .f32) (x3 : Vec F S8x16 .f32) (x4 : Vec F S2048x2048 .f32) (x5 : Vec F S1x1x2048 .f32) (x6 : Vec F S2048x2048 .f32) (x7 : Vec F S1x2048 .f32) (x8 : Vec F S1x2048 .f32) : FVec F S8x2048 .f32 :=
  k3_pay19 (View.ld x0 r3_29)
def k3_pay59 (x0 : Vec F S128x2048 .f32) (x1 : Vec F S128x2048 .f32) (x2 : Vec F S8x16 .f32) (x3 : Vec F S8x16 .f32) (x4 : Vec F S2048x2048 .f32) (x5 : Vec F S1x1x2048 .f32) (x6 : Vec F S2048x2048 .f32) (x7 : Vec F S1x2048 .f32) (x8 : Vec F S1x2048 .f32) : FVec F S8x16 .f32 :=
  k3_pay22 (View.ld x3 r3_0)
def k3_pay60 (x0 : Vec F S128x2048 .f32) (x1 : Vec F S128x2048 .f32) (x2 : Vec F S8x16 .f32) (x3 : Vec F S8x16 .f32) (x4 : Vec F S2048x2048 .f32) (x5 : Vec F S1x1x2048 .f32) (x6 : Vec F S2048x2048 .f32) (x7 : Vec F S1x2048 .f32) (x8 : Vec F S1x2048 .f32) : FVec F S8x128 .f32 :=
  k3_pay23 (View.ld x3 r3_0) (View.ld x1 r3_1) (View.ld x4 r3_2)
def k3_pay61 (x0 : Vec F S128x2048 .f32) (x1 : Vec F S128x2048 .f32) (x2 : Vec F S8x16 .f32) (x3 : Vec F S8x16 .f32) (x4 : Vec F S2048x2048 .f32) (x5 : Vec F S1x1x2048 .f32) (x6 : Vec F S2048x2048 .f32) (x7 : Vec F S1x2048 .f32) (x8 : Vec F S1x2048 .f32) : FVec F S8x128 .f32 :=
  k3_pay24 (View.ld x3 r3_0) (View.ld x1 r3_3) (View.ld x4 r3_4)
def k3_pay62 (x0 : Vec F S128x2048 .f32) (x1 : Vec F S128x2048 .f32) (x2 : Vec F S8x16 .f32) (x3 : Vec F S8x16 .f32) (x4 : Vec F S2048x2048 .f32) (x5 : Vec F S1x1x2048 .f32) (x6 : Vec F S2048x2048 .f32) (x7 : Vec F S1x2048 .f32) (x8 : Vec F S1x2048 .f32) : FVec F S8x128 .f32 :=
  k3_pay25 (View.ld x3 r3_0) (View.ld x1 r3_5) (View.ld x4 r3_6)
def k3_pay63 (x0 : Vec F S128x2048 .f32) (x1 : Vec F S128x2048 .f32) (x2 : Vec F S8x16 .f32) (x3 : Vec F S8x16 .f32) (x4 : Vec F S2048x2048 .f32) (x5 : Vec F S1x1x2048 .f32) (x6 : Vec F S2048x2048 .f32) (x7 : Vec F S1x2048 .f32) (x8 : Vec F S1x2048 .f32) : FVec F S8x128 .f32 :=
  k3_pay26 (View.ld x3 r3_0) (View.ld x1 r3_7) (View.ld x4 r3_8)
def k3_pay64 (x0 : Vec F S128x2048 .f32) (x1 : Vec F S128x2048 .f32) (x2 : Vec F S8x16 .f32) (x3 : Vec F S8x16 .f32) (x4 : Vec F S2048x2048 .f32) (x5 : Vec F S1x1x2048 .f32) (x6 : Vec F S2048x2048 .f32) (x7 : Vec F S1x2048 .f32) (x8 : Vec F S1x2048 .f32) : FVec F S8x128 .f32 :=
  k3_pay28 (k3_pay59 x0 x1 x2 x3 x4 x5 x6 x7 x8) (k3_pay27 (View.ld x1 r3_9)) (View.ld x4 r3_10)
def k3_pay65 (x0 : Vec F S128x2048 .f32) (x1 : Vec F S128x2048 .f32) (x2 : Vec F S8x16 .f32) (x3 : Vec F S8x16 .f32) (x4 : Vec F S2048x2048 .f32) (x5 : Vec F S1x1x2048 .f32) (x6 : Vec F S2048x2048 .f32) (x7 : Vec F S1x2048 .f32) (x8 : Vec F S1x2048 .f32) : FVec F S8x128 .f32 :=
  k3_pay29 (k3_pay59 x0 x1 x2 x3 x4 x5 x6 x7 x8) (View.ld x1 r3_11) (View.ld x4 r3_12)
def k3_pay66 (x0 : Vec F S128x2048 .f32) (x1 : Vec F S128x2048 .f32) (x2 : Vec F S8x16 .f32) (x3 : Vec F S8x16 .f32) (x4 : Vec F S2048x2048 .f32) (x5 : Vec F S1x1x2048 .f32) (x6 : Vec F S2048x2048 .f32) (x7 : Vec F S1x2048 .f32) (x8 : Vec F S1x2048 .f32) : FVec F S8x128 .f32 :=
  k3_pay30 (k3_pay59 x0 x1 x2 x3 x4 x5 x6 x7 x8) (View.ld x1 r3_13) (View.ld x4 r3_14)
def k3_pay67 (x0 : Vec F S128x2048 .f32) (x1 : Vec F S128x2048 .f32) (x2 : Vec F S8x16 .f32) (x3 : Vec F S8x16 .f32) (x4 : Vec F S2048x2048 .f32) (x5 : Vec F S1x1x2048 .f32) (x6 : Vec F S2048x2048 .f32) (x7 : Vec F S1x2048 .f32) (x8 : Vec F S1x2048 .f32) : FVec F S8x128 .f32 :=
  k3_pay31 (k3_pay59 x0 x1 x2 x3 x4 x5 x6 x7 x8) (View.ld x1 r3_15) (View.ld x4 r3_16)
def k3_pay68 (x0 : Vec F S128x2048 .f32) (x1 : Vec F S128x2048 .f32) (x2 : Vec F S8x16 .f32) (x3 : Vec F S8x16 .f32) (x4 : Vec F S2048x2048 .f32) (x5 : Vec F S1x1x2048 .f32) (x6 : Vec F S2048x2048 .f32) (x7 : Vec F S1x2048 .f32) (x8 : Vec F S1x2048 .f32) : FVec F S8x128 .f32 :=
  k3_pay32 (k3_pay59 x0 x1 x2 x3 x4 x5 x6 x7 x8) (View.ld x1 r3_17) (View.ld x4 r3_18)
def k3_pay69 (x0 : Vec F S128x2048 .f32) (x1 : Vec F S128x2048 .f32) (x2 : Vec F S8x16 .f32) (x3 : Vec F S8x16 .f32) (x4 : Vec F S2048x2048 .f32) (x5 : Vec F S1x1x2048 .f32) (x6 : Vec F S2048x2048 .f32) (x7 : Vec F S1x2048 .f32) (x8 : Vec F S1x2048 .f32) : FVec F S8x128 .f32 :=
  k3_pay34 (k3_pay59 x0 x1 x2 x3 x4 x5 x6 x7 x8) (k3_pay33 (View.ld x1 r3_19)) (View.ld x4 r3_20)
def k3_pay70 (x0 : Vec F S128x2048 .f32) (x1 : Vec F S128x2048 .f32) (x2 : Vec F S8x16 .f32) (x3 : Vec F S8x16 .f32) (x4 : Vec F S2048x2048 .f32) (x5 : Vec F S1x1x2048 .f32) (x6 : Vec F S2048x2048 .f32) (x7 : Vec F S1x2048 .f32) (x8 : Vec F S1x2048 .f32) : FVec F S8x128 .f32 :=
  k3_pay35 (k3_pay59 x0 x1 x2 x3 x4 x5 x6 x7 x8) (View.ld x1 r3_21) (View.ld x4 r3_22)
def k3_pay71 (x0 : Vec F S128x2048 .f32) (x1 : Vec F S128x2048 .f32) (x2 : Vec F S8x16 .f32) (x3 : Vec F S8x16 .f32) (x4 : Vec F S2048x2048 .f32) (x5 : Vec F S1x1x2048 .f32) (x6 : Vec F S2048x2048 .f32) (x7 : Vec F S1x2048 .f32) (x8 : Vec F S1x2048 .f32) : FVec F S8x128 .f32 :=
  k3_pay36 (k3_pay59 x0 x1 x2 x3 x4 x5 x6 x7 x8) (View.ld x1 r3_23) (View.ld x4 r3_24)
def k3_pay72 (x0 : Vec F S128x2048 .f32) (x1 : Vec F S128x2048 .f32) (x2 : Vec F S8x16 .f32) (x3 : Vec F S8x16 .f32) (x4 : Vec F S2048x2048 .f32) (x5 : Vec F S1x1x2048 .f32) (x6 : Vec F S2048x2048 .f32) (x7 : Vec F S1x2048 .f32) (x8 : Vec F S1x2048 .f32) : FVec F S8x128 .f32 :=
  k3_pay37 (k3_pay59 x0 x1 x2 x3 x4 x5 x6 x7 x8) (View.ld x1 r3_25) (View.ld x4 r3_26)
def k3_pay73 (x0 : Vec F S128x2048 .f32) (x1 : Vec F S128x2048 .f32) (x2 : Vec F S8x16 .f32) (x3 : Vec F S8x16 .f32) (x4 : Vec F S2048x2048 .f32) (x5 : Vec F S1x1x2048 .f32) (x6 : Vec F S2048x2048 .f32) (x7 : Vec F S1x2048 .f32) (x8 : Vec F S1x2048 .f32) : FVec F S8x128 .f32 :=
  k3_pay38 (k3_pay59 x0 x1 x2 x3 x4 x5 x6 x7 x8) (View.ld x1 r3_27) (View.ld x4 r3_28)
def k3_pay74 (x0 : Vec F S128x2048 .f32) (x1 : Vec F S128x2048 .f32) (x2 : Vec F S8x16 .f32) (x3 : Vec F S8x16 .f32) (x4 : Vec F S2048x2048 .f32) (x5 : Vec F S1x1x2048 .f32) (x6 : Vec F S2048x2048 .f32) (x7 : Vec F S1x2048 .f32) (x8 : Vec F S1x2048 .f32) : FVec F S8x2048 .f32 :=
  k3_pay39 (View.ld x1 r3_29)

def out3_9 (x0 : Vec F S128x2048 .f32) (x1 : Vec F S128x2048 .f32) (x2 : Vec F S8x16 .f32) (x3 : Vec F S8x16 .f32) (x4 : Vec F S2048x2048 .f32) (x5 : Vec F S1x1x2048 .f32) (x6 : Vec F S2048x2048 .f32) (x7 : Vec F S1x2048 .f32) (x8 : Vec F S1x2048 .f32) : Vec F S16x2048 .f32 :=
  View.canon [⟨r3_37, k3_pay40 (k3_pay59 x0 x1 x2 x3 x4 x5 x6 x7 x8) (k3_pay60 x0 x1 x2 x3 x4 x5 x6 x7 x8) (k3_pay61 x0 x1 x2 x3 x4 x5 x6 x7 x8) (k3_pay62 x0 x1 x2 x3 x4 x5 x6 x7 x8) (k3_pay63 x0 x1 x2 x3 x4 x5 x6 x7 x8) (k3_pay64 x0 x1 x2 x3 x4 x5 x6 x7 x8) (k3_pay65 x0 x1 x2 x3 x4 x5 x6 x7 x8) (k3_pay66 x0 x1 x2 x3 x4 x5 x6 x7 x8) (k3_pay67 x0 x1 x2 x3 x4 x5 x6 x7 x8) (k3_pay68 x0 x1 x2 x3 x4 x5 x6 x7 x8) (k3_pay69 x0 x1 x2 x3 x4 x5 x6 x7 x8) (k3_pay70 x0 x1 x2 x3 x4 x5 x6 x7 x8) (k3_pay71 x0 x1 x2 x3 x4 x5 x6 x7 x8) (k3_pay72 x0 x1 x2 x3 x4 x5 x6 x7 x8) (k3_pay73 x0 x1 x2 x3 x4 x5 x6 x7 x8) (k3_pay74 x0 x1 x2 x3 x4 x5 x6 x7 x8) (View.ld x4 r3_30) (View.ld x1 r3_31) (View.ld x4 r3_32) (View.ld x5 r3_33) (View.ld x6 r3_34) (View.ld x7 r3_35)⟩,
    ⟨r3_36, k3_pay20 (k3_pay43 x0 x1 x2 x3 x4 x5 x6 x7 x8) (k3_pay44 x0 x1 x2 x3 x4 x5 x6 x7 x8) (k3_pay45 x0 x1 x2 x3 x4 x5 x6 x7 x8) (k3_pay46 x0 x1 x2 x3 x4 x5 x6 x7 x8) (k3_pay47 x0 x1 x2 x3 x4 x5 x6 x7 x8) (k3_pay48 x0 x1 x2 x3 x4 x5 x6 x7 x8) (k3_pay49 x0 x1 x2 x3 x4 x5 x6 x7 x8) (k3_pay50 x0 x1 x2 x3 x4 x5 x6 x7 x8) (k3_pay51 x0 x1 x2 x3 x4 x5 x6 x7 x8) (k3_pay52 x0 x1 x2 x3 x4 x5 x6 x7 x8) (k3_pay53 x0 x1 x2 x3 x4 x5 x6 x7 x8) (k3_pay54 x0 x1 x2 x3 x4 x5 x6 x7 x8) (k3_pay55 x0 x1 x2 x3 x4 x5 x6 x7 x8) (k3_pay56 x0 x1 x2 x3 x4 x5 x6 x7 x8) (k3_pay57 x0 x1 x2 x3 x4 x5 x6 x7 x8) (k3_pay58 x0 x1 x2 x3 x4 x5 x6 x7 x8) (View.ld x4 r3_30) (View.ld x0 r3_31) (View.ld x4 r3_32) (View.ld x5 r3_33) (View.ld x6 r3_34) (View.ld x7 r3_35)⟩]

theorem cover3_9 (p0 : Vec F S8x2048 .f32) (p1 : Vec F S8x2048 .f32) (y : S16x2048.Idx) :
    ∃ pc ∈ ([⟨r3_37, p0⟩, ⟨r3_36, p1⟩] : List (View.Piece (Elt F) S16x2048 .f32)), y ∈ pc.1.set :=
  View.cover_of_tiled [⟨r3_37, p0⟩, ⟨r3_36, p1⟩] S8x2048.size (by rfl) y

def out3_10 (x0 : Vec F S128x2048 .f32) (x1 : Vec F S128x2048 .f32) (x2 : Vec F S8x16 .f32) (x3 : Vec F S8x16 .f32) (x4 : Vec F S2048x2048 .f32) (x5 : Vec F S1x1x2048 .f32) (x6 : Vec F S2048x2048 .f32) (x7 : Vec F S1x2048 .f32) (x8 : Vec F S1x2048 .f32) : Vec F S16x2048 .f32 :=
  View.canon [⟨r3_37, k3_pay1 (k3_pay41 (k3_pay59 x0 x1 x2 x3 x4 x5 x6 x7 x8) (k3_pay60 x0 x1 x2 x3 x4 x5 x6 x7 x8) (k3_pay61 x0 x1 x2 x3 x4 x5 x6 x7 x8) (k3_pay62 x0 x1 x2 x3 x4 x5 x6 x7 x8) (k3_pay63 x0 x1 x2 x3 x4 x5 x6 x7 x8) (k3_pay64 x0 x1 x2 x3 x4 x5 x6 x7 x8) (k3_pay65 x0 x1 x2 x3 x4 x5 x6 x7 x8) (k3_pay66 x0 x1 x2 x3 x4 x5 x6 x7 x8) (k3_pay67 x0 x1 x2 x3 x4 x5 x6 x7 x8) (k3_pay68 x0 x1 x2 x3 x4 x5 x6 x7 x8) (k3_pay69 x0 x1 x2 x3 x4 x5 x6 x7 x8) (k3_pay70 x0 x1 x2 x3 x4 x5 x6 x7 x8) (k3_pay71 x0 x1 x2 x3 x4 x5 x6 x7 x8) (k3_pay72 x0 x1 x2 x3 x4 x5 x6 x7 x8) (k3_pay73 x0 x1 x2 x3 x4 x5 x6 x7 x8) (k3_pay74 x0 x1 x2 x3 x4 x5 x6 x7 x8) (View.ld x4 r3_30) (View.ld x1 r3_31) (View.ld x4 r3_32) (View.ld x5 r3_33) (View.ld x6 r3_34) (View.ld x7 r3_35)) (k3_pay42 (View.ld x8 r3_35))⟩,
    ⟨r3_36, k3_pay21 (k3_pay43 x0 x1 x2 x3 x4 x5 x6 x7 x8) (k3_pay44 x0 x1 x2 x3 x4 x5 x6 x7 x8) (k3_pay45 x0 x1 x2 x3 x4 x5 x6 x7 x8) (k3_pay46 x0 x1 x2 x3 x4 x5 x6 x7 x8) (k3_pay47 x0 x1 x2 x3 x4 x5 x6 x7 x8) (k3_pay48 x0 x1 x2 x3 x4 x5 x6 x7 x8) (k3_pay49 x0 x1 x2 x3 x4 x5 x6 x7 x8) (k3_pay50 x0 x1 x2 x3 x4 x5 x6 x7 x8) (k3_pay51 x0 x1 x2 x3 x4 x5 x6 x7 x8) (k3_pay52 x0 x1 x2 x3 x4 x5 x6 x7 x8) (k3_pay53 x0 x1 x2 x3 x4 x5 x6 x7 x8) (k3_pay54 x0 x1 x2 x3 x4 x5 x6 x7 x8) (k3_pay55 x0 x1 x2 x3 x4 x5 x6 x7 x8) (k3_pay56 x0 x1 x2 x3 x4 x5 x6 x7 x8) (k3_pay57 x0 x1 x2 x3 x4 x5 x6 x7 x8) (k3_pay58 x0 x1 x2 x3 x4 x5 x6 x7 x8) (View.ld x4 r3_30) (View.ld x0 r3_31) (View.ld x4 r3_32) (View.ld x5 r3_33) (View.ld x6 r3_34) (View.ld x7 r3_35) (View.ld x8 r3_35)⟩]

theorem cover3_10 (p0 : Vec F S8x2048 .f32) (p1 : Vec F S8x2048 .f32) (y : S16x2048.Idx) :
    ∃ pc ∈ ([⟨r3_37, p0⟩, ⟨r3_36, p1⟩] : List (View.Piece (Elt F) S16x2048 .f32)), y ∈ pc.1.set :=
  View.cover_of_tiled [⟨r3_37, p0⟩, ⟨r3_36, p1⟩] S8x2048.size (by rfl) y

set_option maxHeartbeats 1000000 in
theorem sound_kernel3 (c : Dev nD) (E : Set ℕ) (i : grid3.Coords) (arg1 : Memref sig .tc .vmem S128x2048 .f32) (harg1 : arg1.IsWhole) (arg2 : Memref sig .tc .vmem S128x2048 .f32) (harg2 : arg2.IsWhole) (arg3 : Memref sig .tc .vmem S8x16 .f32) (harg3 : arg3.IsWhole) (arg4 : Memref sig .tc .vmem S8x16 .f32) (harg4 : arg4.IsWhole) (arg5 : Memref sig .tc .vmem S2048x2048 .f32) (harg5 : arg5.IsWhole) (arg6 : Memref sig .tc .vmem S1x1x2048 .f32) (harg6 : arg6.IsWhole) (arg7 : Memref sig .tc .vmem S2048x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S16x2048 .f32) (harg10 : arg10.IsWhole) (arg11 : Memref sig .tc .vmem S16x2048 .f32) (harg11 : arg11.IsWhole)
    (x0 : Vec F S128x2048 .f32) (x1 : Vec F S128x2048 .f32) (x2 : Vec F S8x16 .f32) (x3 : Vec F S8x16 .f32) (x4 : Vec F S2048x2048 .f32) (x5 : Vec F S1x1x2048 .f32) (x6 : Vec F S2048x2048 .f32) (x7 : Vec F S1x2048 .f32) (x8 : Vec F S1x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out3_9 x0 x1 x2 x3 x4 x5 x6 x7 x8) ∗ owns (c : Thread nD τ) arg11 fullShare (out3_10 x0 x1 x2 x3 x4 x5 x6 x7 x8)) -∗ K ⟨⟩))
      ⊢ wp frame (wpE (defs₀ (F := F)) Variants.none c none) E (cc3__k3_body i arg1 harg1 arg2 harg2 arg3 harg3 arg4 harg4 arg5 harg5 arg6 harg6 arg7 harg7 arg8 harg8 arg9 harg9 arg10 harg10 arg11 harg11) K := by
  simp only [cc3__k3_body_eq_skeleton]; unfold cc3__k3_body_skel
  simp only [k3_part1_eq_skeleton, k3_part2_eq_skeleton, k3_part3_eq_skeleton, k3_part4_eq_skeleton, k3_part5_eq_skeleton, k3_part6_eq_skeleton, k3_part7_eq_skeleton, k3_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (cover3_9 _ _)).trans ?_
    rfl
  iexists _; isplitr
  swap; · iexact H10
  ipureintro
  refine (View.read_writes_eq_canon _ _ _ (cover3_10 _ _)).trans ?_
  rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (iblk3 V c 0 t) (iblk3 V c 1 t) (iblk3 V c 2 t) (iblk3 V c 3 t) (iblk3 V c 4 t) (iblk3 V c 5 t) (iblk3 V c 6 t) (iblk3 V c 7 t) (iblk3 V c 8 t)
    | ⟨10, _⟩ => out3_10 (iblk3 V c 0 t) (iblk3 V c 1 t) (iblk3 V c 2 t) (iblk3 V c 3 t) (iblk3 V c 4 t) (iblk3 V c 5 t) (iblk3 V c 6 t) (iblk3 V c 7 t) (iblk3 V c 8 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = out3_9 (iblk3 V c 0 t) (iblk3 V c 1 t) (iblk3 V c 2 t) (iblk3 V c 3 t) (iblk3 V c 4 t) (iblk3 V c 5 t) (iblk3 V c 6 t) (iblk3 V c 7 t) (iblk3 V c 8 t) := by dsimp only [dat3]
theorem after3_10 (c : Dev nD) (t : Fin cfg3.N) : (dat3 V c).after 10 t = out3_10 (iblk3 V c 0 t) (iblk3 V c 1 t) (iblk3 V c 2 t) (iblk3 V c 3 t) (iblk3 V c 4 t) (iblk3 V c 5 t) (iblk3 V c 6 t) (iblk3 V c 7 t) (iblk3 V c 8 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel3 c Set.univ (grid3.coords t) _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row3 (t : Fin cfg3.N) :
    defs₀ (F := F) .tc cfg3.body (cfg3.bodyArgs t (cfg3.slots t)) = bodyAt3 t := by
  unfold defs₀; rw [Defs.onTc_tc]

theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.KernelIdeal.Gen

end
-- ==== Proof.KernelIdealRun.Region4.lean ====
/- What the body of custom call 4 leaves in its windows at each grid point, and the body obligation. Program `KernelIdeal`. The layout of this module follows the launch kit. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions

variable (V : (c : Dev nD) → (b : Ref sig .tc) → Buf (Elt F) ((c : Thread nD τ).loc b))

noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

abbrev cond4_0 (i : grid4.Coords) : Prop := k4_cond1 i = 1#1

theorem hcond4_0 : ∀ t : Fin cfg4.N, cond4_0 (grid4.coords t) ↔ t.val % 4 = 0 :=
  (fun t => by
    have ht : t.val < 4 := Nat.lt_of_lt_of_eq t.isLt N_4
    have e0 : (grid4.coords t 0).val = t.val / 1 % 4 := Pipeline.Grid.coords_val t 0 (by decide) rfl
    simp only [cond4_0, k4_cond1, e0]
    word_cmp
   : ∀ t : Fin grid4.N, cond4_0 (grid4.coords t) ↔ t.val % 4 = 0)

abbrev cond4_1 (i : grid4.Coords) : Prop := k4_cond2 i = 1#1

theorem hcond4_1 : ∀ t : Fin cfg4.N, cond4_1 (grid4.coords t) ↔ 1 ≤ t.val :=
  (fun t => by
    have ht : t.val < 4 := Nat.lt_of_lt_of_eq t.isLt N_4
    have e0 : (grid4.coords t 0).val = t.val / 1 % 4 := Pipeline.Grid.coords_val t 0 (by decide) rfl
    simp only [cond4_1, k4_cond2, e0]
    word_cmp
   : ∀ t : Fin grid4.N, cond4_1 (grid4.coords t) ↔ 1 ≤ t.val)

theorem liveAt4_0 : ∀ t : Fin cfg4.N, cfg4.idle 0 (grid4.coords t) = false := fun _ => rfl

theorem liveAt4_1 : ∀ t : Fin cfg4.N, cfg4.idle 1 (grid4.coords t) = false := fun _ => rfl

theorem liveAt4_2 : ∀ t : Fin cfg4.N, cfg4.idle 2 (grid4.coords t) = false := fun _ => rfl

theorem liveAt4_3 : ∀ t : Fin cfg4.N, cfg4.idle 3 (grid4.coords t) = false := fun _ => rfl

theorem liveAt4_4 : ∀ t : Fin cfg4.N, cfg4.idle 4 (grid4.coords t) = false := fun _ => rfl

theorem liveAt4_5 : ∀ t : Fin cfg4.N, cfg4.idle 5 (grid4.coords t) = false := fun _ => rfl

def freshTab4_6 : ℕ → Bool
  | 0 => true
  | n + 1 => (0x8 : ℕ).testBit n
theorem freshTab4_6_step : ∀ t : Fin cfg4.N,
    freshTab4_6 (t.val + 1) = ((cfg4.win 6).flush t || (cfg4.idle 6 (cfg4.grid.coords t) && freshTab4_6 t.val)) := by decide +kernel
theorem fresh4_6_eq (t : Fin cfg4.N) : cfg4.fresh 6 t.val = freshTab4_6 t.val :=
  Pipeline.Cfg.fresh_tab cfg4 6 freshTab4_6 rfl freshTab4_6_step t.val (Nat.le_of_lt t.isLt)

theorem liveAt4_6_A : ∀ t : Fin cfg4.N, cond4_0 (grid4.coords t) → ¬cond4_1 (grid4.coords t) → cfg4.idle 6 (grid4.coords t) = false := by decide +kernel

theorem liveAt4_6_B : ∀ t : Fin cfg4.N, ¬cond4_0 (grid4.coords t) → cond4_1 (grid4.coords t) → cfg4.idle 6 (grid4.coords t) = false := by decide +kernel

theorem notFresh4_6_B : ∀ t : Fin cfg4.N, ¬cond4_0 (grid4.coords t) → cond4_1 (grid4.coords t) → cfg4.fresh 6 t.val = false := by
  intro t; rw [fresh4_6_eq t]; revert t; decide +kernel

abbrev VO4_6 : View sig .tc .vmem S16x2048 .f32 := (Memref.whole cc4_stg6_0 : Memref sig .tc .vmem S16x2048 .f32).view

abbrev ms4_0 (t : Fin cfg4.N) : Memref sig .tc .vmem S16x2048 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x2048 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x2048 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x1x1024 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x1x1024 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S2048x1024 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S16x2048 .f32 := win4_6.stage (cfg4.slots t 6)
abbrev hs4_6 (t : Fin cfg4.N) : (ms4_6 t).IsWhole := hstage4_6 ((cfg4.slots t 6).cast nbuf4_6)

set_option maxHeartbeats 1000000 in
noncomputable def kernelRun4_A (c : Dev nD) (i : grid4.Coords) (arg1 : Memref sig .tc .vmem S16x2048 .f32) (harg1 : arg1.IsWhole) (arg2 : Memref sig .tc .vmem S1024x2048 .f32) (harg2 : arg2.IsWhole) (arg3 : Memref sig .tc .vmem S1024x2048 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S2048x1024 .f32) (harg6 : arg6.IsWhole) (arg7 : Memref sig .tc .vmem S16x2048 .f32) (harg7 : arg7.IsWhole) (hc0 : cond4_0 i) (hc1 : ¬cond4_1 i)
    (x0 : Vec F S16x2048 .f32) (x1 : Vec F S1024x2048 .f32) (x2 : Vec F S1024x2048 .f32) (x3 : Vec F S1x1x1024 .f32) (x4 : Vec F S1x1x1024 .f32) (x5 : Vec F S2048x1024 .f32) :
    { L6 : List (View.Piece (Elt F) S16x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6)) -∗ K ⟨⟩))
          ⊢ wp frame (wpE (defs₀ (F := F)) Variants.none c none) E (cc4__k4_body i arg1 harg1 arg2 harg2 arg3 harg3 arg4 harg4 arg5 harg5 arg6 harg6 arg7 harg7) K } := by
  refine ⟨?_, fun E K => ?run⟩
  case run =>
    simp only [cc4__k4_body_eq_skeleton]; unfold cc4__k4_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact H6

theorem cover4_A_6 (c : Dev nD) (i : grid4.Coords) (arg1 : Memref sig .tc .vmem S16x2048 .f32) (harg1 : arg1.IsWhole) (arg2 : Memref sig .tc .vmem S1024x2048 .f32) (harg2 : arg2.IsWhole) (arg3 : Memref sig .tc .vmem S1024x2048 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S2048x1024 .f32) (harg6 : arg6.IsWhole) (arg7 : Memref sig .tc .vmem S16x2048 .f32) (harg7 : arg7.IsWhole) (hc0 : cond4_0 i) (hc1 : ¬cond4_1 i)
    (x0 : Vec F S16x2048 .f32) (x1 : Vec F S1024x2048 .f32) (x2 : Vec F S1024x2048 .f32) (x3 : Vec F S1x1x1024 .f32) (x4 : Vec F S1x1x1024 .f32) (x5 : Vec F S2048x1024 .f32) (y : S16x2048.Idx) :
    ∃ pc ∈ (kernelRun4_A c i arg1 harg1 arg2 harg2 arg3 harg3 arg4 harg4 arg5 harg5 arg6 harg6 arg7 harg7 hc0 hc1 x0 x1 x2 x3 x4 x5).1, y ∈ pc.1.set :=
  View.cover_of_tiledL (kernelRun4_A c i arg1 harg1 arg2 harg2 arg3 harg3 arg4 harg4 arg5 harg5 arg6 harg6 arg7 harg7 hc0 hc1 x0 x1 x2 x3 x4 x5).1 S16x2048.size (by sl_kernel_rfl) y

def out4_A_6 (c : Dev nD) (i : grid4.Coords) (arg1 : Memref sig .tc .vmem S16x2048 .f32) (harg1 : arg1.IsWhole) (arg2 : Memref sig .tc .vmem S1024x2048 .f32) (harg2 : arg2.IsWhole) (arg3 : Memref sig .tc .vmem S1024x2048 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S2048x1024 .f32) (harg6 : arg6.IsWhole) (arg7 : Memref sig .tc .vmem S16x2048 .f32) (harg7 : arg7.IsWhole) (hc0 : cond4_0 i) (hc1 : ¬cond4_1 i)
    (x0 : Vec F S16x2048 .f32) (x1 : Vec F S1024x2048 .f32) (x2 : Vec F S1024x2048 .f32) (x3 : Vec F S1x1x1024 .f32) (x4 : Vec F S1x1x1024 .f32) (x5 : Vec F S2048x1024 .f32) : Vec F S16x2048 .f32 :=
  VO4_6.read (Elt F) (VO4_6.writes (Elt F) VO4_6.junk (kernelRun4_A c i arg1 harg1 arg2 harg2 arg3 harg3 arg4 harg4 arg5 harg5 arg6 harg6 arg7 harg7 hc0 hc1 x0 x1 x2 x3 x4 x5).1)

set_option maxHeartbeats 1000000 in
noncomputable def kernelRun4_B (c : Dev nD) (i : grid4.Coords) (arg1 : Memref sig .tc .vmem S16x2048 .f32) (harg1 : arg1.IsWhole) (arg2 : Memref sig .tc .vmem S1024x2048 .f32) (harg2 : arg2.IsWhole) (arg3 : Memref sig .tc .vmem S1024x2048 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S2048x1024 .f32) (harg6 : arg6.IsWhole) (arg7 : Memref sig .tc .vmem S16x2048 .f32) (harg7 : arg7.IsWhole) (hc0 : ¬cond4_0 i) (hc1 : cond4_1 i)
    (x0 : Vec F S16x2048 .f32) (x1 : Vec F S1024x2048 .f32) (x2 : Vec F S1024x2048 .f32) (x3 : Vec F S1x1x1024 .f32) (x4 : Vec F S1x1x1024 .f32) (x5 : Vec F S2048x1024 .f32) (xo6 : Vec F S16x2048 .f32) :
    { L6 : List (View.Piece (Elt F) S16x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6)) -∗ K ⟨⟩))
          ⊢ wp frame (wpE (defs₀ (F := F)) Variants.none c none) E (cc4__k4_body i arg1 harg1 arg2 harg2 arg3 harg3 arg4 harg4 arg5 harg5 arg6 harg6 arg7 harg7) K } := by
  refine ⟨?_, fun E K => ?run⟩
  case run =>
    simp only [cc4__k4_body_eq_skeleton]; unfold cc4__k4_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact H6

theorem cover4_B_6 (c : Dev nD) (i : grid4.Coords) (arg1 : Memref sig .tc .vmem S16x2048 .f32) (harg1 : arg1.IsWhole) (arg2 : Memref sig .tc .vmem S1024x2048 .f32) (harg2 : arg2.IsWhole) (arg3 : Memref sig .tc .vmem S1024x2048 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S2048x1024 .f32) (harg6 : arg6.IsWhole) (arg7 : Memref sig .tc .vmem S16x2048 .f32) (harg7 : arg7.IsWhole) (hc0 : ¬cond4_0 i) (hc1 : cond4_1 i)
    (x0 : Vec F S16x2048 .f32) (x1 : Vec F S1024x2048 .f32) (x2 : Vec F S1024x2048 .f32) (x3 : Vec F S1x1x1024 .f32) (x4 : Vec F S1x1x1024 .f32) (x5 : Vec F S2048x1024 .f32) (xo6 : Vec F S16x2048 .f32) (y : S16x2048.Idx) :
    ∃ pc ∈ (kernelRun4_B c i arg1 harg1 arg2 harg2 arg3 harg3 arg4 harg4 arg5 harg5 arg6 harg6 arg7 harg7 hc0 hc1 x0 x1 x2 x3 x4 x5 xo6).1, y ∈ pc.1.set :=
  View.cover_of_tiledL (kernelRun4_B c i arg1 harg1 arg2 harg2 arg3 harg3 arg4 harg4 arg5 harg5 arg6 harg6 arg7 harg7 hc0 hc1 x0 x1 x2 x3 x4 x5 xo6).1 S16x2048.size (by sl_kernel_rfl) y

def out4_B_6 (c : Dev nD) (i : grid4.Coords) (arg1 : Memref sig .tc .vmem S16x2048 .f32) (harg1 : arg1.IsWhole) (arg2 : Memref sig .tc .vmem S1024x2048 .f32) (harg2 : arg2.IsWhole) (arg3 : Memref sig .tc .vmem S1024x2048 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S2048x1024 .f32) (harg6 : arg6.IsWhole) (arg7 : Memref sig .tc .vmem S16x2048 .f32) (harg7 : arg7.IsWhole) (hc0 : ¬cond4_0 i) (hc1 : cond4_1 i)
    (x0 : Vec F S16x2048 .f32) (x1 : Vec F S1024x2048 .f32) (x2 : Vec F S1024x2048 .f32) (x3 : Vec F S1x1x1024 .f32) (x4 : Vec F S1x1x1024 .f32) (x5 : Vec F S2048x1024 .f32) (xo6 : Vec F S16x2048 .f32) : Vec F S16x2048 .f32 :=
  VO4_6.read (Elt F) (VO4_6.writes (Elt F) VO4_6.junk (kernelRun4_B c i arg1 harg1 arg2 harg2 arg3 harg3 arg4 harg4 arg5 harg5 arg6 harg6 arg7 harg7 hc0 hc1 x0 x1 x2 x3 x4 x5 xo6).1)

def outsAt4 (c : Dev nD) : (n : ℕ) → n < cfg4.N → Vec F S16x2048 .f32
  | 0, hn => out4_A_6 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩)
  | n + 1, hn =>
    if h0 : (n + 1) % 4 = 0 then
      if h1 : 1 ≤ (n + 1) then
        False.elim (by have hN : n + 1 < 4 := lt_of_lt_of_eq hn (show cfg4.N = 4 from N_4); omega)
      else
        out4_A_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩)
    else
      if h1 : 1 ≤ (n + 1) then
        out4_B_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn))
      else
        False.elim (by have hN : n + 1 < 4 := lt_of_lt_of_eq hn (show cfg4.N = 4 from N_4); omega)

theorem outsAt4_A (c : Dev nD) (t : Fin cfg4.N) (h0 : t.val % 4 = 0) (h1 : ¬1 ≤ t.val) :
    outsAt4 V c t.val t.isLt = out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) (fun h => h1 ((hcond4_1 t).mp h)) (iblk4 V c 0 t) (iblk4 V c 1 t) (iblk4 V c 2 t) (iblk4 V c 3 t) (iblk4 V c 4 t) (iblk4 V c 5 t) := by
  obtain ⟨n, hn⟩ := t
  cases n with
  | zero => exact rfl
  | succ n => exact (dif_pos h0).trans ((dif_neg h1).trans rfl)

theorem outsAt4_B (c : Dev nD) (t : Fin cfg4.N) (h0 : ¬t.val % 4 = 0) (h1 : 1 ≤ t.val) :
    outsAt4 V c t.val t.isLt = out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outsAt4 V c t.val t.isLt)
  Φ _ := Pipeline.ΦA spec4 c
  q w := Pipeline.shareOf spec4 w
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (outsAt4 V c t.val t.isLt) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

theorem hcarry4_6 (c : Dev nD) : ∀ (t : Fin cfg4.N) (_ : t.val ≠ 0), cfg4.idle 6 (grid4.coords t) = true → cfg4.fresh 6 t.val = false →
    (dat4 V c).after 6 t = (dat4 V c).after 6 ⟨t.val - 1, by omega⟩ := by
  intro t _ hi _
  have hN : t.val < 4 := lt_of_lt_of_eq t.isLt (show cfg4.N = 4 from N_4)
  rw [after4_6, after4_6]
  by_cases h0 : t.val % 4 = 0
  · by_cases h1 : 1 ≤ t.val
    · exfalso; omega
    · rw [liveAt4_6_A t ((hcond4_0 t).mpr h0) (fun h => h1 ((hcond4_1 t).mp h))] at hi
      exact absurd hi Bool.false_ne_true
  · by_cases h1 : 1 ≤ t.val
    · rw [liveAt4_6_B t (fun h => h0 ((hcond4_0 t).mp h)) ((hcond4_1 t).mpr h1)] at hi
      exact absurd hi Bool.false_ne_true
    · exfalso; omega

theorem before4_6_B (c : Dev nD) (t : Fin cfg4.N) (h0 : ¬t.val % 4 = 0) (h1 : 1 ≤ t.val) (d) :
    (dat4 V c).before 6 t d = (outsAt4 V c (t.val - 1) (Nat.lt_of_le_of_lt (Nat.sub_le _ _) t.isLt)) := by
  rw [Dat.before_out_traj _ 6 rfl (fun _ _ => rfl) (hcarry4_6 V c) t.val t rfl d,
    if_neg (by rw [notFresh4_6_B t (fun h => h0 ((hcond4_0 t).mp h)) ((hcond4_1 t).mpr h1)]; exact Bool.false_ne_true)]
  dsimp only [dat4]

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl]
  have hN : t.val < 4 := lt_of_lt_of_eq t.isLt (show cfg4.N = 4 from N_4)
  by_cases h0 : t.val % 4 = 0
  · by_cases h1 : 1 ≤ t.val
    · exfalso; omega
    · rw [show (dat4 V c).leavesExact 0 t = owns (c : Thread nD τ) (ms4_0 t) fullShare ((dat4 V c).after 0 t) from by
      unfold Dat.leavesExact; rw [liveAt4_0 t], after4_0]
      rw [show (dat4 V c).leavesExact 1 t = owns (c : Thread nD τ) (ms4_1 t) fullShare ((dat4 V c).after 1 t) from by
      unfold Dat.leavesExact; rw [liveAt4_1 t], after4_1]
      rw [show (dat4 V c).leavesExact 2 t = owns (c : Thread nD τ) (ms4_2 t) fullShare ((dat4 V c).after 2 t) from by
      unfold Dat.leavesExact; rw [liveAt4_2 t], after4_2]
      rw [show (dat4 V c).leavesExact 3 t = owns (c : Thread nD τ) (ms4_3 t) fullShare ((dat4 V c).after 3 t) from by
      unfold Dat.leavesExact; rw [liveAt4_3 t], after4_3]
      rw [show (dat4 V c).leavesExact 4 t = owns (c : Thread nD τ) (ms4_4 t) fullShare ((dat4 V c).after 4 t) from by
      unfold Dat.leavesExact; rw [liveAt4_4 t], after4_4]
      rw [show (dat4 V c).leavesExact 5 t = owns (c : Thread nD τ) (ms4_5 t) fullShare ((dat4 V c).after 5 t) from by
      unfold Dat.leavesExact; rw [liveAt4_5 t], after4_5]
      rw [show (dat4 V c).leavesExact 6 t = owns (c : Thread nD τ) (ms4_6 t) fullShare ((dat4 V c).after 6 t) from by
      unfold Dat.leavesExact; rw [liveAt4_6_A t ((hcond4_0 t).mpr h0) (fun h => h1 ((hcond4_1 t).mp h))], after4_6]
      rw [outsAt4_A V c t h0 h1]
      unfold out4_A_6
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((kernelRun4_A c (grid4.coords t) _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t) (iblk4 V c 5 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iintro ⟨H0, H1, H2, H3, H4, H5, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover4_A_6 c _ _ _ _ _ _ _ _ _ _ _ _ _ _ _ _ _ _ _ _ _ _ _)
  · by_cases h1 : 1 ≤ t.val
    · rw [show (dat4 V c).leavesExact 0 t = owns (c : Thread nD τ) (ms4_0 t) fullShare ((dat4 V c).after 0 t) from by
      unfold Dat.leavesExact; rw [liveAt4_0 t], after4_0]
      rw [show (dat4 V c).leavesExact 1 t = owns (c : Thread nD τ) (ms4_1 t) fullShare ((dat4 V c).after 1 t) from by
      unfold Dat.leavesExact; rw [liveAt4_1 t], after4_1]
      rw [show (dat4 V c).leavesExact 2 t = owns (c : Thread nD τ) (ms4_2 t) fullShare ((dat4 V c).after 2 t) from by
      unfold Dat.leavesExact; rw [liveAt4_2 t], after4_2]
      rw [show (dat4 V c).leavesExact 3 t = owns (c : Thread nD τ) (ms4_3 t) fullShare ((dat4 V c).after 3 t) from by
      unfold Dat.leavesExact; rw [liveAt4_3 t], after4_3]
      rw [show (dat4 V c).leavesExact 4 t = owns (c : Thread nD τ) (ms4_4 t) fullShare ((dat4 V c).after 4 t) from by
      unfold Dat.leavesExact; rw [liveAt4_4 t], after4_4]
      rw [show (dat4 V c).leavesExact 5 t = owns (c : Thread nD τ) (ms4_5 t) fullShare ((dat4 V c).after 5 t) from by
      unfold Dat.leavesExact; rw [liveAt4_5 t], after4_5]
      rw [show (dat4 V c).leavesExact 6 t = owns (c : Thread nD τ) (ms4_6 t) fullShare ((dat4 V c).after 6 t) from by
      unfold Dat.leavesExact; rw [liveAt4_6_B t (fun h => h0 ((hcond4_0 t).mp h)) ((hcond4_1 t).mpr h1)], after4_6]
      rw [outsAt4_B V c t h0 h1]
      simp only [before4_6_B V c t h0 h1]
      unfold out4_B_6
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((kernelRun4_B c (grid4.coords t) _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) (iblk4 V c 5 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, H5, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover4_B_6 c _ _ _ _ _ _ _ _ _ _ _ _ _ _ _ _ _ _ _ _ _ _ _ _)
    · exfalso; omega

theorem defs₀_row4 (t : Fin cfg4.N) :
    defs₀ (F := F) .tc cfg4.body (cfg4.bodyArgs t (cfg4.slots t)) = bodyAt4 t := by
  unfold defs₀; rw [Defs.onTc_tc]

theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

end Regions

end Cert.KernelIdeal.Gen

end
-- ==== Proof.KernelIdealRun.Region5.lean ====
/- What the body of custom call 5 leaves in its windows at each grid point, and the body obligation. Program `KernelIdeal`. The layout of this module follows the launch kit. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions

variable (V : (c : Dev nD) → (b : Ref sig .tc) → Buf (Elt F) ((c : Thread nD τ).loc b))

noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S16x2048 := Rect.unit (s := S16x2048) ![0, 0] S16x2048.size inb_S16x2048_S16x2048_0_0
abbrev r5_1 : Rect S1x2048 := Rect.unit (s := S1x2048) ![0, 0] S1x2048.size inb_S1x2048_S1x2048_0_0
abbrev r5_2 : Rect S8x2048 := Rect.unit (s := S8x2048) ![0, 0] S8x2048.size inb_S8x2048_S8x2048_0_0
abbrev r5_3 : Rect S1x4096 := Rect.unit (s := S1x4096) ![0, 0] S1x2048.size inb_S1x4096_S1x2048_0_0
abbrev r5_4 : Rect S1x4096 := Rect.unit (s := S1x4096) ![0, 2048] S1x2048.size inb_S1x4096_S1x2048_0_2048
abbrev r5_5 : Rect S1x1 := Rect.unit (s := S1x1) ![0, 0] S1x1.size inb_S1x1_S1x1_0_0

def out5_6 (x0 : Vec F S16x2048 .f32) (x1 : Vec F S16x2048 .f32) (x2 : Vec F S1x2048 .f32) (x3 : Vec F S8x2048 .f32) (x4 : Vec F S1x4096 .f32) (x5 : Vec F S1x1 .f32) : Vec F S8x2048 .f32 :=
  View.canon [⟨r5_2, k5_pay1 (View.ld x0 r5_0) (View.ld x1 r5_0) (View.ld x2 r5_1) (View.ld x3 r5_2) (View.ld x4 r5_3) (View.ld x4 r5_4) (View.ld x5 r5_5)⟩]

theorem cover5_6 (p0 : Vec F S8x2048 .f32) (y : S8x2048.Idx) :
    ∃ pc ∈ ([⟨r5_2, p0⟩] : List (View.Piece (Elt F) S8x2048 .f32)), y ∈ pc.1.set :=
  View.cover_of_tiled [⟨r5_2, p0⟩] S8x2048.size (by rfl) y

set_option maxHeartbeats 1000000 in
theorem sound_kernel5 (c : Dev nD) (E : Set ℕ) (i : grid5.Coords) (arg1 : Memref sig .tc .vmem S16x2048 .f32) (harg1 : arg1.IsWhole) (arg2 : Memref sig .tc .vmem S16x2048 .f32) (harg2 : arg2.IsWhole) (arg3 : Memref sig .tc .vmem S1x2048 .f32) (harg3 : arg3.IsWhole) (arg4 : Memref sig .tc .vmem S8x2048 .f32) (harg4 : arg4.IsWhole) (arg5 : Memref sig .tc .vmem S1x4096 .f32) (harg5 : arg5.IsWhole) (arg6 : Memref sig .tc .vmem S1x1 .f32) (harg6 : arg6.IsWhole) (arg7 : Memref sig .tc .vmem S8x2048 .f32) (harg7 : arg7.IsWhole)
    (x0 : Vec F S16x2048 .f32) (x1 : Vec F S16x2048 .f32) (x2 : Vec F S1x2048 .f32) (x3 : Vec F S8x2048 .f32) (x4 : Vec F S1x4096 .f32) (x5 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out5_6 x0 x1 x2 x3 x4 x5)) -∗ K ⟨⟩))
      ⊢ wp frame (wpE (defs₀ (F := F)) Variants.none c none) E (cc5__k5_body i arg1 harg1 arg2 harg2 arg3 harg3 arg4 harg4 arg5 harg5 arg6 harg6 arg7 harg7) K := by
  simp only [cc5__k5_body_eq_skeleton]; unfold cc5__k5_body_skel
  simp only [k5_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ (grid5.coords t) _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row5 (t : Fin cfg5.N) :
    defs₀ (F := F) .tc cfg5.body (cfg5.bodyArgs t (cfg5.slots t)) = bodyAt5 t := by
  unfold defs₀; rw [Defs.onTc_tc]

theorem body_obligation5 (c : Dev nD) : BodyObligation (dat5 (F := F) V c) (defs₀ (F := F)) Variants.none () Set.univ := fun t => by
  rw [bigSep_W5, bigSep_W5, defs₀_row5]
  exact triple_restated (sound_body5 V c t) rfl .rfl fun _ => .rfl

end Regions

end Cert.KernelIdeal.Gen

end
-- ==== Proof.KernelIdealRun.Hosts0.lean ====
/- The host stretches between the regions. Program `KernelIdeal`. The layout of this module follows the launch kit. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18]

theorem hostOps0_fresh : (hostOps0 : List (HloOp τ sig (Elt F))).Forall fun op => op.fresh = ∅ := by
  simp only [List.Forall]; repeat' constructor

abbrev hostOps0_W : List (Ref sig .tc) := [main_v0, main_v1, main_v2, main_v3, main_v4, main_v5, main_v6, main_v7]
theorem hostOps0_writes : (hostOps0 : List (HloOp τ sig (Elt F))).Forall fun op => op.writes ⊆ (hostOps0_W.map (Proc.devRef (τ := τ) .tc)).toFinset :=
  StableHlo.forall_writes_sub_of_map rfl

theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor

abbrev hostOps1_W : List (Ref sig .tc) := [main_v9, main_v10, main_v11]
theorem hostOps1_writes : (hostOps1 : List (HloOp τ sig (Elt F))).Forall fun op => op.writes ⊆ (hostOps1_W.map (Proc.devRef (τ := τ) .tc)).toFinset :=
  StableHlo.forall_writes_sub_of_map rfl

theorem hostOps1_args : ∀ a ∈ argRefs, a ∉ hostOps1_W := ListAll.forall_mem_of_all_decide (by decide +kernel)

theorem hostOps3_fresh : (hostOps3 : List (HloOp τ sig (Elt F))).Forall fun op => op.fresh = ∅ := by
  simp only [List.Forall]; repeat' constructor

abbrev hostOps3_W : List (Ref sig .tc) := [main_v14, main_v15, main_v16, main_v17, main_v18, main_v19, main_v20, main_v21]
theorem hostOps3_writes : (hostOps3 : List (HloOp τ sig (Elt F))).Forall fun op => op.writes ⊆ (hostOps3_W.map (Proc.devRef (τ := τ) .tc)).toFinset :=
  StableHlo.forall_writes_sub_of_map rfl

theorem hostOps3_args : ∀ a ∈ argRefs, a ∉ hostOps3_W := ListAll.forall_mem_of_all_decide (by decide +kernel)

theorem hostOps4_fresh : (hostOps4 : List (HloOp τ sig (Elt F))).Forall fun op => op.fresh = ∅ := by
  simp only [List.Forall]; repeat' constructor

abbrev hostOps4_W : List (Ref sig .tc) := [main_v23]
theorem hostOps4_writes : (hostOps4 : List (HloOp τ sig (Elt F))).Forall fun op => op.writes ⊆ (hostOps4_W.map (Proc.devRef (τ := τ) .tc)).toFinset :=
  StableHlo.forall_writes_sub_of_map rfl

theorem hostOps4_args : ∀ a ∈ argRefs, a ∉ hostOps4_W := ListAll.forall_mem_of_all_decide (by decide +kernel)

end Cert.KernelIdeal.Gen

end
-- ==== Proof.KernelIdealRun.Fold0.lean ====
/- The contents of the host buffers between the segments. Program `KernelIdeal`. The layout of this module follows the launch kit. -/
module

public import proofs.«01_k».proof.Proof.KernelIdealRun.Region0
public import proofs.«01_k».proof.Proof.KernelIdealRun.Region1
public import proofs.«01_k».proof.Proof.KernelIdealRun.Region2
public import proofs.«01_k».proof.Proof.KernelIdealRun.Region3
public import proofs.«01_k».proof.Proof.KernelIdealRun.Region4
public import proofs.«01_k».proof.Proof.KernelIdealRun.Region5
public import proofs.«01_k».proof.Proof.KernelIdealRun.Hosts0

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl

abbrev W1 : Dev nD → Valuation τ sig (Elt F) := fun c => StableHlo.after hostOps0 (W0 m ρ c)

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact (dat0 (V1 m ρ) c).withArrays_arrAt launch₀0.sharedIn _ (A_eq0 (V1 m ρ) c) w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩

theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)

abbrev V2 : (c : Dev nD) → (b : Ref sig .tc) → Buf (Elt F) ((c : Thread nD τ).loc b) := fun c b => W2 m ρ c b

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)

theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩

theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)

abbrev V4 : (c : Dev nD) → (b : Ref sig .tc) → Buf (Elt F) ((c : Thread nD τ).loc b) := fun c b => W4 m ρ c b

theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb

theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩

theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)

abbrev V5 : (c : Dev nD) → (b : Ref sig .tc) → Buf (Elt F) ((c : Thread nD τ).loc b) := fun c b => W5 m ρ c b

theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

abbrev W6 : Dev nD → Valuation τ sig (Elt F) := fun c => StableHlo.after hostOps3 (W5 m ρ c)

theorem W6_of (c : Dev nD) (r : Ref sig .tc) (h : r ∉ hostOps3_W) : W6 m ρ c (Proc.devRef .tc r) = W5 m ρ c (Proc.devRef .tc r) :=
  StableHlo.after_of_writes_sub hostOps3 _ hostOps3_writes h
theorem W6_args (c : Dev nD) : ∀ a ∈ argRefs, W6 m ρ c (Proc.devRef .tc a) = m ((c : Thread nD τ).loc a) :=
  fun a ha => (W6_of m ρ c a (hostOps3_args a ha)).trans (W5_args m ρ c a ha)

abbrev V6 : (c : Dev nD) → (b : Ref sig .tc) → Buf (Elt F) ((c : Thread nD τ).loc b) := fun c b => W6 m ρ c b

def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb

theorem W7_of (c : Dev nD) (r : Ref sig .tc) (h : ∀ w : Fin cfg3.W, Pipeline.arrRef spec3 w = r → (cfg3.win w).isOut = false) :
    W7 m ρ c (Proc.devRef .tc r) = W6 m ρ c (Proc.devRef .tc r) := by
  by_cases hw : ∃ w : Fin cfg3.W, Pipeline.arrRef spec3 w = r
  · obtain ⟨w, rfl⟩ := hw
    exact (W7_arr m ρ c w).trans (((dat3 (V6 m ρ) c).arrAt_in w (h w rfl) _).trans (A_eq3 (V6 m ρ) c w))
  · exact W7_of_ne m ρ c r fun w e => hw ⟨w, e⟩

theorem argsIn3 : ∀ a ∈ argRefs, ∀ w : Fin cfg3.W, Pipeline.arrRef spec3 w = a → (cfg3.win w).isOut = false :=
  ListAll.forall_mem_of_all_decide (by decide +kernel)
theorem W7_args (c : Dev nD) : ∀ a ∈ argRefs, W7 m ρ c (Proc.devRef .tc a) = m ((c : Thread nD τ).loc a) :=
  fun a ha => (W7_of m ρ c a (argsIn3 a ha)).trans (W6_args m ρ c a ha)

abbrev V7 : (c : Dev nD) → (b : Ref sig .tc) → Buf (Elt F) ((c : Thread nD τ).loc b) := fun c b => W7 m ρ c b

theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

abbrev W8 : Dev nD → Valuation τ sig (Elt F) := fun c => StableHlo.after hostOps4 (W7 m ρ c)

theorem W8_of (c : Dev nD) (r : Ref sig .tc) (h : r ∉ hostOps4_W) : W8 m ρ c (Proc.devRef .tc r) = W7 m ρ c (Proc.devRef .tc r) :=
  StableHlo.after_of_writes_sub hostOps4 _ hostOps4_writes h
theorem W8_args (c : Dev nD) : ∀ a ∈ argRefs, W8 m ρ c (Proc.devRef .tc a) = m ((c : Thread nD τ).loc a) :=
  fun a ha => (W8_of m ρ c a (hostOps4_args a ha)).trans (W7_args m ρ c a ha)

abbrev V8 : (c : Dev nD) → (b : Ref sig .tc) → Buf (Elt F) ((c : Thread nD τ).loc b) := fun c b => W8 m ρ c b

def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N := by
  unfold W9; exact (dat4 (V8 m ρ) c).withArrays_arrAt launch₀4.sharedIn _ (A_eq4 (V8 m ρ) c) w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb

theorem W9_of (c : Dev nD) (r : Ref sig .tc) (h : ∀ w : Fin cfg4.W, Pipeline.arrRef spec4 w = r → (cfg4.win w).isOut = false) :
    W9 m ρ c (Proc.devRef .tc r) = W8 m ρ c (Proc.devRef .tc r) := by
  by_cases hw : ∃ w : Fin cfg4.W, Pipeline.arrRef spec4 w = r
  · obtain ⟨w, rfl⟩ := hw
    exact (W9_arr m ρ c w).trans (((dat4 (V8 m ρ) c).arrAt_in w (h w rfl) _).trans (A_eq4 (V8 m ρ) c w))
  · exact W9_of_ne m ρ c r fun w e => hw ⟨w, e⟩

theorem argsIn4 : ∀ a ∈ argRefs, ∀ w : Fin cfg4.W, Pipeline.arrRef spec4 w = a → (cfg4.win w).isOut = false :=
  ListAll.forall_mem_of_all_decide (by decide +kernel)
theorem W9_args (c : Dev nD) : ∀ a ∈ argRefs, W9 m ρ c (Proc.devRef .tc a) = m ((c : Thread nD τ).loc a) :=
  fun a ha => (W9_of m ρ c a (argsIn4 a ha)).trans (W8_args m ρ c a ha)

abbrev V9 : (c : Dev nD) → (b : Ref sig .tc) → Buf (Elt F) ((c : Thread nD τ).loc b) := fun c b => W9 m ρ c b

theorem hF4 (c : Dev nD) (w : Fin cfg4.W) : (dat4 (V8 m ρ) c).arrAt w cfg4.N = V9 m ρ c (Pipeline.arrRef spec4 w) :=
  (W9_arr m ρ c w).symm
theorem hrest4 (c : Dev nD) : ∀ b, b ∉ Finset.univ.image (Pipeline.arrRef spec4) → V9 m ρ c b = V8 m ρ c b :=
  fun b hb => W9_of_ne m ρ c b fun w e => hb (Finset.mem_image.mpr ⟨w, Finset.mem_univ _, e⟩)

def W10 (c : Dev nD) : Valuation τ sig (Elt F) :=
  Pipeline.withArrays spec5 c (W9 m ρ c) fun w => (dat5 (V9 m ρ) c).arrAt w cfg5.N
theorem W10_arr (c : Dev nD) (w : Fin cfg5.W) :
    W10 m ρ c (Proc.devRef .tc (Pipeline.arrRef spec5 w)) = (dat5 (V9 m ρ) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m ρ c (Proc.devRef .tc b) = W9 m ρ c (Proc.devRef .tc b) := by
  unfold W10; exact Pipeline.withArrays_of_ne spec5 c _ _ b hb

theorem W10_of (c : Dev nD) (r : Ref sig .tc) (h : ∀ w : Fin cfg5.W, Pipeline.arrRef spec5 w = r → (cfg5.win w).isOut = false) :
    W10 m ρ c (Proc.devRef .tc r) = W9 m ρ c (Proc.devRef .tc r) := by
  by_cases hw : ∃ w : Fin cfg5.W, Pipeline.arrRef spec5 w = r
  · obtain ⟨w, rfl⟩ := hw
    exact (W10_arr m ρ c w).trans (((dat5 (V9 m ρ) c).arrAt_in w (h w rfl) _).trans (A_eq5 (V9 m ρ) c w))
  · exact W10_of_ne m ρ c r fun w e => hw ⟨w, e⟩

theorem argsIn5 : ∀ a ∈ argRefs, ∀ w : Fin cfg5.W, Pipeline.arrRef spec5 w = a → (cfg5.win w).isOut = false :=
  ListAll.forall_mem_of_all_decide (by decide +kernel)
theorem W10_args (c : Dev nD) : ∀ a ∈ argRefs, W10 m ρ c (Proc.devRef .tc a) = m ((c : Thread nD τ).loc a) :=
  fun a ha => (W10_of m ρ c a (argsIn5 a ha)).trans (W9_args m ρ c a ha)

abbrev V10 : (c : Dev nD) → (b : Ref sig .tc) → Buf (Elt F) ((c : Thread nD τ).loc b) := fun c b => W10 m ρ c b

theorem hF5 (c : Dev nD) (w : Fin cfg5.W) : (dat5 (V9 m ρ) c).arrAt w cfg5.N = V10 m ρ c (Pipeline.arrRef spec5 w) :=
  (W10_arr m ρ c w).symm
theorem hrest5 (c : Dev nD) : ∀ b, b ∉ Finset.univ.image (Pipeline.arrRef spec5) → V10 m ρ c b = V9 m ρ c b :=
  fun b hb => W10_of_ne m ρ c b fun w e => hb (Finset.mem_image.mpr ⟨w, Finset.mem_univ _, e⟩)

theorem W10_main_arg0 (c : Dev nD) : W10 m ρ c (Proc.devRef .tc main_arg0) = m ((c : Thread nD τ).loc main_arg0) :=
  W10_args m ρ c main_arg0 (by decide)
theorem W10_main_arg1 (c : Dev nD) : W10 m ρ c (Proc.devRef .tc main_arg1) = m ((c : Thread nD τ).loc main_arg1) :=
  W10_args m ρ c main_arg1 (by decide)
theorem W10_main_arg2 (c : Dev nD) : W10 m ρ c (Proc.devRef .tc main_arg2) = m ((c : Thread nD τ).loc main_arg2) :=
  W10_args m ρ c main_arg2 (by decide)
theorem W10_main_arg3 (c : Dev nD) : W10 m ρ c (Proc.devRef .tc main_arg3) = m ((c : Thread nD τ).loc main_arg3) :=
  W10_args m ρ c main_arg3 (by decide)
theorem W10_main_arg4 (c : Dev nD) : W10 m ρ c (Proc.devRef .tc main_arg4) = m ((c : Thread nD τ).loc main_arg4) :=
  W10_args m ρ c main_arg4 (by decide)
theorem W10_main_arg5 (c : Dev nD) : W10 m ρ c (Proc.devRef .tc main_arg5) = m ((c : Thread nD τ).loc main_arg5) :=
  W10_args m ρ c main_arg5 (by decide)
theorem W10_main_arg6 (c : Dev nD) : W10 m ρ c (Proc.devRef .tc main_arg6) = m ((c : Thread nD τ).loc main_arg6) :=
  W10_args m ρ c main_arg6 (by decide)
theorem W10_main_arg7 (c : Dev nD) : W10 m ρ c (Proc.devRef .tc main_arg7) = m ((c : Thread nD τ).loc main_arg7) :=
  W10_args m ρ c main_arg7 (by decide)
theorem W10_main_arg8 (c : Dev nD) : W10 m ρ c (Proc.devRef .tc main_arg8) = m ((c : Thread nD τ).loc main_arg8) :=
  W10_args m ρ c main_arg8 (by decide)
theorem W10_main_arg9 (c : Dev nD) : W10 m ρ c (Proc.devRef .tc main_arg9) = m ((c : Thread nD τ).loc main_arg9) :=
  W10_args m ρ c main_arg9 (by decide)
theorem W10_main_arg10 (c : Dev nD) : W10 m ρ c (Proc.devRef .tc main_arg10) = m ((c : Thread nD τ).loc main_arg10) :=
  W10_args m ρ c main_arg10 (by decide)
theorem W10_main_arg11 (c : Dev nD) : W10 m ρ c (Proc.devRef .tc main_arg11) = m ((c : Thread nD τ).loc main_arg11) :=
  W10_args m ρ c main_arg11 (by decide)
theorem W10_main_arg12 (c : Dev nD) : W10 m ρ c (Proc.devRef .tc main_arg12) = m ((c : Thread nD τ).loc main_arg12) :=
  W10_args m ρ c main_arg12 (by decide)
theorem W10_main_arg13 (c : Dev nD) : W10 m ρ c (Proc.devRef .tc main_arg13) = m ((c : Thread nD τ).loc main_arg13) :=
  W10_args m ρ c main_arg13 (by decide)
theorem W10_main_arg14 (c : Dev nD) : W10 m ρ c (Proc.devRef .tc main_arg14) = m ((c : Thread nD τ).loc main_arg14) :=
  W10_args m ρ c main_arg14 (by decide)
theorem W10_main_arg15 (c : Dev nD) : W10 m ρ c (Proc.devRef .tc main_arg15) = m ((c : Thread nD τ).loc main_arg15) :=
  W10_args m ρ c main_arg15 (by decide)
theorem W10_main_arg16 (c : Dev nD) : W10 m ρ c (Proc.devRef .tc main_arg16) = m ((c : Thread nD τ).loc main_arg16) :=
  W10_args m ρ c main_arg16 (by decide)
theorem W10_main_arg17 (c : Dev nD) : W10 m ρ c (Proc.devRef .tc main_arg17) = m ((c : Thread nD τ).loc main_arg17) :=
  W10_args m ρ c main_arg17 (by decide)
theorem W10_main_arg18 (c : Dev nD) : W10 m ρ c (Proc.devRef .tc main_arg18) = m ((c : Thread nD τ).loc main_arg18) :=
  W10_args m ρ c main_arg18 (by decide)
end Cert.KernelIdeal.Gen

end
-- ==== Proof.KernelIdealRun.State.lean ====
/- The thread state between segments. Program `KernelIdeal`. The layout of this module follows the launch kit. -/
module

public import proofs.«01_k».proof.Proof.KernelIdealRun.Fold0

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev adm : (p : Fin 6) → (pcfgs (F := F) p).Adm := fun p => (cfgs p).toPCfg_adm

def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V6 m ρ) c
  | ⟨4, _⟩ => fun c => dat4 (V8 m ρ) c
  | ⟨5, _⟩ => fun c => dat5 (V9 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W10 m ρ c) ∗ ∃ r, prngReg c r)

end Cert.KernelIdeal.Gen

end
-- ==== Proof.KernelIdealRun.Record0.lean ====
/- Region 0 as a segment of the host program. Program `KernelIdeal`. The layout of this module follows the launch kit. -/
module

public import proofs.«01_k».proof.Proof.KernelIdealRun.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg0 : Pipeline.RegionSeg (pcfgs (F := F)) adm (pdats m ρ) () defs₀ 𝒱₀ L lv 0 where
  win := launch₀0.win
  block_pos := launch₀0.block_pos
  stage_whole := launch₀0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs_shared (p := 0) (pcfgs (F := F)) adm (pdats m ρ) launch₀0.win launch₀0.sharedIn launch₀0.arr_whole c
      (fun _ _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m ρ) (fun _ _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdealRun.Record1.lean ====
/- Region 1 as a segment of the host program. Program `KernelIdeal`. The layout of this module follows the launch kit. -/
module

public import proofs.«01_k».proof.Proof.KernelIdealRun.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdealRun.Record2.lean ====
/- Region 2 as a segment of the host program. Program `KernelIdeal`. The layout of this module follows the launch kit. -/
module

public import proofs.«01_k».proof.Proof.KernelIdealRun.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdealRun.Record3.lean ====
/- Region 3 as a segment of the host program. Program `KernelIdeal`. The layout of this module follows the launch kit. -/
module

public import proofs.«01_k».proof.Proof.KernelIdealRun.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) (A_eq3 (V6 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdealRun.Record4.lean ====
/- Region 4 as a segment of the host program. Program `KernelIdeal`. The layout of this module follows the launch kit. -/
module

public import proofs.«01_k».proof.Proof.KernelIdealRun.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg4 : Pipeline.RegionSeg (pcfgs (F := F)) adm (pdats m ρ) () defs₀ 𝒱₀ L lv 4 where
  win := launch₀4.win
  block_pos := launch₀4.block_pos
  stage_whole := launch₀4.stage_whole
  K := PEmpty
  osem k := k.elim
  ho := Pipeline.OwnSemFacts.none _
  hbody c := (body_obligation4 (V8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hsplit := Pipeline.arrays_of_unscopedBufs_shared (p := 4) (pcfgs (F := F)) adm (pdats m ρ) launch₀4.win launch₀4.sharedIn launch₀4.arr_whole c
      (fun _ _ => rfl) (V8 m ρ c) (A_eq4 (V8 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays_shared (p := 4) (pcfgs (F := F)) adm (Ix := Unit) (Name := ℕ) (U := UR sig nD τ) (Lvl := ℕ)
      launch₀4.win launch₀4.sharedIn launch₀4.arr_whole c (pdats m ρ) (fun _ _ => rfl)
      (V8 m ρ c) (V9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdealRun.Record5.lean ====
/- Region 5 as a segment of the host program. Program `KernelIdeal`. The layout of this module follows the launch kit. -/
module

public import proofs.«01_k».proof.Proof.KernelIdealRun.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V9 m ρ) c).loose
  hwaits := Pipeline.hwaits_of_owed_zero _ _ _ _ L lv 5 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (V9 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V9 m ρ c) (A_eq5 (V9 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V9 m ρ c) (V10 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Gen

end
-- ==== Proof.KernelIdealRun.Run.lean ====
/- The run of the whole program: the segments composed. Program `KernelIdeal`. The layout of this module follows the launch kit. -/
module

public import proofs.«01_k».proof.Proof.KernelIdealRun.Record0
public import proofs.«01_k».proof.Proof.KernelIdealRun.Record1
public import proofs.«01_k».proof.Proof.KernelIdealRun.Record2
public import proofs.«01_k».proof.Proof.KernelIdealRun.Record3
public import proofs.«01_k».proof.Proof.KernelIdealRun.Record4
public import proofs.«01_k».proof.Proof.KernelIdealRun.Record5

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)),
    .region (reg3 m ρ),
    .host (hseg hostOps4 hostOps4_sub hostOps4_fresh (W7 m ρ)),
    .region (reg4 m ρ),
    .region (reg5 m ρ) ]

theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- From any memory the program ends with its result in place, its arguments unchanged and every semaphore at zero. -/
theorem run : θ_run defs (onTc (τ := τ) (main (F := F))) ⟨m, fun _ => 0, ρ⟩ (fun r => (∀ c : Dev nD,
      r.2.mem ((c.tc : Thread nD τ).loc main_v25) = W10 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => ⟨(fun c =>
      ⟨h c _ (mem_uc main_v25 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c),
       (h c _ (mem_uc main_arg18 (by decide))).trans (W10_main_arg18 m ρ c)⟩), funext fun g => hz g (.inr (no_unscoped g.2))⟩)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  (θ_run defs _ _).mono (fun _ h => ⟨fun c => (h.1 c).2, h.2⟩) (run m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h => h.1) (frame m ρ)

end Cert.KernelIdeal.Gen

end
-- ==== Proof.Value.Reals.lean ====
/- The mathematics both programs compute, over the real numbers: root-mean-square normalisation, the compressed
   blocks and their mean, the selection of the best blocks, attention over the memory, the gated feed-forward
   network and the two-way gate; with the identities between the two ways of computing them. -/
module

public import Idealize.ShloMosaic.PureOps.Ideal.Laws
public import Idealize.ShloMosaic.Lib.IdealHost
public import Idealize.ShloMosaic.Lib.SortFacts
public import Mathlib.Analysis.SpecialFunctions.Exp

@[expose] public section

noncomputable section

namespace Cert.Value

open Idealize.ShloMosaic

/-! ## Real numbers among the extended reals -/

/-- A finite sum of reals, read as an extended real, is the sum of the terms read so. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of two reals, the second not zero, is the real quotient. -/
theorem div_coe_coe {b : ℝ} (hb : b ≠ 0) (a : ℝ) : Ideal.div (a : EReal) (b : EReal) = ((a / b : ℝ) : EReal) := by
  rw [Ideal.div_coe hb, ← EReal.coe_mul, mul_one_div]

/-- The smoothing term under the square root: the value of the float constant 1e-6. -/
def eps : ℝ := 8796093 / 2 ^ 43

theorem eps_pos : 0 < eps := by unfold eps; positivity

theorem ofBits_eps : Ideal.ofBits .f32 0x358637BD#32 = (eps : EReal) := by
  unfold eps; simp [Ideal.ofBits, Ideal.ieee, -EReal.coe_mul]; norm_num

theorem ofBits_2048 : Ideal.ofBits .f32 0x45000000#32 = ((2048 : ℝ) : EReal) := by
  simp [Ideal.ofBits, Ideal.ieee, -EReal.coe_mul]; norm_num

theorem ofBits_128 : Ideal.ofBits .f32 0x43000000#32 = ((128 : ℝ) : EReal) := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

theorem ofBits_16 : Ideal.ofBits .f32 0x41800000#32 = ((16 : ℝ) : EReal) := by
  simp [Ideal.ofBits, Ideal.ieee, -EReal.coe_mul]; norm_num

theorem ofBits_negInf : Ideal.ofBits .f32 0xFF800000#32 = ⊥ := by
  simp [Ideal.ofBits, Ideal.ieee]

/-! ## Sums over a product of extents -/

/-- A sum over `m * n` positions is a sum over `m` groups of `n`. -/
theorem sum_groups {M : Type} [AddCommMonoid M] (m n : ℕ) {N : ℕ} (hN : m * n = N) (f : Fin N → M) :
    ∑ s, f s = ∑ a : Fin m, ∑ b : Fin n, f ⟨a.val * n + b.val, by
      have ha := a.isLt; have hb := b.isLt
      calc a.val * n + b.val < a.val * n + n := by omega
        _ = (a.val + 1) * n := by ring
        _ ≤ m * n := Nat.mul_le_mul_right n ha
        _ = N := hN⟩ := by
  subst hN
  rw [← Fintype.sum_prod_type' (f := fun (a : Fin m) (b : Fin n) => f ⟨a.val * n + b.val, _⟩),
    ← Equiv.sum_comp finProdFinEquiv f]
  refine Finset.sum_congr rfl fun p _ => congrArg f (Fin.ext ?_)
  simp only [finProdFinEquiv_apply_val]
  ring

/-! ## Normalisation -/

/-- Root-mean-square normalisation of a token, scaled by `w`. -/
def nrm (y w : Fin 2048 → ℝ) (d : Fin 2048) : ℝ := y d * (Real.sqrt ((∑ k, y k * y k) / 2048 + eps))⁻¹ * w d

/-- The reciprocal root both programs take of a token's mean square. -/
theorem rsqrt_mean (y : Fin 2048 → ℝ) :
    Ideal.rsqrt (Ideal.div (∑ k, (y k : EReal) * (y k : EReal)) ((2048 : ℝ) : EReal) + (eps : EReal))
      = (((Real.sqrt ((∑ k, y k * y k) / 2048 + eps))⁻¹ : ℝ) : EReal) := by
  have h0 : 0 ≤ (∑ k, y k * y k) / 2048 := div_nonneg (Finset.sum_nonneg fun k _ => mul_self_nonneg _) (by norm_num)
  have hp : 0 < (∑ k, y k * y k) / 2048 + eps := by have := eps_pos; linarith
  simp only [← EReal.coe_mul, ← coe_sum]
  rw [div_coe_coe (by norm_num), ← EReal.coe_add, Ideal.rsqrt_coe, if_neg (not_lt.mpr hp.le), if_neg hp.ne']

/-! ## The best blocks -/

/-- Block `i` is taken before block `j`: a greater score, or an equal one at a smaller index. -/
def before {n : ℕ} (sc : Fin n → ℝ) (i j : Fin n) : Prop := sc j < sc i ∨ (sc i = sc j ∧ i < j)

open Classical in
/-- How many blocks are taken before block `i`. -/
def rank {n : ℕ} (sc : Fin n → ℝ) (i : Fin n) : ℕ := (Finset.univ.filter fun j => before sc j i).card

section order

variable {n : ℕ} (sc : Fin n → ℝ)

theorem before_asymm {i j : Fin n} (h : before sc i j) : ¬ before sc j i := by
  rcases h with h | ⟨h, hl⟩ <;> rintro (h' | ⟨h', hl'⟩)
  · exact lt_asymm h h'
  · exact h.ne h'.symm.symm
  · exact h'.ne h
  · exact lt_asymm hl hl'

theorem before_total {i j : Fin n} (hne : i ≠ j) : before sc i j ∨ before sc j i := by
  rcases lt_trichotomy (sc i) (sc j) with h | h | h
  · exact .inr (.inl h)
  · rcases lt_or_gt_of_ne hne with hl | hl
    · exact .inl (.inr ⟨h, hl⟩)
    · exact .inr (.inr ⟨h.symm, hl⟩)
  · exact .inl (.inl h)

theorem before_trans {i j k : Fin n} (h : before sc i j) (h' : before sc j k) : before sc i k := by
  rcases h with h | ⟨h, hl⟩ <;> rcases h' with h' | ⟨h', hl'⟩
  · exact .inl (h'.trans h)
  · exact .inl (h' ▸ h)
  · exact .inl (h ▸ h')
  · exact .inr ⟨h.trans h', hl.trans hl'⟩

open Classical in
/-- Inserting in front of later positions, a strict comparison of the scores decides as `before` does. -/
theorem stableSort_before (l : List (Fin n)) (hl : l.Pairwise (· < ·)) :
    stableSort (fun a b => decide (sc b < sc a)) l = stableSort (fun a b => decide (before sc a b)) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    refine decide_eq_decide.mpr ⟨fun h => .inl h, ?_⟩
    rintro (h | ⟨_, h⟩)
    · exact h
    · exact absurd h (lt_asymm hab)

open Classical in
theorem sortedFrom_before :
    sortedFrom (fun a b : Fin n => decide (sc b < sc a)) = sortedFrom (fun a b => decide (before sc a b)) := by
  funext k
  have h : sortPositions n (fun a b : Fin n => decide (sc b < sc a)) = sortPositions n (fun a b => decide (before sc a b)) :=
    stableSort_before sc _ (List.pairwise_lt_finRange n)
  unfold sortedFrom
  exact List.get_of_eq h _

open Classical in
/-- The stable sort by descending score puts at position `t` the block before which `t` blocks are taken. -/
theorem rank_sortedFrom (t : Fin n) : rank sc (sortedFrom (fun a b : Fin n => decide (sc b < sc a)) t) = t.val := by
  rw [sortedFrom_before]
  set σ := sortedFrom (fun a b : Fin n => decide (before sc a b)) with hσ
  have hinj : Function.Injective σ := sortedFrom_injective _
  have hlt : ∀ i j : Fin n, i < j → before sc (σ i) (σ j) := fun i j hij => by
    have := sortedFrom_noInversion (fun a b : Fin n => decide (before sc a b)) (fun a b : Fin n => decide (before sc a b))
      (fun a b h => by simpa using before_asymm sc (by simpa using h)) (fun _ _ h => h)
      (fun a b c hab hbc => by
        simp only [decide_eq_false_iff_not] at hab hbc ⊢
        intro hac
        by_cases e : b = a
        · subst e; exact hbc hac
        · rcases before_total sc e with h | h
          · exact hbc (before_trans sc h hac)
          · exact hab h) i j hij
    simp only [decide_eq_false_iff_not] at this
    exact (before_total sc (fun e => hij.ne (hinj e))).resolve_right this
  have hset : (Finset.univ.filter fun j => before sc j (σ t)) = (Finset.univ.filter fun s => s < t).image σ := by
    ext j
    obtain ⟨s, rfl⟩ := sortedFrom_surjective (fun a b : Fin n => decide (before sc a b)) j
    simp only [Finset.mem_filter, Finset.mem_univ, true_and, Finset.mem_image]
    constructor
    · intro h
      refine ⟨s, ?_, rfl⟩
      rcases lt_trichotomy s t with hst | hst | hst
      · exact hst
      · subst hst; exact absurd h (before_asymm sc h)
      · exact absurd h (before_asymm sc (hlt _ _ hst))
    · rintro ⟨s', hs', e⟩
      rw [← e]
      exact hlt _ _ hs'
  unfold rank
  rw [hset, Finset.card_image_of_injective _ hinj]
  have : (Finset.univ.filter fun s : Fin n => s < t) = Finset.Iio t := by ext; simp
  rw [this, Fin.card_Iio]

end order

open Classical in
/-- A sum over the first 64 sorted blocks is the sum over the blocks before which fewer than 64 are taken. -/
theorem sum_best (sc : Fin 128 → ℝ) (f : Fin 128 → ℝ) :
    ∑ t : Fin 64, f (sortedFrom (fun a b : Fin 128 => decide (sc b < sc a)) ⟨t.val, by omega⟩)
      = ∑ n : Fin 128, if rank sc n < 64 then f n else 0 := by
  set σ := sortedFrom (fun a b : Fin 128 => decide (sc b < sc a)) with hσ
  have hb : Function.Bijective σ := ⟨sortedFrom_injective _, sortedFrom_surjective _⟩
  rw [← Function.Bijective.sum_comp hb (fun n => if rank sc n < 64 then f n else 0)]
  simp only [hσ, rank_sortedFrom sc]
  rw [Fin.sum_univ_add (a := 64) (b := 64)]
  have h2 : ∑ i : Fin 64, (if (Fin.natAdd 64 i : Fin 128).val < 64
      then f (sortedFrom (fun a b : Fin 128 => decide (sc b < sc a)) (Fin.natAdd 64 i)) else 0) = 0 :=
    Finset.sum_eq_zero fun i _ => if_neg (by simp)
  rw [h2, add_zero]
  exact Finset.sum_congr rfl fun i _ => by rw [if_pos (by simp)]; rfl

/-! ## Attention -/

/-- Attention of one head and one query over the rows `row`, with the keys' and the values' biases: the softmax does not
    see the keys' bias (the same summand in every logit) nor the shift, and the values' bias comes out whole. -/
theorem attention {ι : Type} [Fintype ι] [Nonempty ι] (row : ι → Fin 2048 → ℝ) (qh bk : Fin 128 → ℝ) (K : Fin 128 → Fin 2048 → ℝ)
    (V : Fin 2048 → ℝ) (bv M s : ℝ) :
    ∑ j, (Real.exp ((∑ e, qh e * ((∑ d, row j d * K e d) + bk e)) * s - M)
          / ∑ i, Real.exp ((∑ e, qh e * ((∑ d, row i d * K e d) + bk e)) * s - M)) * ((∑ d, row j d * V d) + bv)
      = (∑ d, (∑ j, Real.exp ((∑ d, row j d * ∑ e, qh e * K e d) * s) * row j d) * V d)
          / (∑ j, Real.exp ((∑ d, row j d * ∑ e, qh e * K e d) * s)) + bv := by
  set l : ι → ℝ := fun j => (∑ d, row j d * ∑ e, qh e * K e d) * s with hl
  set κ : ℝ := (∑ e, qh e * bk e) * s - M with hκ
  have hL : ∀ j, (∑ e, qh e * ((∑ d, row j d * K e d) + bk e)) * s - M = l j + κ := fun j => by
    have h1 : ∑ e, qh e * ((∑ d, row j d * K e d) + bk e) = (∑ d, row j d * ∑ e, qh e * K e d) + ∑ e, qh e * bk e := by
      simp only [mul_add, Finset.sum_add_distrib, Finset.mul_sum]
      congr 1
      rw [Finset.sum_comm]
      exact Finset.sum_congr rfl fun d _ => Finset.sum_congr rfl fun e _ => by ring
    rw [h1, hl, hκ]; ring
  have hr : ∀ j, (∑ d, row j d * ∑ e, qh e * K e d) * s = l j := fun _ => rfl
  simp only [hL, hr]
  clear_value l κ
  have hS : 0 < ∑ j, Real.exp (l j) := Finset.sum_pos (fun j _ => Real.exp_pos _) Finset.univ_nonempty
  have hk : 0 < Real.exp κ := Real.exp_pos κ
  simp only [Real.exp_add, ← Finset.sum_mul]
  have e1 : ∀ j, Real.exp (l j) * Real.exp κ / ((∑ i, Real.exp (l i)) * Real.exp κ) * ((∑ d, row j d * V d) + bv)
      = (Real.exp (l j) * (∑ d, row j d * V d)) / (∑ i, Real.exp (l i)) + Real.exp (l j) * (bv / ∑ i, Real.exp (l i)) := fun j => by
    field_simp
  rw [Finset.sum_congr rfl fun j _ => e1 j, Finset.sum_add_distrib, ← Finset.sum_div, ← Finset.sum_mul,
    mul_div_cancel₀ _ hS.ne']
  congr 2
  simp only [Finset.mul_sum, Finset.sum_mul]
  rw [Finset.sum_comm]
  exact Finset.sum_congr rfl fun d _ => Finset.sum_congr rfl fun j _ => (mul_assoc (Real.exp (l j)) (row j d) (V d)).symm

/-- A sum over the 578 memory rows: the sink, the 512 recent tokens, the 64 best blocks, the mean. -/
theorem sum_memory (f : Fin 578 → ℝ) :
    ∑ j, f j = f ⟨0, by omega⟩ + (∑ r : Fin 512, f ⟨1 + r.val, by omega⟩) + (∑ t : Fin 64, f ⟨513 + t.val, by omega⟩)
      + f ⟨577, by omega⟩ := by
  rw [Fin.sum_univ_add (a := 577) (b := 1) f, Fin.sum_univ_add (a := 513) (b := 64),
    Fin.sum_univ_add (a := 1) (b := 512)]
  simp only [Fin.sum_univ_one]
  rfl

/-! ## The layer -/

/-- The arguments of the layer as arrays of reals; the two sequences come separately. -/
structure Args where
  q : Fin 8 → Fin 2048 → ℝ
  qnw : Fin 2048 → ℝ
  mnw : Fin 2048 → ℝ
  fnw : Fin 2048 → ℝ
  W : Fin 6144 → Fin 2048 → ℝ
  bi : Fin 6144 → ℝ
  Wo : Fin 2048 → Fin 2048 → ℝ
  bo : Fin 2048 → ℝ
  sink : Fin 2048 → ℝ
  gw : Fin 4096 → ℝ
  gb : ℝ
  gu : Fin 8192 → Fin 2048 → ℝ
  gub : Fin 8192 → ℝ
  dw : Fin 2048 → Fin 4096 → ℝ
  db : Fin 2048 → ℝ

/-- A sequence of 2048 tokens for each of the 8 batches. -/
abbrev Seq : Type := Fin 8 → Fin 2048 → Fin 2048 → ℝ

namespace Args

variable (A : Args) (x : Seq)

/-- The normalised query. -/
def nq (b : Fin 8) : Fin 2048 → ℝ := nrm (A.q b) A.qnw

/-- The query's projection. -/
def qh (b : Fin 8) (e : Fin 2048) : ℝ := (∑ d, A.nq b d * A.W ⟨e.val, by omega⟩ d) + A.bi ⟨e.val, by omega⟩

/-- Head `h`'s query carried back through the key projection. -/
def cq (b : Fin 8) (h : Fin 16) (d : Fin 2048) : ℝ :=
  ∑ e : Fin 128, A.qh b ⟨h.val * 128 + e.val, by omega⟩ * A.W ⟨2048 + (h.val * 128 + e.val), by omega⟩ d

/-- The mean of block `n` of a sequence. -/
def blk (b : Fin 8) (n : Fin 128) (d : Fin 2048) : ℝ := (∑ j : Fin 16, x b ⟨n.val * 16 + j.val, by omega⟩ d) / 16

/-- The mean of the sequence, as the mean of its blocks. -/
def avg (b : Fin 8) (d : Fin 2048) : ℝ := (∑ n, blk x b n d) / 128

theorem avg_eq (b : Fin 8) (d : Fin 2048) : avg x b d = (∑ s, x b s d) / 2048 := by
  unfold avg blk
  rw [sum_groups 128 16 (by norm_num) fun s => x b s d, ← Finset.sum_div, div_div]
  norm_num

/-- A block's score against the query. -/
def sc (b : Fin 8) (n : Fin 128) : ℝ := ∑ d, nrm (blk x b n) A.mnw d * A.nq b d

/-- A recent token of the sequence. -/
def recent (b : Fin 8) (r : Fin 512) : Fin 2048 → ℝ := x b ⟨1536 + r.val, by omega⟩

/-- The logit of a memory row. -/
def lg (b : Fin 8) (h : Fin 16) (y : Fin 2048 → ℝ) : ℝ := (∑ d, nrm y A.mnw d * A.cq b h d) * (Real.sqrt 128)⁻¹

/-- The sum over the memory rows of `exp (logit - m)` times `g` of the row. -/
def mem (m : ℝ) (b : Fin 8) (h : Fin 16) (g : (Fin 2048 → ℝ) → ℝ) : ℝ :=
  Real.exp (A.lg b h A.sink - m) * g A.sink + (∑ r, Real.exp (A.lg b h (recent x b r) - m) * g (recent x b r))
    + (∑ n, if rank (A.sc x b) n < 64 then Real.exp (A.lg b h (blk x b n) - m) * g (blk x b n) else 0)
    + Real.exp (A.lg b h (avg x b) - m) * g (avg x b)

/-- The softmax's denominator. -/
def den (m : ℝ) (b : Fin 8) (h : Fin 16) : ℝ := A.mem x m b h fun _ => 1

/-- The weighted sum of the normalised memory rows. -/
def wm (m : ℝ) (b : Fin 8) (h : Fin 16) (d : Fin 2048) : ℝ := A.mem x m b h fun y => nrm y A.mnw d

theorem den_pos (m : ℝ) (b : Fin 8) (h : Fin 16) : 0 < A.den x m b h := by
  unfold den mem
  have h1 := Real.exp_pos (A.lg b h A.sink - m)
  have h2 := Real.exp_pos (A.lg b h (avg x b) - m)
  have h3 : 0 ≤ ∑ r, Real.exp (A.lg b h (recent x b r) - m) * 1 := Finset.sum_nonneg fun r _ => by positivity
  have h4 : 0 ≤ ∑ n, if rank (A.sc x b) n < 64 then Real.exp (A.lg b h (blk x b n) - m) * 1 else 0 :=
    Finset.sum_nonneg fun n _ => by split_ifs <;> positivity
  linarith

theorem mem_shift (m : ℝ) (b : Fin 8) (h : Fin 16) (g : (Fin 2048 → ℝ) → ℝ) :
    A.mem x m b h g = Real.exp (-m) * A.mem x 0 b h g := by
  unfold mem
  simp only [mul_add, Finset.mul_sum, mul_ite, mul_zero, sub_eq_add_neg, Real.exp_add, neg_zero, Real.exp_zero, mul_one]
  simp only [mul_comm (Real.exp (-m)), mul_right_comm _ (Real.exp (-m))]

/-- The attention's value before the output projection. -/
def ap (b : Fin 8) (e : Fin 2048) : ℝ :=
  (∑ d, A.wm x 0 b ⟨e.val / 128, by omega⟩ d * A.W ⟨4096 + e.val, by omega⟩ d) / A.den x 0 b ⟨e.val / 128, by omega⟩
    + A.bi ⟨4096 + e.val, by omega⟩

/-- The value does not depend on the shift. -/
theorem ap_eq (m : ℝ) (b : Fin 8) (e : Fin 2048) (h : Fin 16) (hh : h.val = e.val / 128) :
    (∑ d, A.wm x m b h d * A.W ⟨4096 + e.val, by omega⟩ d) / A.den x m b h + A.bi ⟨4096 + e.val, by omega⟩ = A.ap x b e := by
  rw [show h = ⟨e.val / 128, by omega⟩ from Fin.ext hh]
  unfold ap wm den
  simp only [A.mem_shift x m, mul_assoc, ← Finset.mul_sum]
  rw [mul_div_mul_left _ _ (Real.exp_pos (-m)).ne']

/-- The attention's output. -/
def att (b : Fin 8) (f : Fin 2048) : ℝ := (∑ e, A.ap x b e * A.Wo f e) + A.bo f

/-- The feed-forward network's input. -/
def hn (b : Fin 8) : Fin 2048 → ℝ := nrm (A.att x b) A.fnw

/-- A row of the gate and value projection. -/
def gv (b : Fin 8) (k : Fin 8192) : ℝ := (∑ d, A.hn x b d * A.gu k d) + A.gub k

/-- The activation. -/
def act (b : Fin 8) (k : Fin 4096) : ℝ :=
  A.gv x b ⟨k.val, by omega⟩ * (1 + Real.exp (-A.gv x b ⟨k.val, by omega⟩))⁻¹ * A.gv x b ⟨4096 + k.val, by omega⟩

/-- The feed-forward network without its last bias. -/
def ffn (b : Fin 8) (f : Fin 2048) : ℝ := ∑ k, A.act x b k * A.dw f k

/-- The update of one sequence. -/
def upd (b : Fin 8) (f : Fin 2048) : ℝ := A.att x b f + A.ffn x b f + A.db f

/-- The gate's score of one sequence. -/
def ds (b : Fin 8) : ℝ :=
  (∑ d, A.q b d * A.gw ⟨d.val, by omega⟩) + (∑ d, A.upd x b d * A.gw ⟨2048 + d.val, by omega⟩) + A.gb

/-- The layer: both updates, weighted by the softmax of their scores. -/
def out (x0 x1 : Seq) (b : Fin 8) (f : Fin 2048) : ℝ :=
  (Real.exp (A.ds x0 b - max (A.ds x0 b) (A.ds x1 b)) * A.upd x0 b f
      + Real.exp (A.ds x1 b - max (A.ds x0 b) (A.ds x1 b)) * A.upd x1 b f)
    / (Real.exp (A.ds x0 b - max (A.ds x0 b) (A.ds x1 b)) + Real.exp (A.ds x1 b - max (A.ds x0 b) (A.ds x1 b)))

end Args

end Cert.Value

end
-- ==== Proof.Value.Given.lean ====
/- The arguments as arrays of real numbers. -/
module

public import proofs.«01_k».proof.Proof.Value.Reals
public import Idealize.ShloMosaic.Lib.Pointwise

@[expose] public section

noncomputable section

namespace Cert.Value

open Idealize.ShloMosaic Idealize.ShloMosaic.Pointwise

/-- The float arguments hold the reals `A`, and the two sequences the reals `x0` and `x1`. -/
structure Given (A : Args) (x0 x1 : Seq) (a0 : Vec Ideal ⟨2, ![8, 2048]⟩ .f32) (a1 a2 : Vec Ideal ⟨3, ![8, 2048, 2048]⟩ .f32)
    (a5 a6 a7 : Vec Ideal ⟨1, ![2048]⟩ .f32) (a8 : Vec Ideal ⟨2, ![6144, 2048]⟩ .f32) (a9 : Vec Ideal ⟨1, ![6144]⟩ .f32)
    (a10 : Vec Ideal ⟨2, ![2048, 2048]⟩ .f32) (a11 : Vec Ideal ⟨1, ![2048]⟩ .f32) (a12 : Vec Ideal ⟨3, ![1, 1, 2048]⟩ .f32)
    (a13 : Vec Ideal ⟨2, ![1, 4096]⟩ .f32) (a14 : Vec Ideal ⟨1, ![1]⟩ .f32) (a15 : Vec Ideal ⟨2, ![8192, 2048]⟩ .f32)
    (a16 : Vec Ideal ⟨1, ![8192]⟩ .f32) (a17 : Vec Ideal ⟨2, ![2048, 4096]⟩ .f32) (a18 : Vec Ideal ⟨1, ![2048]⟩ .f32) : Prop where
  h0 : ∀ i j, a0 (ix2 i j) = (A.q i j : EReal)
  h1 : ∀ i j k, a1 (ix3 i j k) = (x0 i j k : EReal)
  h2 : ∀ i j k, a2 (ix3 i j k) = (x1 i j k : EReal)
  h5 : ∀ i, a5 (ix1 i) = (A.qnw i : EReal)
  h6 : ∀ i, a6 (ix1 i) = (A.mnw i : EReal)
  h7 : ∀ i, a7 (ix1 i) = (A.fnw i : EReal)
  h8 : ∀ i j, a8 (ix2 i j) = (A.W i j : EReal)
  h9 : ∀ i, a9 (ix1 i) = (A.bi i : EReal)
  h10 : ∀ i j, a10 (ix2 i j) = (A.Wo i j : EReal)
  h11 : ∀ i, a11 (ix1 i) = (A.bo i : EReal)
  h12 : ∀ j, a12 (ix3 0 0 j) = (A.sink j : EReal)
  h13 : ∀ j, a13 (ix2 0 j) = (A.gw j : EReal)
  h14 : a14 (ix1 0) = (A.gb : EReal)
  h15 : ∀ i j, a15 (ix2 i j) = (A.gu i j : EReal)
  h16 : ∀ i, a16 (ix1 i) = (A.gub i : EReal)
  h17 : ∀ i j, a17 (ix2 i j) = (A.dw i j : EReal)
  h18 : ∀ i, a18 (ix1 i) = (A.db i : EReal)

end Cert.Value

end
-- ==== Proof.Value.Pre.lean ====
/- What the precondition says of the arguments. -/
module

public import proofs.«01_k».proof.Proof.Value.Given
public import proofs.«01_k».proof.Proof.Gen.Pre_finite_unmasked
public import Idealize.ShloMosaic.Lib.ReduceAll

@[expose] public section

noncomputable section

namespace Cert.Value

open Idealize.ShloMosaic Idealize.ShloMosaic.Pointwise

/-! ## One array -/

instance : Subsingleton (Shape.Idx ⟨0, ![]⟩) := ⟨fun a b => funext fun d => d.elim0⟩

/-- An extended real whose absolute value is below the word of +∞ is a real. -/
theorem real_of_lt {x : EReal} (h : FloatOps.cmpf (F := Ideal) .olt (FloatOps.hostAbsf (F := Ideal) (φ := .f32) x) (FloatOps.ofBits (F := Ideal) .f32 0x7F800000#32) = 1#1) :
    x = (x.toReal : EReal) := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  have hlt : max x (-x) < ⊤ := by
    by_contra hc
    simp [Ideal.cmp, hc] at h'
  refine (EReal.coe_toReal ?_ ?_).symm
  · rintro rfl; simp at hlt
  · rintro rfl; simp at hlt

/-- Every entry of an array whose test for finiteness holds throughout is a real. -/
theorem all_real {s : Shape} {x : FVec Ideal s .f32} {axes} (hb : Shape.BroadcastsInDim ⟨0, ![]⟩ s ![])
    (hr : s.ReducesTo axes ⟨0, ![]⟩) (hu : 0 < Shape.numel ⟨0, ![]⟩) {j}
    (e : Host.reduce IntOp.andi (cmpf .olt (Host.absf x) (broadcastInDim s ![] hb (constant ⟨0, ![]⟩ .f32 0x7F800000#32))) (constantI ⟨0, ![]⟩ 1 1#1) hr hu j = 1#1)
    (i : s.Idx) : x i = ((x i).toReal : EReal) :=
  real_of_lt (Host.reduce_andi_all _ _ hr hu j e i)

/-- Every entry of a mask whose test for being off holds throughout is off. -/
theorem all_off {s : Shape} {x : IVec s 1} {axes} (hb : Shape.BroadcastsInDim ⟨0, ![]⟩ s ![])
    (hr : s.ReducesTo axes ⟨0, ![]⟩) (hu : 0 < Shape.numel ⟨0, ![]⟩) {j}
    (e : Host.reduce IntOp.andi (cmpi .eq x (broadcastInDim s ![] hb (constantI ⟨0, ![]⟩ 1 0#1))) (constantI ⟨0, ![]⟩ 1 1#1) hr hu j = 1#1)
    (i : s.Idx) : x i = 0#1 :=
  IntOp.cmpi_eq.1 (Host.reduce_andi_all _ _ hr hu j e i)

theorem both {a b : IVec ⟨0, ![]⟩ 1} {j} (h : andi a b j = 1#1) : a j = 1#1 ∧ b j = 1#1 := IntOp.andi_eq_one.1 h

/-! ## The arguments -/

/-- The reals of float arguments. -/
def argsOf (a0 : Vec Ideal ⟨2, ![8, 2048]⟩ .f32)
    (a5 a6 a7 : Vec Ideal ⟨1, ![2048]⟩ .f32) (a8 : Vec Ideal ⟨2, ![6144, 2048]⟩ .f32) (a9 : Vec Ideal ⟨1, ![6144]⟩ .f32)
    (a10 : Vec Ideal ⟨2, ![2048, 2048]⟩ .f32) (a11 : Vec Ideal ⟨1, ![2048]⟩ .f32) (a12 : Vec Ideal ⟨3, ![1, 1, 2048]⟩ .f32)
    (a13 : Vec Ideal ⟨2, ![1, 4096]⟩ .f32) (a14 : Vec Ideal ⟨1, ![1]⟩ .f32) (a15 : Vec Ideal ⟨2, ![8192, 2048]⟩ .f32)
    (a16 : Vec Ideal ⟨1, ![8192]⟩ .f32) (a17 : Vec Ideal ⟨2, ![2048, 4096]⟩ .f32) (a18 : Vec Ideal ⟨1, ![2048]⟩ .f32) : Args where
  q i j := EReal.toReal (a0 (ix2 i j))
  qnw i := EReal.toReal (a5 (ix1 i))
  mnw i := EReal.toReal (a6 (ix1 i))
  fnw i := EReal.toReal (a7 (ix1 i))
  W i j := EReal.toReal (a8 (ix2 i j))
  bi i := EReal.toReal (a9 (ix1 i))
  Wo i j := EReal.toReal (a10 (ix2 i j))
  bo i := EReal.toReal (a11 (ix1 i))
  sink j := EReal.toReal (a12 (ix3 0 0 j))
  gw j := EReal.toReal (a13 (ix2 0 j))
  gb := EReal.toReal (a14 (ix1 0))
  gu i j := EReal.toReal (a15 (ix2 i j))
  gub i := EReal.toReal (a16 (ix1 i))
  dw i j := EReal.toReal (a17 (ix2 i j))
  db i := EReal.toReal (a18 (ix1 i))

/-- The reals of a sequence. -/
def seqOf (a : Vec Ideal ⟨3, ![8, 2048, 2048]⟩ .f32) : Seq := fun b s d => EReal.toReal (a (ix3 b s d))

section

variable {a0 : Vec Ideal ⟨2, ![8, 2048]⟩ .f32} {a1 a2 : Vec Ideal ⟨3, ![8, 2048, 2048]⟩ .f32} {a3 a4 : IVec ⟨2, ![8, 2048]⟩ 1}
  {a5 a6 a7 : Vec Ideal ⟨1, ![2048]⟩ .f32} {a8 : Vec Ideal ⟨2, ![6144, 2048]⟩ .f32} {a9 : Vec Ideal ⟨1, ![6144]⟩ .f32}
  {a10 : Vec Ideal ⟨2, ![2048, 2048]⟩ .f32} {a11 : Vec Ideal ⟨1, ![2048]⟩ .f32} {a12 : Vec Ideal ⟨3, ![1, 1, 2048]⟩ .f32}
  {a13 : Vec Ideal ⟨2, ![1, 4096]⟩ .f32} {a14 : Vec Ideal ⟨1, ![1]⟩ .f32} {a15 : Vec Ideal ⟨2, ![8192, 2048]⟩ .f32}
  {a16 : Vec Ideal ⟨1, ![8192]⟩ .f32} {a17 : Vec Ideal ⟨2, ![2048, 4096]⟩ .f32} {a18 : Vec Ideal ⟨1, ![2048]⟩ .f32}

/-- Under the precondition the float arguments hold reals and the masks are off. -/
theorem given_of_pre (h : Cert.Pre_finite_unmasked.fn (F := Ideal) a0 a1 a2 a3 a4 a5 a6 a7 a8 a9 a10 a11 a12 a13 a14 a15 a16 a17 a18 = fun _ => 1#1) :
    Given (argsOf a0 a5 a6 a7 a8 a9 a10 a11 a12 a13 a14 a15 a16 a17 a18) (seqOf a1) (seqOf a2) a0 a1 a2 a5 a6 a7 a8 a9 a10 a11 a12 a13 a14 a15 a16 a17 a18
    ∧ (∀ i, a3 i = 0#1) ∧ (∀ i, a4 i = 0#1) := by
  have e := congrFun h (fun d => d.elim0)
  unfold Cert.Pre_finite_unmasked.fn Cert.Pre_finite_unmasked.fn_part1 Cert.Pre_finite_unmasked.fn_part2 Cert.Pre_finite_unmasked.fn_part3 Cert.Pre_finite_unmasked.fn_part4 Cert.Pre_finite_unmasked.fn_part5 at e
  simp only [] at e
  obtain ⟨e, e18⟩ := both e
  obtain ⟨e, e17⟩ := both e
  obtain ⟨e, e16⟩ := both e
  obtain ⟨e, e15⟩ := both e
  obtain ⟨e, e14⟩ := both e
  obtain ⟨e, e13⟩ := both e
  obtain ⟨e, e12⟩ := both e
  obtain ⟨e, e11⟩ := both e
  obtain ⟨e, e10⟩ := both e
  obtain ⟨e, e9⟩ := both e
  obtain ⟨e, e8⟩ := both e
  obtain ⟨e, e7⟩ := both e
  obtain ⟨e, e6⟩ := both e
  obtain ⟨e, e5⟩ := both e
  obtain ⟨e, e2⟩ := both e
  obtain ⟨e, e1⟩ := both e
  obtain ⟨e, e0⟩ := both e
  obtain ⟨e3, e4⟩ := both e
  have r0 := all_real _ _ _ e0
  have r1 := all_real _ _ _ e1
  have r2 := all_real _ _ _ e2
  have r5 := all_real _ _ _ e5
  have r6 := all_real _ _ _ e6
  have r7 := all_real _ _ _ e7
  have r8 := all_real _ _ _ e8
  have r9 := all_real _ _ _ e9
  have r10 := all_real _ _ _ e10
  have r11 := all_real _ _ _ e11
  have r12 := all_real _ _ _ e12
  have r13 := all_real _ _ _ e13
  have r14 := all_real _ _ _ e14
  have r15 := all_real _ _ _ e15
  have r16 := all_real _ _ _ e16
  have r17 := all_real _ _ _ e17
  have r18 := all_real _ _ _ e18
  refine ⟨{
      h0 := fun _ _ => r0 _, h1 := fun _ _ _ => r1 _, h2 := fun _ _ _ => r2 _, h5 := fun _ => r5 _, h6 := fun _ => r6 _, h7 := fun _ => r7 _,
      h8 := fun _ _ => r8 _, h9 := fun _ => r9 _, h10 := fun _ _ => r10 _, h11 := fun _ => r11 _, h12 := fun _ => r12 _, h13 := fun _ => r13 _,
      h14 := r14 _, h15 := fun _ _ => r15 _, h16 := fun _ => r16 _, h17 := fun _ _ => r17 _, h18 := fun _ => r18 _ },
    all_off _ _ _ e3, all_off _ _ _ e4⟩

end

end Cert.Value

end
-- ==== Proof.Value.Body0.lean ====
/- What the query launch computes: the normalised query and each head's query carried back through the key projection. -/
module

public import proofs.«01_k».proof.Proof.Value.Reals
public import proofs.«01_k».proof.Proof.KernelIdealRun.Region0
public import Idealize.ShloMosaic.Lib.Pointwise
public import Idealize.ShloMosaic.Lib.Pipeline.ValueKit

@[expose] public section

set_option maxRecDepth 16384

noncomputable section

namespace Cert.Value

open Idealize.ShloMosaic Idealize.ShloMosaic.Pointwise Cert.KernelIdeal Cert.KernelIdeal.Gen

variable {A : Args}

theorem pay0_nq {v0 : Vec Ideal S8x2048 .f32} {v1 : Vec Ideal S1x2048 .f32}
    (h0 : ∀ b d, v0 (ix2 b d) = (A.q b d : EReal)) (h1 : ∀ d, v1 (ix2 0 d) = (A.qnw d : EReal)) (b : Fin 8) (d : Fin 2048) :
    k0_pay3 (F := Ideal) v0 v1 (ix2 b d) = (A.nq b d : EReal) := by
  pointwise [k0_pay3]
  simp only [h0, h1, ofBits_2048, ofBits_eps, rsqrt_mean]
  simp only [← EReal.coe_mul, Args.nq, nrm]

theorem pay0_qh {v0 : Vec Ideal S8x2048 .f32} {v1 : Vec Ideal S1x2048 .f32} {w : Vec Ideal S2048x2048 .f32} {v : Vec Ideal S1x1x2048 .f32}
    (h0 : ∀ b d, v0 (ix2 b d) = (A.q b d : EReal)) (h1 : ∀ d, v1 (ix2 0 d) = (A.qnw d : EReal))
    (hw : ∀ e d, w (ix2 e d) = (A.W ⟨e.val, by omega⟩ d : EReal)) (hv : ∀ e, v (ix3 0 0 e) = (A.bi ⟨e.val, by omega⟩ : EReal))
    (b : Fin 8) (d : Fin 2048) :
    k0_pay4 (F := Ideal) v0 v1 w v (ix2 b d) = (A.qh b d : EReal) := by
  pointwise [k0_pay4]
  simp only [pay0_nq h0 h1, hw, hv]
  simp only [← EReal.coe_mul, ← EReal.coe_add, ← coe_sum, Args.qh]

/-- A head's sum, whichever way its positions are written. -/
theorem cq_of {b b' : Fin 8} {h : Fin 16} {d d' : Fin 2048} {o : Fin 128 → Fin 2048} {k : Fin 128 → Fin 6144} (hb : b'.val = b.val)
    (hd : d'.val = d.val) (ho : ∀ e, (o e).val = h.val * 128 + e.val) (hk : ∀ e, (k e).val = 2048 + (h.val * 128 + e.val)) :
    ((∑ e, A.qh b' (o e) * A.W (k e) d' : ℝ) : EReal) = (A.cq b h d : EReal) := by
  obtain rfl : b' = b := Fin.ext hb
  obtain rfl : d' = d := Fin.ext hd
  unfold Args.cq
  congr 1
  refine Finset.sum_congr rfl fun e _ => ?_
  rw [show o e = ⟨h.val * 128 + e.val, by omega⟩ from Fin.ext (ho e), show k e = ⟨2048 + (h.val * 128 + e.val), by omega⟩ from Fin.ext (hk e)]

section

variable {x0 : Vec Ideal S8x2048 .f32} {x1 : Vec Ideal S1x2048 .f32} {x2 : Vec Ideal S2048x2048 .f32} {x3 : Vec Ideal S1x1x2048 .f32}
  {x4 : Vec Ideal S2048x2048 .f32}

theorem out0_nq (h0 : ∀ b d, x0 (ix2 b d) = (A.q b d : EReal)) (h1 : ∀ d, x1 (ix2 0 d) = (A.qnw d : EReal)) (b : Fin 8) (d : Fin 2048) :
    out0_5 x0 x1 x2 x3 x4 (ix2 b d) = (A.nq b d : EReal) := by
  unfold out0_5
  rw [View.canon_unit_zero (by ext a; fin_cases a <;> rfl), View.ld_unit_zero (by ext a; fin_cases a <;> rfl),
    View.ld_unit_zero (by ext a; fin_cases a <;> rfl)]
  exact pay0_nq h0 h1 b d

theorem out0_c (h0 : ∀ b d, x0 (ix2 b d) = (A.q b d : EReal)) (h1 : ∀ d, x1 (ix2 0 d) = (A.qnw d : EReal))
    (hw : ∀ e d, x2 (ix2 e d) = (A.W ⟨e.val, by omega⟩ d : EReal)) (hv : ∀ e, x3 (ix3 0 0 e) = (A.bi ⟨e.val, by omega⟩ : EReal))
    (hk : ∀ e d, x4 (ix2 e d) = (A.W ⟨2048 + e.val, by omega⟩ d : EReal)) (i : Fin 128) (d : Fin 2048) :
    out0_6 x0 x1 x2 x3 x4 (ix2 i d) = (A.cq ⟨i.val % 8, by omega⟩ ⟨i.val / 8, by omega⟩ d : EReal) := by
  have hq : ∀ b d, k0_pay4 (F := Ideal) x0 x1 x2 x3 (ix2 b d) = (A.qh b d : EReal) := pay0_qh h0 h1 hw hv
  have l0 : View.ld x0 r0_0 = x0 := View.ld_unit_zero (by ext a; fin_cases a <;> rfl) _ _
  have l1 : View.ld x1 r0_1 = x1 := View.ld_unit_zero (by ext a; fin_cases a <;> rfl) _ _
  have l2 : View.ld x2 r0_2 = x2 := View.ld_unit_zero (by ext a; fin_cases a <;> rfl) _ _
  have l3 : View.ld x3 r0_3 = x3 := View.ld_unit_zero (by ext a; fin_cases a <;> rfl) _ _
  unfold out0_6
  refine View.canon_apply_of_pieces (Val := Elt Ideal)
    (fun i : S128x2048.Idx => (A.cq ⟨(i 0).val % 8, by omega⟩ ⟨(i 0).val / 8, by have h : (i 0).val < 128 := (i 0).isLt; omega⟩ (i 1) : EReal)) _ ?_ (ix2 i d)
    (cover0_6 _ _ _ _ _ _ _ _ _ _ _ _ _ _ _ _ _)
  simp only [k0_pay22, l0, l1, l2, l3]
  intro p hp
  simp only [List.mem_cons, List.not_mem_nil, or_false] at hp
  rcases hp with rfl | rfl | rfl | rfl | rfl | rfl | rfl | rfl | rfl | rfl | rfl | rfl | rfl | rfl | rfl | rfl
  all_goals
    intro x
    idx_vars x
    pointwise [k0_pay1, k0_pay2, k0_pay5, k0_pay6, k0_pay7, k0_pay8, k0_pay9, k0_pay10, k0_pay11, k0_pay12, k0_pay13, k0_pay14, k0_pay15,
      k0_pay16, k0_pay17, k0_pay18, k0_pay19, k0_pay20, k0_pay21, View.ld_unit]
    simp only [hq, hk, ← EReal.coe_mul, ← coe_sum]
    refine cq_of ?_ ?_ (fun e => ?_) (fun e => ?_) <;> (try blk_simp) <;> (try dsimp only) <;> omega

end

end Cert.Value

end
-- ==== Proof.Value.Arr0.lean ====
/- The arrays the query launch leaves. -/
module

public import proofs.«01_k».proof.Proof.Value.Body0

@[expose] public section

set_option maxRecDepth 16384

noncomputable section

namespace Cert.Value

open Idealize.ShloMosaic Idealize.ShloMosaic.Pointwise Idealize.ShloMosaic.Pipeline Cert.KernelIdeal Cert.KernelIdeal.Gen

variable {A : Args} {V : (c : Dev nD) → (b : Ref sig .tc) → Buf (Elt Ideal) (c.tc.loc b)} {c : Dev nD}

/-- The normalised query. -/
def nqArr (A : Args) : Vec Ideal S8x2048 .f32 := fun i => (A.nq (i 0) (i 1) : EReal)

/-- Each head's query carried back through the key projection, row `8·h + b`. -/
def cArr (A : Args) : Vec Ideal S128x2048 .f32 := fun i =>
  (A.cq ⟨(i 0).val % 8, by omega⟩ ⟨(i 0).val / 8, by have h : (i 0).val < 128 := (i 0).isLt; omega⟩ (i 1) : EReal)

theorem nqArr_of {i : S8x2048.Idx} {b : Fin 8} {d : Fin 2048} (h0 : (i 0).val = b.val) (h1 : (i 1).val = d.val) : nqArr A i = (A.nq b d : EReal) := by
  unfold nqArr
  rw [show i 0 = b from Fin.ext h0, show i 1 = d from Fin.ext h1]

theorem cArr_of {i : S128x2048.Idx} {r : Fin 128} {d : Fin 2048} (h0 : (i 0).val = r.val) (h1 : (i 1).val = d.val) :
    cArr A i = (A.cq ⟨r.val % 8, by omega⟩ ⟨r.val / 8, by omega⟩ d : EReal) := by
  obtain rfl : i 0 = r := Fin.ext h0
  obtain rfl : i 1 = d := Fin.ext h1
  rfl

set_option maxHeartbeats 2000000 in
/-- The arrays launch 0 leaves. -/
theorem arr0 (hq : ∀ b d, (V c (arrRef spec0 0) : Vec Ideal S8x2048 .f32) (ix2 b d) = (A.q b d : EReal))
    (hn : ∀ d, (V c (arrRef spec0 1) : Vec Ideal S1x2048 .f32) (ix2 0 d) = (A.qnw d : EReal))
    (hw : ∀ e d, (V c (arrRef spec0 2) : Vec Ideal S6144x2048 .f32) (ix2 e d) = (A.W e d : EReal))
    (hb : ∀ k e, (V c (arrRef spec0 3) : Vec Ideal S3x1x2048 .f32) (ix3 k 0 e) = (A.bi ⟨k.val * 2048 + e.val, by omega⟩ : EReal))
    (hk : ∀ e d, (V c (arrRef spec0 4) : Vec Ideal S6144x2048 .f32) (ix2 e d) = (A.W e d : EReal)) :
    (dat0 V c).arrAt 5 cfg0.N = nqArr A ∧ (dat0 V c).arrAt 6 cfg0.N = cArr A := by
  have e0 : ∀ t : Fin cfg0.N, win0_0.index t = ![0, 0] := (by decide +kernel : ∀ t : Fin grid0.N, _)
  have e1 : ∀ t : Fin cfg0.N, win0_1.index t = ![0, 0] := (by decide +kernel : ∀ t : Fin grid0.N, _)
  have e2 : ∀ t : Fin cfg0.N, win0_2.index t = ![0, 0] := (by decide +kernel : ∀ t : Fin grid0.N, _)
  have e3 : ∀ t : Fin cfg0.N, win0_3.index t = ![0, 0, 0] := (by decide +kernel : ∀ t : Fin grid0.N, _)
  have e4 : ∀ t : Fin cfg0.N, win0_4.index t = ![1, 0] := (by decide +kernel : ∀ t : Fin grid0.N, _)
  have e5 : ∀ t : Fin cfg0.N, win0_5.index t = ![0, 0] := (by decide +kernel : ∀ t : Fin grid0.N, _)
  have e6 : ∀ t : Fin cfg0.N, win0_6.index t = ![0, 0] := (by decide +kernel : ∀ t : Fin grid0.N, _)
  have i0 : ∀ t b d, iblk0 V c 0 t (ix2 b d) = (A.q b d : EReal) := fun t b d => by
    rw [← hq]
    blk_simp [iblk0, e0]
    blk_ext [e0]
  have i1 : ∀ t d, iblk0 V c 1 t (ix2 0 d) = (A.qnw d : EReal) := fun t d => by
    rw [← hn]
    blk_simp [iblk0, e1]
    blk_ext [e1]
  have i2 : ∀ t e d, iblk0 V c 2 t (ix2 e d) = (A.W ⟨e.val, by omega⟩ d : EReal) := fun t e d => by
    rw [← hw]
    blk_simp [iblk0, e2]
    blk_ext [e2]
  have i3 : ∀ t e, iblk0 V c 3 t (ix3 0 0 e) = (A.bi ⟨e.val, by omega⟩ : EReal) := fun t e => by
    rw [show A.bi ⟨e.val, by omega⟩ = A.bi ⟨(0 : Fin 3).val * 2048 + e.val, by have := e.isLt; show 0 * 2048 + e.val < 6144; omega⟩ from congrArg A.bi (Fin.ext (by show e.val = 0 * 2048 + e.val; omega)), ← hb]
    blk_simp [iblk0, e3]
    blk_ext [e3]
  have i4 : ∀ t e d, iblk0 V c 4 t (ix2 e d) = (A.W ⟨2048 + e.val, by omega⟩ d : EReal) := fun t e d => by
    rw [← hk]
    blk_simp [iblk0, e4]
    blk_ext [e4]
  constructor
  · refine (dat0 V c).arrAt_eq_of_covers 5 _ (by decide +kernel) fun t hf y => ?_
    blk_simp
    rw [after0_5]
    idx_vars y
    refine (out0_nq (i0 t) (i1 t) _ _).trans (Eq.symm ?_)
    refine nqArr_of ?_ ?_
    all_goals
      blk_simp [e5] <;> (try dsimp only) <;> omega
  · refine (dat0 V c).arrAt_eq_of_covers 6 _ (by decide +kernel) fun t hf y => ?_
    blk_simp
    rw [after0_6]
    idx_vars y
    refine (out0_c (i0 t) (i1 t) (i2 t) (i3 t) (i4 t) _ _).trans (Eq.symm ?_)
    refine cArr_of ?_ ?_
    all_goals
      blk_simp [e6] <;> (try dsimp only) <;> omega

end Cert.Value

end
-- ==== Proof.Value.Body1.lean ====
/- What a sequence's launch computes at one batch: the softmax-weighted sum of the normalised memory rows, and the
   softmax's denominator, for each head. -/
module

public import proofs.«01_k».proof.Proof.Value.Reals
public import proofs.«01_k».proof.Proof.Gen.KernelIdeal.Skeleton
public import Idealize.ShloMosaic.Lib.Pointwise

@[expose] public section

set_option maxRecDepth 16384

noncomputable section

namespace Cert.Value

open Idealize.ShloMosaic Idealize.ShloMosaic.Pointwise Cert.KernelIdeal Cert.KernelIdeal.Gen

variable {A : Args} {x : Seq} {b : Fin 8}

/-- The weighted sums one grid point stores, as a function of the blocks it reads. -/
def wm1 (v0 : Vec Ideal S1x2048x2048 .f32) (mw sk nqb : Vec Ideal S1x2048 .f32) (cb : Vec Ideal S16x2048 .f32) : Vec Ideal S16x2048 .f32 :=
  let nb := k1_pay7 (F := Ideal) v0 mw
  let nr := k1_pay8 (F := Ideal) v0 mw
  let ns := k1_pay11 (F := Ideal) (k1_pay4 mw) (k1_pay9 sk) (k1_pay10 sk)
  let nm := k1_pay12 (F := Ideal) (k1_pay4 mw) (k1_pay6 v0)
  let pen := k1_pay13 (F := Ideal) nb nqb
  k1_pay1 (F := Ideal) nb nm (k1_pay22 nb nr ns nm pen cb) (k1_pay23 nb nr ns nm pen cb) (k1_pay25 nb nr ns nm pen cb)
    (constant S16x2048 .f32 0x00000000#32)

/-- The denominators one grid point stores, as a function of the blocks it reads. -/
def den1 (v0 : Vec Ideal S1x2048x2048 .f32) (mw sk nqb : Vec Ideal S1x2048 .f32) (cb : Vec Ideal S16x2048 .f32) : Vec Ideal S1x1x16 .f32 :=
  let nb := k1_pay7 (F := Ideal) v0 mw
  let nr := k1_pay8 (F := Ideal) v0 mw
  let ns := k1_pay11 (F := Ideal) (k1_pay4 mw) (k1_pay9 sk) (k1_pay10 sk)
  let nm := k1_pay12 (F := Ideal) (k1_pay4 mw) (k1_pay6 v0)
  let pen := k1_pay13 (F := Ideal) nb nqb
  k1_pay2 (F := Ideal) (k1_pay24 nb nr ns nm pen cb)

/-- The constant both sequences' launches scale the logits by. -/
theorem named_scale : Named.named (F := Ideal) (φ := .f32) κ "inv_sqrt_dh" 0x3DB504F3#32 = (((Real.sqrt 128)⁻¹ : ℝ) : EReal) :=
  IdealRules.named_const.ideal_named_scalar _ _ _ _ rfl

/-- The penalty of a block that is not taken. -/
theorem named_mask : Named.named (F := Ideal) (φ := .f32) κ "mask" 0xF149F2CA#32 = ⊥ :=
  IdealRules.named_const.ideal_named_scalar _ _ _ _ rfl

/-- The comparisons' words, read as numbers and added, are 1 for a block taken before and 0 for any other. -/
theorem before_word (sc : Fin 128 → ℝ) (j n : Fin 128) :
    ((((BitVec.ofBool (decide ((sc n : EReal) < (sc j : EReal)))).setWidth 32).toInt : ℝ) : EReal)
      + ((((IntOp.andi (BitVec.ofBool (decide ((sc j : EReal) = (sc n : EReal))))
          (IntOp.cmpi .slt (BitVec.ofNat 32 j.val) (BitVec.ofNat 32 n.val))).setWidth 32).toInt : ℝ) : EReal)
      = ((open Classical in if before sc j n then 1 else 0 : ℝ) : EReal) := by
  have hw : IntOp.cmpi .slt (BitVec.ofNat 32 j.val) (BitVec.ofNat 32 n.val) = BitVec.ofBool (decide (j < n)) := by
    have e : ∀ k : Fin 128, (BitVec.ofNat 32 k.val).toInt = k.val := by decide +kernel
    simp only [IntOp.cmpi, BitVec.slt, e, Nat.cast_lt, Fin.lt_def]
  rw [hw]
  simp only [EReal.coe_lt_coe_iff, EReal.coe_eq_coe_iff]
  unfold before
  by_cases h1 : sc n < sc j
  · have h2 : ¬ sc j = sc n := h1.ne'
    simp [h1, h2, IntOp.andi]
  · by_cases h2 : sc j = sc n
    · by_cases h3 : j < n <;> simp [h2, h3, IntOp.andi]
    · simp [h1, h2, IntOp.andi]

/-- A maximum of values none of which is plus infinity is not plus infinity. -/
theorem fold_max_ne_top {ι : Type} (s : Finset ι) (f : ι → EReal) (h : ∀ i, f i ≠ ⊤) : Finset.fold max ⊥ f s ≠ ⊤ := by
  classical
  induction s using Finset.induction_on with
  | empty => simp
  | insert a s ha ih =>
    rw [Finset.fold_insert ha]
    rcases max_choice (f a) (Finset.fold max ⊥ f s) with e | e <;> rw [e]
    · exact h a
    · exact ih

section

variable {v0 : Vec Ideal S1x2048x2048 .f32} {mw sk nqb : Vec Ideal S1x2048 .f32} {cb : Vec Ideal S16x2048 .f32}

theorem pay1_blk (h0 : ∀ s d, v0 (ix3 0 s d) = (x b s d : EReal)) (n : Fin 128) (d : Fin 2048) :
    k1_pay5 (F := Ideal) v0 (ix2 n d) = (Args.blk x b n d : EReal) := by
  pointwise [k1_pay5, k1_pay3]
  simp only [h0, ofBits_16, ← coe_sum]
  rw [div_coe_coe (by norm_num)]
  simp only [Args.blk]

theorem pay1_avg (h0 : ∀ s d, v0 (ix3 0 s d) = (x b s d : EReal)) (d : Fin 2048) :
    k1_pay6 (F := Ideal) v0 (ix2 0 d) = (Args.avg x b d : EReal) := by
  pointwise [k1_pay6]
  simp only [pay1_blk h0, ofBits_128, ← coe_sum]
  rw [div_coe_coe (by norm_num)]
  rfl

theorem pay1_nb (h0 : ∀ s d, v0 (ix3 0 s d) = (x b s d : EReal)) (h1 : ∀ d, mw (ix2 0 d) = (A.mnw d : EReal)) (n : Fin 128) (d : Fin 2048) :
    k1_pay7 (F := Ideal) v0 mw (ix2 n d) = (nrm (Args.blk x b n) A.mnw d : EReal) := by
  pointwise [k1_pay7, k1_pay4]
  simp only [pay1_blk h0, h1, ofBits_2048, ofBits_eps, rsqrt_mean]
  simp only [← EReal.coe_mul, nrm]

theorem pay1_nr (h0 : ∀ s d, v0 (ix3 0 s d) = (x b s d : EReal)) (h1 : ∀ d, mw (ix2 0 d) = (A.mnw d : EReal)) (r : Fin 512) (d : Fin 2048) :
    k1_pay8 (F := Ideal) v0 mw (ix2 r d) = (nrm (Args.recent x b r) A.mnw d : EReal) := by
  pointwise [k1_pay8, k1_pay4, k1_pay3]
  simp only [h0, h1, ofBits_2048, ofBits_eps, rsqrt_mean]
  simp only [← EReal.coe_mul, nrm, Args.recent]

theorem pay1_ns (h1 : ∀ d, mw (ix2 0 d) = (A.mnw d : EReal)) (h2 : ∀ d, sk (ix2 0 d) = (A.sink d : EReal)) (d : Fin 2048) :
    k1_pay11 (F := Ideal) (k1_pay4 mw) (k1_pay9 sk) (k1_pay10 sk) (ix2 0 d) = (nrm A.sink A.mnw d : EReal) := by
  pointwise [k1_pay11, k1_pay4, k1_pay9, k1_pay10]
  simp only [h1, h2, ofBits_2048, ofBits_eps, rsqrt_mean]
  simp only [← EReal.coe_mul, nrm]

theorem pay1_nm (h0 : ∀ s d, v0 (ix3 0 s d) = (x b s d : EReal)) (h1 : ∀ d, mw (ix2 0 d) = (A.mnw d : EReal)) (d : Fin 2048) :
    k1_pay12 (F := Ideal) (k1_pay4 mw) (k1_pay6 v0) (ix2 0 d) = (nrm (Args.avg x b) A.mnw d : EReal) := by
  pointwise [k1_pay12, k1_pay4]
  simp only [h1, pay1_avg h0, ofBits_2048, ofBits_eps, rsqrt_mean]
  simp only [← EReal.coe_mul, nrm]

/-- The penalty of a block: none for a block before which fewer than 64 are taken, minus infinity for the others. -/
theorem pay1_pen {nb : Vec Ideal S128x2048 .f32} (hb : ∀ n d, nb (ix2 n d) = (nrm (Args.blk x b n) A.mnw d : EReal))
    (hq : ∀ d, nqb (ix2 0 d) = (A.nq b d : EReal)) (n : Fin 128) :
    k1_pay13 (F := Ideal) nb nqb (ix2 n 0) = if rank (A.sc x b) n < 64 then 0 else ⊥ := by
  classical
  have hs : ∀ n, ∑ d, nb (ix2 n d) * nqb (ix2 0 d) = (A.sc x b n : EReal) := fun n => by
    simp only [hb, hq, ← EReal.coe_mul, ← coe_sum, Args.sc]
  pointwise [k1_pay13]
  simp only [hs, named_mask, ofBits_64]
  have hr : (∑ j, ((if before (A.sc x b) j n then 1 else 0 : ℝ) : EReal)) = ((rank (A.sc x b) n : ℝ) : EReal) := by
    rw [← coe_sum, Finset.sum_boole, rank]
  have hw := fun j => before_word (A.sc x b) j n
  have he := (Finset.sum_congr rfl fun j _ => (hw j).trans (by congr!)).trans hr
  refine if_congr (Iff.trans (iff_of_eq (congrArg (fun v : EReal => v < ((64 : ℝ) : EReal)) he)) ?_) rfl rfl
  simp only [EReal.coe_lt_coe_iff, Nat.cast_lt_ofNat]

theorem pay1_lrec {nr : Vec Ideal S512x2048 .f32} {y : Fin 512 → Fin 2048 → ℝ} (hn : ∀ r d, nr (ix2 r d) = (nrm (y r) A.mnw d : EReal))
    (hc : ∀ h d, cb (ix2 h d) = (A.cq b h d : EReal)) (r : Fin 512) (h : Fin 16) :
    k1_pay16 (F := Ideal) nr cb (ix2 r h) = (A.lg b h (y r) : EReal) := by
  pointwise [k1_pay16, k1_pay14]
  simp only [hn, hc, named_scale, ← EReal.coe_mul, ← coe_sum, Args.lg]

theorem pay1_lsink {ns : Vec Ideal S1x2048 .f32} {y : Fin 2048 → ℝ} (hn : ∀ d, ns (ix2 0 d) = (nrm y A.mnw d : EReal))
    (hc : ∀ h d, cb (ix2 h d) = (A.cq b h d : EReal)) (h : Fin 16) :
    k1_pay15 (F := Ideal) ns cb (ix2 0 h) = (A.lg b h y : EReal) := by
  pointwise [k1_pay15, k1_pay14]
  simp only [hn, hc, named_scale, ← EReal.coe_mul, ← coe_sum, Args.lg]

theorem pay1_lmean {nm : Vec Ideal S1x2048 .f32} {y : Fin 2048 → ℝ} (hn : ∀ d, nm (ix2 0 d) = (nrm y A.mnw d : EReal))
    (hc : ∀ h d, cb (ix2 h d) = (A.cq b h d : EReal)) (h : Fin 16) :
    k1_pay18 (F := Ideal) nm cb (ix2 0 h) = (A.lg b h y : EReal) := by
  pointwise [k1_pay18, k1_pay14]
  simp only [hn, hc, named_scale, ← EReal.coe_mul, ← coe_sum, Args.lg]

theorem pay1_lblk {nb : Vec Ideal S128x2048 .f32} {pen : Vec Ideal S128x1 .f32} {y : Fin 128 → Fin 2048 → ℝ} {p : Fin 128 → Prop} [DecidablePred p]
    (hn : ∀ r d, nb (ix2 r d) = (nrm (y r) A.mnw d : EReal)) (hp : ∀ n, pen (ix2 n 0) = if p n then 0 else ⊥)
    (hc : ∀ h d, cb (ix2 h d) = (A.cq b h d : EReal)) (n : Fin 128) (h : Fin 16) :
    k1_pay17 (F := Ideal) nb pen cb (ix2 n h) = if p n then (A.lg b h (y n) : EReal) else ⊥ := by
  pointwise [k1_pay17, k1_pay14]
  simp only [hn, hc, hp, named_scale, ← EReal.coe_mul, ← coe_sum, Args.lg]
  split_ifs
  · rw [add_zero]
  · rw [EReal.add_bot]

/-- The whole of one grid point: with the shift `μ` each head takes, the weighted sum and the denominator. -/
theorem body1 (h0 : ∀ s d, v0 (ix3 0 s d) = (x b s d : EReal)) (h1 : ∀ d, mw (ix2 0 d) = (A.mnw d : EReal))
    (h2 : ∀ d, sk (ix2 0 d) = (A.sink d : EReal)) (hq : ∀ d, nqb (ix2 0 d) = (A.nq b d : EReal))
    (hc : ∀ h d, cb (ix2 h d) = (A.cq b h d : EReal)) :
    ∃ μ : Fin 16 → ℝ, (∀ h d, wm1 v0 mw sk nqb cb (ix2 h d) = (A.wm x (μ h) b h d : EReal))
      ∧ ∀ h, den1 v0 mw sk nqb cb (ix3 0 0 h) = (A.den x (μ h) b h : EReal) := by
  unfold wm1 den1
  have hb := pay1_nb (mw := mw) h0 h1
  have hr := pay1_nr (mw := mw) h0 h1
  have hs := pay1_ns (sk := sk) h1 h2
  have hm := pay1_nm (mw := mw) h0 h1
  have hp := pay1_pen hb hq
  generalize k1_pay7 (F := Ideal) v0 mw = nb at *
  generalize k1_pay8 (F := Ideal) v0 mw = nr at *
  generalize k1_pay11 (F := Ideal) (k1_pay4 mw) (k1_pay9 sk) (k1_pay10 sk) = ns at *
  generalize k1_pay12 (F := Ideal) (k1_pay4 mw) (k1_pay6 v0) = nm at *
  generalize k1_pay13 (F := Ideal) nb nqb = pen at *
  have ls := pay1_lsink hs hc
  have lr := pay1_lrec hr hc
  have lb := pay1_lblk hb hp hc
  have lm := pay1_lmean hm hc
  have hM : ∀ h, ∃ μ : ℝ, k1_pay19 (F := Ideal) nb nr ns nm pen cb (ix2 0 h) = (μ : EReal) := fun h => by
    pointwise [k1_pay19]
    simp only [ls, lr, lb, lm, ofBits_negInf]
    refine ⟨_, (EReal.coe_toReal ?_ ?_).symm⟩
    · refine (max_lt (max_lt ?_ ?_) (max_lt ?_ ?_)).ne
      · exact lt_top_iff_ne_top.mpr (fold_max_ne_top _ _ fun r => EReal.coe_ne_top _)
      · refine lt_top_iff_ne_top.mpr (fold_max_ne_top _ _ fun r => ?_)
        split_ifs
        · exact EReal.coe_ne_top _
        · exact bot_ne_top
      · exact EReal.coe_lt_top _
      · exact EReal.coe_lt_top _
    · exact (lt_of_lt_of_le (EReal.bot_lt_coe _) ((le_max_left _ _).trans (le_max_right _ _))).ne'
  choose μ hμ using hM
  have es : ∀ h, k1_pay20 (F := Ideal) nb nr ns nm pen cb (ix2 0 h) = (Real.exp (A.lg b h A.sink - μ h) : EReal) := fun h => by
    pointwise [k1_pay20]
    rw [ls, hμ, ← EReal.coe_sub, Ideal.exp_coe]
  have er : ∀ r h, k1_pay21 (F := Ideal) nb nr ns nm pen cb (ix2 r h) = (Real.exp (A.lg b h (Args.recent x b r) - μ h) : EReal) := fun r h => by
    pointwise [k1_pay21]
    rw [lr, hμ, ← EReal.coe_sub, Ideal.exp_coe]
  have eb : ∀ n h, k1_pay22 (F := Ideal) nb nr ns nm pen cb (ix2 n h)
      = ((if rank (A.sc x b) n < 64 then Real.exp (A.lg b h (Args.blk x b n) - μ h) else 0 : ℝ) : EReal) := fun n h => by
    pointwise [k1_pay22]
    rw [lb, hμ]
    split_ifs
    · rw [← EReal.coe_sub, Ideal.exp_coe]
    · rw [EReal.bot_sub, Ideal.exp_bot]; rfl
  have em : ∀ h, k1_pay23 (F := Ideal) nb nr ns nm pen cb (ix2 0 h) = (Real.exp (A.lg b h (Args.avg x b) - μ h) : EReal) := fun h => by
    pointwise [k1_pay23]
    rw [lm, hμ, ← EReal.coe_sub, Ideal.exp_coe]
  refine ⟨μ, fun h d => ?_, fun h => ?_⟩
  · pointwise [k1_pay1, k1_pay25]
    simp only [Fin.sum_univ_one, es, er, eb, em, hb, hr, hs, hm, ← EReal.coe_mul, ← coe_sum, ← EReal.coe_add, Args.wm, Args.mem, ite_mul, zero_mul]
  · pointwise [k1_pay2, k1_pay24]
    simp only [es, er, eb, em, ← coe_sum, ← EReal.coe_add, Args.den, Args.mem, mul_one]
    congr 1
    ring

end

end Cert.Value

end
-- ==== Proof.Value.Out1.lean ====
/- What the two sequences' launches leave at a grid point, as functions of the blocks read. -/
module

public import proofs.«01_k».proof.Proof.Value.Body1
public import proofs.«01_k».proof.Proof.KernelIdealRun.Region1
public import proofs.«01_k».proof.Proof.KernelIdealRun.Region2
public import Idealize.ShloMosaic.Lib.Pipeline.ValueKit

@[expose] public section

set_option maxRecDepth 16384

noncomputable section

namespace Cert.Value

open Idealize.ShloMosaic Idealize.ShloMosaic.Pointwise Idealize.ShloMosaic.Pipeline Cert.KernelIdeal Cert.KernelIdeal.Gen

/-- A load through a rectangle of a buffer held whole reads that rectangle of its contents. -/
theorem load_whole {s : Shape} {e : EltTy} {sp : Space} {mm : Memref sig .tc sp s e} (h : mm.IsWhole) (X : s.Idx → Elt Ideal e) (r : Rect s) :
    mm.view.readAt (Elt Ideal) r.toLoadRect (h.unread X) = View.ld X r := by
  rw [View.readAt_eq_ld, h.read_unread]

variable (V : (c : Dev nD) → (b : Ref sig .tc) → Buf (Elt Ideal) (c.tc.loc b))

/-- Launch 1, window 5: what is left at a grid point. -/
theorem out1_wm (c : Dev nD) (t : Fin cfg1.N) :
    (outsAt1 V c t).1 = wm1 (iblk1 V c 0 t) (iblk1 V c 3 t) (iblk1 V c 4 t)
      (View.ld (iblk1 V c 1 t) (Rect.unit (s := S8x2048) (k1_off1 (grid1.coords t)) S1x2048.size (k1_off1_inb _)))
      (View.ld (iblk1 V c 2 t) (Rect.unit (s := S128x2048) (k1_off2 (grid1.coords t)) S16x2048.size (k1_off2_inb _))) := by
  unfold outsAt1 out1_A_5
  dsimp only
  rw [View.read_writes_eq_canon _ _ _ (cover1_A_5 c _ _ _ _ _ _ _ _ _ _ _ _ _ _ _ _ _ _ _ _)]
  refine (View.canon_unit_zero (by ext a; fin_cases a <;> rfl) _ _).trans ?_
  refine (show _ = wm1 (View.readAt (Elt Ideal) (ms1_0 t).view (Rect.unit (s := S1x2048x2048) ![0, 0, 0] S1x2048x2048.size inb_S1x2048x2048_S1x2048x2048_0_0_0).toLoadRect ((hs1_0 t).unread (iblk1 V c 0 t)))
      (View.readAt (Elt Ideal) (ms1_3 t).view (Rect.unit (s := S1x2048) ![0, 0] S1x2048.size inb_S1x2048_S1x2048_0_0).toLoadRect ((hs1_3 t).unread (iblk1 V c 3 t)))
      (View.readAt (Elt Ideal) (ms1_4 t).view (Rect.unit (s := S1x2048) ![0, 0] S1x2048.size inb_S1x2048_S1x2048_0_0).toLoadRect ((hs1_4 t).unread (iblk1 V c 4 t)))
      (View.readAt (Elt Ideal) (ms1_1 t).view (Rect.unit (s := S8x2048) (k1_off1 (grid1.coords t)) S1x2048.size (k1_off1_inb _)).toLoadRect ((hs1_1 t).unread (iblk1 V c 1 t)))
      (View.readAt (Elt Ideal) (ms1_2 t).view (Rect.unit (s := S128x2048) (k1_off2 (grid1.coords t)) S16x2048.size (k1_off2_inb _)).toLoadRect ((hs1_2 t).unread (iblk1 V c 2 t))) from rfl).trans ?_
  rw [load_whole, load_whole, load_whole, load_whole, load_whole, View.ld_unit_zero (by ext a; fin_cases a <;> rfl),
    View.ld_unit_zero (by ext a; fin_cases a <;> rfl), View.ld_unit_zero (by ext a; fin_cases a <;> rfl)]
  rfl

/-- Launch 1, window 6: what is left at a grid point. -/
theorem out1_den (c : Dev nD) (t : Fin cfg1.N) :
    (outsAt1 V c t).2 = den1 (iblk1 V c 0 t) (iblk1 V c 3 t) (iblk1 V c 4 t)
      (View.ld (iblk1 V c 1 t) (Rect.unit (s := S8x2048) (k1_off1 (grid1.coords t)) S1x2048.size (k1_off1_inb _)))
      (View.ld (iblk1 V c 2 t) (Rect.unit (s := S128x2048) (k1_off2 (grid1.coords t)) S16x2048.size (k1_off2_inb _))) := by
  unfold outsAt1 out1_A_6
  dsimp only
  rw [View.read_writes_eq_canon _ _ _ (cover1_A_6 c _ _ _ _ _ _ _ _ _ _ _ _ _ _ _ _ _ _ _ _)]
  refine (View.canon_unit_zero (by ext a; fin_cases a <;> rfl) _ _).trans ?_
  refine (show _ = den1 (View.readAt (Elt Ideal) (ms1_0 t).view (Rect.unit (s := S1x2048x2048) ![0, 0, 0] S1x2048x2048.size inb_S1x2048x2048_S1x2048x2048_0_0_0).toLoadRect ((hs1_0 t).unread (iblk1 V c 0 t)))
      (View.readAt (Elt Ideal) (ms1_3 t).view (Rect.unit (s := S1x2048) ![0, 0] S1x2048.size inb_S1x2048_S1x2048_0_0).toLoadRect ((hs1_3 t).unread (iblk1 V c 3 t)))
      (View.readAt (Elt Ideal) (ms1_4 t).view (Rect.unit (s := S1x2048) ![0, 0] S1x2048.size inb_S1x2048_S1x2048_0_0).toLoadRect ((hs1_4 t).unread (iblk1 V c 4 t)))
      (View.readAt (Elt Ideal) (ms1_1 t).view (Rect.unit (s := S8x2048) (k1_off1 (grid1.coords t)) S1x2048.size (k1_off1_inb _)).toLoadRect ((hs1_1 t).unread (iblk1 V c 1 t)))
      (View.readAt (Elt Ideal) (ms1_2 t).view (Rect.unit (s := S128x2048) (k1_off2 (grid1.coords t)) S16x2048.size (k1_off2_inb _)).toLoadRect ((hs1_2 t).unread (iblk1 V c 2 t))) from rfl).trans ?_
  rw [load_whole, load_whole, load_whole, load_whole, load_whole, View.ld_unit_zero (by ext a; fin_cases a <;> rfl),
    View.ld_unit_zero (by ext a; fin_cases a <;> rfl), View.ld_unit_zero (by ext a; fin_cases a <;> rfl)]
  rfl

/-- Launch 2, window 5: what is left at a grid point. -/
theorem out2_wm (c : Dev nD) (t : Fin cfg2.N) :
    (outsAt2 V c t).1 = wm1 (iblk2 V c 0 t) (iblk2 V c 3 t) (iblk2 V c 4 t)
      (View.ld (iblk2 V c 1 t) (Rect.unit (s := S8x2048) (k2_off1 (grid2.coords t)) S1x2048.size (k2_off1_inb _)))
      (View.ld (iblk2 V c 2 t) (Rect.unit (s := S128x2048) (k2_off2 (grid2.coords t)) S16x2048.size (k2_off2_inb _))) := by
  unfold outsAt2 out2_A_5
  dsimp only
  rw [View.read_writes_eq_canon _ _ _ (cover2_A_5 c _ _ _ _ _ _ _ _ _ _ _ _ _ _ _ _ _ _ _ _)]
  refine (View.canon_unit_zero (by ext a; fin_cases a <;> rfl) _ _).trans ?_
  refine (show _ = wm1 (View.readAt (Elt Ideal) (ms2_0 t).view (Rect.unit (s := S1x2048x2048) ![0, 0, 0] S1x2048x2048.size inb_S1x2048x2048_S1x2048x2048_0_0_0).toLoadRect ((hs2_0 t).unread (iblk2 V c 0 t)))
      (View.readAt (Elt Ideal) (ms2_3 t).view (Rect.unit (s := S1x2048) ![0, 0] S1x2048.size inb_S1x2048_S1x2048_0_0).toLoadRect ((hs2_3 t).unread (iblk2 V c 3 t)))
      (View.readAt (Elt Ideal) (ms2_4 t).view (Rect.unit (s := S1x2048) ![0, 0] S1x2048.size inb_S1x2048_S1x2048_0_0).toLoadRect ((hs2_4 t).unread (iblk2 V c 4 t)))
      (View.readAt (Elt Ideal) (ms2_1 t).view (Rect.unit (s := S8x2048) (k2_off1 (grid2.coords t)) S1x2048.size (k2_off1_inb _)).toLoadRect ((hs2_1 t).unread (iblk2 V c 1 t)))
      (View.readAt (Elt Ideal) (ms2_2 t).view (Rect.unit (s := S128x2048) (k2_off2 (grid2.coords t)) S16x2048.size (k2_off2_inb _)).toLoadRect ((hs2_2 t).unread (iblk2 V c 2 t))) from rfl).trans ?_
  rw [load_whole, load_whole, load_whole, load_whole, load_whole, View.ld_unit_zero (by ext a; fin_cases a <;> rfl),
    View.ld_unit_zero (by ext a; fin_cases a <;> rfl), View.ld_unit_zero (by ext a; fin_cases a <;> rfl)]
  rfl

/-- Launch 2, window 6: what is left at a grid point. -/
theorem out2_den (c : Dev nD) (t : Fin cfg2.N) :
    (outsAt2 V c t).2 = den1 (iblk2 V c 0 t) (iblk2 V c 3 t) (iblk2 V c 4 t)
      (View.ld (iblk2 V c 1 t) (Rect.unit (s := S8x2048) (k2_off1 (grid2.coords t)) S1x2048.size (k2_off1_inb _)))
      (View.ld (iblk2 V c 2 t) (Rect.unit (s := S128x2048) (k2_off2 (grid2.coords t)) S16x2048.size (k2_off2_inb _))) := by
  unfold outsAt2 out2_A_6
  dsimp only
  rw [View.read_writes_eq_canon _ _ _ (cover2_A_6 c _ _ _ _ _ _ _ _ _ _ _ _ _ _ _ _ _ _ _ _)]
  refine (View.canon_unit_zero (by ext a; fin_cases a <;> rfl) _ _).trans ?_
  refine (show _ = den1 (View.readAt (Elt Ideal) (ms2_0 t).view (Rect.unit (s := S1x2048x2048) ![0, 0, 0] S1x2048x2048.size inb_S1x2048x2048_S1x2048x2048_0_0_0).toLoadRect ((hs2_0 t).unread (iblk2 V c 0 t)))
      (View.readAt (Elt Ideal) (ms2_3 t).view (Rect.unit (s := S1x2048) ![0, 0] S1x2048.size inb_S1x2048_S1x2048_0_0).toLoadRect ((hs2_3 t).unread (iblk2 V c 3 t)))
      (View.readAt (Elt Ideal) (ms2_4 t).view (Rect.unit (s := S1x2048) ![0, 0] S1x2048.size inb_S1x2048_S1x2048_0_0).toLoadRect ((hs2_4 t).unread (iblk2 V c 4 t)))
      (View.readAt (Elt Ideal) (ms2_1 t).view (Rect.unit (s := S8x2048) (k2_off1 (grid2.coords t)) S1x2048.size (k2_off1_inb _)).toLoadRect ((hs2_1 t).unread (iblk2 V c 1 t)))
      (View.readAt (Elt Ideal) (ms2_2 t).view (Rect.unit (s := S128x2048) (k2_off2 (grid2.coords t)) S16x2048.size (k2_off2_inb _)).toLoadRect ((hs2_2 t).unread (iblk2 V c 2 t))) from rfl).trans ?_
  rw [load_whole, load_whole, load_whole, load_whole, load_whole, View.ld_unit_zero (by ext a; fin_cases a <;> rfl),
    View.ld_unit_zero (by ext a; fin_cases a <;> rfl), View.ld_unit_zero (by ext a; fin_cases a <;> rfl)]
  rfl

end Cert.Value

end
-- ==== Proof.Value.Arr1.lean ====
/- The arrays the two sequences' launches leave: each head's weighted sum of memory rows, and its denominator. -/
module

public import proofs.«01_k».proof.Proof.Value.Out1

@[expose] public section

set_option maxRecDepth 16384

noncomputable section

namespace Cert.Value

open Idealize.ShloMosaic Idealize.ShloMosaic.Pointwise Idealize.ShloMosaic.Pipeline Cert.KernelIdeal Cert.KernelIdeal.Gen

variable {A : Args} {x : Seq} {V : (c : Dev nD) → (b : Ref sig .tc) → Buf (Elt Ideal) (c.tc.loc b)} {c : Dev nD}

/-- The weighted sums of all batches and heads, as the array the launch writes: row `16 b + h`. -/
def wmArr (A : Args) (x : Seq) (μ : Fin 8 → Fin 16 → ℝ) : Vec Ideal S128x2048 .f32 := fun i =>
  have hi : (i 0).val < 128 := (i 0).isLt
  (A.wm x (μ ⟨(i 0).val / 16, by omega⟩ ⟨(i 0).val % 16, by omega⟩) ⟨(i 0).val / 16, by omega⟩ ⟨(i 0).val % 16, by omega⟩ (i 1) : EReal)

/-- The denominators of all batches and heads. -/
def denArr (A : Args) (x : Seq) (μ : Fin 8 → Fin 16 → ℝ) : Vec Ideal S8x1x16 .f32 := fun i =>
  (A.den x (μ (i 0) (i 2)) (i 0) (i 2) : EReal)

theorem wmArr_of {μ : Fin 8 → Fin 16 → ℝ} {i : S128x2048.Idx} {b : Fin 8} {h : Fin 16} {d : Fin 2048} (h0 : (i 0).val = b.val * 16 + h.val)
    (h1 : (i 1).val = d.val) : wmArr A x μ i = (A.wm x (μ b h) b h d : EReal) := by
  unfold wmArr
  dsimp only
  have eb : ∀ q, (⟨(i 0).val / 16, q⟩ : Fin 8) = b := fun q => Fin.ext (by dsimp only; omega)
  have eh : ∀ q, (⟨(i 0).val % 16, q⟩ : Fin 16) = h := fun q => Fin.ext (by dsimp only; omega)
  rw [eb, eh, show i 1 = d from Fin.ext h1]

theorem denArr_of {μ : Fin 8 → Fin 16 → ℝ} {i : S8x1x16.Idx} {b : Fin 8} {h : Fin 16} (h0 : (i 0).val = b.val)
    (h1 : (i 2).val = h.val) : denArr A x μ i = (A.den x (μ b h) b h : EReal) := by
  unfold denArr
  rw [show i 0 = b from Fin.ext h0, show i 2 = h from Fin.ext h1]

/-- Launch 1 at a grid point: with the shifts `μ`, the weighted sums and the denominators of that batch. -/
theorem point1 (hx : ∀ b s d, (V c (arrRef spec1 0) : Vec Ideal S8x2048x2048 .f32) (ix3 b s d) = (x b s d : EReal))
    (hq : ∀ b d, (V c (arrRef spec1 1) : Vec Ideal S8x2048 .f32) (ix2 b d) = (A.nq b d : EReal))
    (hc : ∀ i d, (V c (arrRef spec1 2) : Vec Ideal S128x2048 .f32) (ix2 i d) = (A.cq ⟨i.val / 16, by omega⟩ ⟨i.val % 16, by omega⟩ d : EReal))
    (hw : ∀ d, (V c (arrRef spec1 3) : Vec Ideal S1x2048 .f32) (ix2 0 d) = (A.mnw d : EReal))
    (hs : ∀ d, (V c (arrRef spec1 4) : Vec Ideal S1x2048 .f32) (ix2 0 d) = (A.sink d : EReal)) (t : Fin cfg1.N) :
    ∃ μ : Fin 16 → ℝ, (∀ h d, (outsAt1 V c t).1 (ix2 h d) = (A.wm x (μ h) ⟨(grid1.coords t 0).val, (grid1.coords t 0).isLt⟩ h d : EReal))
      ∧ ∀ h, (outsAt1 V c t).2 (ix3 0 0 h) = (A.den x (μ h) ⟨(grid1.coords t 0).val, (grid1.coords t 0).isLt⟩ h : EReal) := by
  have e0 : ∀ t : Fin cfg1.N, win1_0.index t = ![(grid1.coords t 0).val, 0, 0] := (by decide +kernel : ∀ t : Fin grid1.N, _)
  have e1 : ∀ t : Fin cfg1.N, win1_1.index t = ![0, 0] := (by decide +kernel : ∀ t : Fin grid1.N, _)
  have e2 : ∀ t : Fin cfg1.N, win1_2.index t = ![0, 0] := (by decide +kernel : ∀ t : Fin grid1.N, _)
  have e3 : ∀ t : Fin cfg1.N, win1_3.index t = ![0, 0] := (by decide +kernel : ∀ t : Fin grid1.N, _)
  have e4 : ∀ t : Fin cfg1.N, win1_4.index t = ![0, 0] := (by decide +kernel : ∀ t : Fin grid1.N, _)
  have hb : (grid1.coords t 0).val < 8 := (grid1.coords t 0).isLt
  rw [out1_wm, out1_den]
  refine body1 (b := ⟨(grid1.coords t 0).val, (grid1.coords t 0).isLt⟩) (fun s d => ?_) (fun d => ?_) (fun d => ?_) (fun d => ?_) (fun h d => ?_)
  · rw [← hx]
    blk_simp [iblk1, e0]
    blk_ext [e0]
  · rw [← hw]
    blk_simp [iblk1, e3]
    blk_ext [e3]
  · rw [← hs]
    blk_simp [iblk1, e4]
    blk_ext [e4]
  · rw [← hq]
    pointwise [View.ld_unit]
    blk_simp [iblk1, e1]
    blk_ext [e1, k1_off1_eq]
  · rw [show A.cq ⟨(grid1.coords t 0).val, (grid1.coords t 0).isLt⟩ h d = A.cq ⟨(16 * (grid1.coords t 0).val + h.val) / 16, by omega⟩ ⟨(16 * (grid1.coords t 0).val + h.val) % 16, by omega⟩ d by
      congr 1 <;> (refine Fin.ext ?_; dsimp only; omega)]
    rw [← hc ⟨16 * (grid1.coords t 0).val + h.val, by omega⟩]
    pointwise [View.ld_unit]
    blk_simp [iblk1, e2]
    blk_ext [e2, k1_off2_eq]

/-- The arrays launch 1 leaves. -/
theorem arr1 (hx : ∀ b s d, (V c (arrRef spec1 0) : Vec Ideal S8x2048x2048 .f32) (ix3 b s d) = (x b s d : EReal))
    (hq : ∀ b d, (V c (arrRef spec1 1) : Vec Ideal S8x2048 .f32) (ix2 b d) = (A.nq b d : EReal))
    (hc : ∀ i d, (V c (arrRef spec1 2) : Vec Ideal S128x2048 .f32) (ix2 i d) = (A.cq ⟨i.val / 16, by omega⟩ ⟨i.val % 16, by omega⟩ d : EReal))
    (hw : ∀ d, (V c (arrRef spec1 3) : Vec Ideal S1x2048 .f32) (ix2 0 d) = (A.mnw d : EReal))
    (hs : ∀ d, (V c (arrRef spec1 4) : Vec Ideal S1x2048 .f32) (ix2 0 d) = (A.sink d : EReal)) :
    ∃ μ : Fin 8 → Fin 16 → ℝ, (dat1 V c).arrAt 5 cfg1.N = wmArr A x μ ∧ (dat1 V c).arrAt 6 cfg1.N = denArr A x μ := by
  have e5 : ∀ t : Fin cfg1.N, win1_5.index t = ![t.val, 0] := (by decide +kernel : ∀ t : Fin grid1.N, _)
  have e6 : ∀ t : Fin cfg1.N, win1_6.index t = ![t.val, 0, 0] := (by decide +kernel : ∀ t : Fin grid1.N, _)
  have hinj : ∀ t : Fin cfg1.N, (⟨(grid1.coords t 0).val, (grid1.coords t 0).isLt⟩ : Fin 8) = ⟨t.val, t.isLt⟩ :=
    (by decide +kernel : ∀ t : Fin grid1.N, _)
  have hp := fun t => point1 hx hq hc hw hs (t := t)
  choose μ hμ using hp
  refine ⟨fun b => μ ⟨b.val, b.isLt⟩, ?_, ?_⟩
  · refine (dat1 V c).arrAt_eq_of_covers 5 _ (by decide +kernel) fun t hf y => ?_
    blk_simp
    rw [after1_5]
    idx_vars y
    refine ((hμ t).1 _ _).trans (Eq.symm ?_)
    rw [hinj t]
    refine wmArr_of ?_ ?_
    all_goals
      blk_simp [e5] <;> (try dsimp only) <;> omega
  · refine (dat1 V c).arrAt_eq_of_covers 6 _ (by decide +kernel) fun t hf y => ?_
    blk_simp
    rw [after1_6]
    idx_vars y
    obtain rfl : y0 = 0 := Subsingleton.elim _ _
    obtain rfl : y1 = 0 := Subsingleton.elim _ _
    refine ((hμ t).2 _).trans (Eq.symm ?_)
    rw [hinj t]
    refine denArr_of ?_ ?_
    all_goals
      blk_simp [e6] <;> (try dsimp only) <;> omega

/-- Launch 2 at a grid point: with the shifts `μ`, the weighted sums and the denominators of that batch. -/
theorem point2 (hx : ∀ b s d, (V c (arrRef spec2 0) : Vec Ideal S8x2048x2048 .f32) (ix3 b s d) = (x b s d : EReal))
    (hq : ∀ b d, (V c (arrRef spec2 1) : Vec Ideal S8x2048 .f32) (ix2 b d) = (A.nq b d : EReal))
    (hc : ∀ i d, (V c (arrRef spec2 2) : Vec Ideal S128x2048 .f32) (ix2 i d) = (A.cq ⟨i.val / 16, by omega⟩ ⟨i.val % 16, by omega⟩ d : EReal))
    (hw : ∀ d, (V c (arrRef spec2 3) : Vec Ideal S1x2048 .f32) (ix2 0 d) = (A.mnw d : EReal))
    (hs : ∀ d, (V c (arrRef spec2 4) : Vec Ideal S1x2048 .f32) (ix2 0 d) = (A.sink d : EReal)) (t : Fin cfg2.N) :
    ∃ μ : Fin 16 → ℝ, (∀ h d, (outsAt2 V c t).1 (ix2 h d) = (A.wm x (μ h) ⟨(grid2.coords t 0).val, (grid2.coords t 0).isLt⟩ h d : EReal))
      ∧ ∀ h, (outsAt2 V c t).2 (ix3 0 0 h) = (A.den x (μ h) ⟨(grid2.coords t 0).val, (grid2.coords t 0).isLt⟩ h : EReal) := by
  have e0 : ∀ t : Fin cfg2.N, win2_0.index t = ![(grid2.coords t 0).val, 0, 0] := (by decide +kernel : ∀ t : Fin grid2.N, _)
  have e1 : ∀ t : Fin cfg2.N, win2_1.index t = ![0, 0] := (by decide +kernel : ∀ t : Fin grid2.N, _)
  have e2 : ∀ t : Fin cfg2.N, win2_2.index t = ![0, 0] := (by decide +kernel : ∀ t : Fin grid2.N, _)
  have e3 : ∀ t : Fin cfg2.N, win2_3.index t = ![0, 0] := (by decide +kernel : ∀ t : Fin grid2.N, _)
  have e4 : ∀ t : Fin cfg2.N, win2_4.index t = ![0, 0] := (by decide +kernel : ∀ t : Fin grid2.N, _)
  have hb : (grid2.coords t 0).val < 8 := (grid2.coords t 0).isLt
  rw [out2_wm, out2_den]
  refine body1 (b := ⟨(grid2.coords t 0).val, (grid2.coords t 0).isLt⟩) (fun s d => ?_) (fun d => ?_) (fun d => ?_) (fun d => ?_) (fun h d => ?_)
  · rw [← hx]
    blk_simp [iblk2, e0]
    blk_ext [e0]
  · rw [← hw]
    blk_simp [iblk2, e3]
    blk_ext [e3]
  · rw [← hs]
    blk_simp [iblk2, e4]
    blk_ext [e4]
  · rw [← hq]
    pointwise [View.ld_unit]
    blk_simp [iblk2, e1]
    blk_ext [e1, k2_off1_eq]
  · rw [show A.cq ⟨(grid2.coords t 0).val, (grid2.coords t 0).isLt⟩ h d = A.cq ⟨(16 * (grid2.coords t 0).val + h.val) / 16, by omega⟩ ⟨(16 * (grid2.coords t 0).val + h.val) % 16, by omega⟩ d by
      congr 1 <;> (refine Fin.ext ?_; dsimp only; omega)]
    rw [← hc ⟨16 * (grid2.coords t 0).val + h.val, by omega⟩]
    pointwise [View.ld_unit]
    blk_simp [iblk2, e2]
    blk_ext [e2, k2_off2_eq]

/-- The arrays launch 2 leaves. -/
theorem arr2 (hx : ∀ b s d, (V c (arrRef spec2 0) : Vec Ideal S8x2048x2048 .f32) (ix3 b s d) = (x b s d : EReal))
    (hq : ∀ b d, (V c (arrRef spec2 1) : Vec Ideal S8x2048 .f32) (ix2 b d) = (A.nq b d : EReal))
    (hc : ∀ i d, (V c (arrRef spec2 2) : Vec Ideal S128x2048 .f32) (ix2 i d) = (A.cq ⟨i.val / 16, by omega⟩ ⟨i.val % 16, by omega⟩ d : EReal))
    (hw : ∀ d, (V c (arrRef spec2 3) : Vec Ideal S1x2048 .f32) (ix2 0 d) = (A.mnw d : EReal))
    (hs : ∀ d, (V c (arrRef spec2 4) : Vec Ideal S1x2048 .f32) (ix2 0 d) = (A.sink d : EReal)) :
    ∃ μ : Fin 8 → Fin 16 → ℝ, (dat2 V c).arrAt 5 cfg2.N = wmArr A x μ ∧ (dat2 V c).arrAt 6 cfg2.N = denArr A x μ := by
  have e5 : ∀ t : Fin cfg2.N, win2_5.index t = ![t.val, 0] := (by decide +kernel : ∀ t : Fin grid2.N, _)
  have e6 : ∀ t : Fin cfg2.N, win2_6.index t = ![t.val, 0, 0] := (by decide +kernel : ∀ t : Fin grid2.N, _)
  have hinj : ∀ t : Fin cfg2.N, (⟨(grid2.coords t 0).val, (grid2.coords t 0).isLt⟩ : Fin 8) = ⟨t.val, t.isLt⟩ :=
    (by decide +kernel : ∀ t : Fin grid2.N, _)
  have hp := fun t => point2 hx hq hc hw hs (t := t)
  choose μ hμ using hp
  refine ⟨fun b => μ ⟨b.val, b.isLt⟩, ?_, ?_⟩
  · refine (dat2 V c).arrAt_eq_of_covers 5 _ (by decide +kernel) fun t hf y => ?_
    blk_simp
    rw [after2_5]
    idx_vars y
    refine ((hμ t).1 _ _).trans (Eq.symm ?_)
    rw [hinj t]
    refine wmArr_of ?_ ?_
    all_goals
      blk_simp [e5] <;> (try dsimp only) <;> omega
  · refine (dat2 V c).arrAt_eq_of_covers 6 _ (by decide +kernel) fun t hf y => ?_
    blk_simp
    rw [after2_6]
    idx_vars y
    obtain rfl : y0 = 0 := Subsingleton.elim _ _
    obtain rfl : y1 = 0 := Subsingleton.elim _ _
    refine ((hμ t).2 _).trans (Eq.symm ?_)
    rw [hinj t]
    refine denArr_of ?_ ?_
    all_goals
      blk_simp [e6] <;> (try dsimp only) <;> omega

end Cert.Value

end
-- ==== Proof.Value.Body3.lean ====
/- What the output launch computes: the attention's output of both sequences and the feed-forward network's input. -/
module

public import proofs.«01_k».proof.Proof.Value.Arr1
public import proofs.«01_k».proof.Proof.KernelIdealRun.Region3

@[expose] public section

set_option maxRecDepth 16384

noncomputable section

namespace Cert.Value

open Idealize.ShloMosaic Idealize.ShloMosaic.Pointwise Idealize.ShloMosaic.Pipeline Cert.KernelIdeal Cert.KernelIdeal.Gen

variable {A : Args} {x : Seq}

/-- One head of one sequence: the weighted rows through the value projection, over the denominator. -/
def head (xw : Vec Ideal S128x2048 .f32) (xd : Vec Ideal S8x16 .f32) (x4 : Vec Ideal S2048x2048 .f32) (h : Fin 16) : FVec Ideal S8x128 .f32 := fun i =>
  have h0 : (i 0).val < 8 := (i 0).isLt
  have h1 : (i 1).val < 128 := (i 1).isLt
  Ideal.div (∑ d, xw (ix2 ⟨h.val * 8 + (i 0).val, by omega⟩ d) * x4 (ix2 ⟨h.val * 128 + (i 1).val, by omega⟩ d)) (xd (ix2 (i 0) h))

theorem cat_apply {p : Fin 16 → FVec Ideal S8x128 .f32} (b : Fin 8) (e : Fin 2048) :
    concatenate S8x2048 1 [⟨S8x128, p 0⟩, ⟨S8x128, p 1⟩, ⟨S8x128, p 2⟩, ⟨S8x128, p 3⟩, ⟨S8x128, p 4⟩, ⟨S8x128, p 5⟩, ⟨S8x128, p 6⟩, ⟨S8x128, p 7⟩,
      ⟨S8x128, p 8⟩, ⟨S8x128, p 9⟩, ⟨S8x128, p 10⟩, ⟨S8x128, p 11⟩, ⟨S8x128, p 12⟩, ⟨S8x128, p 13⟩, ⟨S8x128, p 14⟩, ⟨S8x128, p 15⟩]
      concatenates_S8x128_S8x128_S8x128_S8x128_S8x128_S8x128_S8x128_S8x128_S8x128_S8x128_S8x128_S8x128_S8x128_S8x128_S8x128_S8x128_S8x2048_d1 (ix2 b e)
      = p ⟨e.val / 128, by omega⟩ (ix2 b ⟨e.val % 128, by omega⟩) := by
  refine concatenate_ofFn_apply (t := S8x2048) 1 p
    concatenates_S8x128_S8x128_S8x128_S8x128_S8x128_S8x128_S8x128_S8x128_S8x128_S8x128_S8x128_S8x128_S8x128_S8x128_S8x128_S8x128_S8x2048_d1 rfl 128 rfl (ix2 b e) ⟨e.val / 128, by omega⟩ rfl (ix2 b ⟨e.val % 128, by omega⟩) rfl ?_
  intro a ha
  match a, ha with
  | ⟨0, _⟩, _ => rfl
  | ⟨1, _⟩, ha => exact absurd rfl ha

theorem pay20_apply {v1 : FVec Ideal S8x16 .f32} {p : Fin 16 → FVec Ideal S8x128 .f32} {v101 v107 : FVec Ideal S8x2048 .f32} {v102 v109 : Vec Ideal S128x2048 .f32}
    {v115 : Vec Ideal S1x1x2048 .f32} {v119 : Vec Ideal S2048x2048 .f32} {v121 : Vec Ideal S1x2048 .f32}
    (h14 : ∀ b j, Ideal.div (∑ d, v101 (ix2 b d) * v102 (ix2 j d)) (v1 (ix2 b 14)) = p 14 (ix2 b j))
    (h15 : ∀ b j, Ideal.div (∑ d, v107 (ix2 b d) * v109 (ix2 j d)) (v1 (ix2 b 15)) = p 15 (ix2 b j)) (b : Fin 8) (f : Fin 2048) :
    k3_pay20 v1 (p 0) (p 1) (p 2) (p 3) (p 4) (p 5) (p 6) (p 7) (p 8) (p 9) (p 10) (p 11) (p 12) (p 13) v101 v102 v107 v109 v115 v119 v121 (ix2 b f)
      = (∑ e : Fin 2048, (p ⟨e.val / 128, by omega⟩ (ix2 b ⟨e.val % 128, by omega⟩) + v115 (ix3 0 0 e)) * v119 (ix2 f e)) + v121 (ix2 0 f) := by
  have hc := cat_apply (p := p)
  unfold k3_pay20
  rw [show divf (matmul dot_S8x2048_S128x2048_S8x128_1_1_0_0_n_n (some .fp32) v101 v102 (constant S8x128 .f32 0x00000000#32))
      (broadcastTo S8x128 (extractStridedSlice S8x1 ![0, 14] v1 slices_S8x16_o0_14_S8x1) broadcasts_S8x1_S8x128) = p 14 from by
      funext y; idx_vars y; rw [← h14]; pointwise,
    show divf (matmul dot_S8x2048_S128x2048_S8x128_1_1_0_0_n_n (some .fp32) (shapeCast S8x2048 v107 shapeCasts_S8x2048_S8x2048) v109 (constant S8x128 .f32 0x00000000#32))
      (broadcastTo S8x128 (extractStridedSlice S8x1 ![0, 15] v1 slices_S8x16_o0_15_S8x1) broadcasts_S8x1_S8x128) = p 15 from by
      funext y; idx_vars y; rw [← h15]; pointwise]
  generalize concatenate S8x2048 1 _ _ = cc at *
  pointwise
  simp only [hc]

/-- The pieces of one sequence: the first fourteen heads' payloads are those heads. -/
theorem pieces (x0 x1 : Vec Ideal S128x2048 .f32) (x2 x3 : Vec Ideal S8x16 .f32) (x4 : Vec Ideal S2048x2048 .f32) (x5 : Vec Ideal S1x1x2048 .f32)
    (x6 : Vec Ideal S2048x2048 .f32) (x7 x8 : Vec Ideal S1x2048 .f32) :
    k3_pay44 x0 x1 x2 x3 x4 x5 x6 x7 x8 = head x0 x2 x4 0
      ∧ k3_pay45 x0 x1 x2 x3 x4 x5 x6 x7 x8 = head x0 x2 x4 1
      ∧ k3_pay46 x0 x1 x2 x3 x4 x5 x6 x7 x8 = head x0 x2 x4 2
      ∧ k3_pay47 x0 x1 x2 x3 x4 x5 x6 x7 x8 = head x0 x2 x4 3
      ∧ k3_pay48 x0 x1 x2 x3 x4 x5 x6 x7 x8 = head x0 x2 x4 4
      ∧ k3_pay49 x0 x1 x2 x3 x4 x5 x6 x7 x8 = head x0 x2 x4 5
      ∧ k3_pay50 x0 x1 x2 x3 x4 x5 x6 x7 x8 = head x0 x2 x4 6
      ∧ k3_pay51 x0 x1 x2 x3 x4 x5 x6 x7 x8 = head x0 x2 x4 7
      ∧ k3_pay52 x0 x1 x2 x3 x4 x5 x6 x7 x8 = head x0 x2 x4 8
      ∧ k3_pay53 x0 x1 x2 x3 x4 x5 x6 x7 x8 = head x0 x2 x4 9
      ∧ k3_pay54 x0 x1 x2 x3 x4 x5 x6 x7 x8 = head x0 x2 x4 10
      ∧ k3_pay55 x0 x1 x2 x3 x4 x5 x6 x7 x8 = head x0 x2 x4 11
      ∧ k3_pay56 x0 x1 x2 x3 x4 x5 x6 x7 x8 = head x0 x2 x4 12
      ∧ k3_pay57 x0 x1 x2 x3 x4 x5 x6 x7 x8 = head x0 x2 x4 13 := by
  refine ⟨?_, ?_, ?_, ?_, ?_, ?_, ?_, ?_, ?_, ?_, ?_, ?_, ?_, ?_⟩ <;>
  · funext x
    idx_vars x
    pointwise [k3_pay44, k3_pay45, k3_pay46, k3_pay47, k3_pay48, k3_pay49, k3_pay50, k3_pay51, k3_pay52, k3_pay53, k3_pay54, k3_pay55, k3_pay56, k3_pay57, k3_pay43,
      k3_pay2, k3_pay3, k3_pay4, k3_pay5, k3_pay6, k3_pay7, k3_pay8, k3_pay9, k3_pay10, k3_pay11, k3_pay12, k3_pay13, k3_pay14, k3_pay15, k3_pay16, k3_pay17, k3_pay18,
      View.ld_unit, head]

/-- The attention's output of the first sequence. -/
def att3 (x0 x1 : Vec Ideal S128x2048 .f32) (x2 x3 : Vec Ideal S8x16 .f32) (x4 : Vec Ideal S2048x2048 .f32) (x5 : Vec Ideal S1x1x2048 .f32)
    (x6 : Vec Ideal S2048x2048 .f32) (x7 x8 : Vec Ideal S1x2048 .f32) : FVec Ideal S8x2048 .f32 :=
  k3_pay20 (k3_pay43 x0 x1 x2 x3 x4 x5 x6 x7 x8) (k3_pay44 x0 x1 x2 x3 x4 x5 x6 x7 x8) (k3_pay45 x0 x1 x2 x3 x4 x5 x6 x7 x8) (k3_pay46 x0 x1 x2 x3 x4 x5 x6 x7 x8) (k3_pay47 x0 x1 x2 x3 x4 x5 x6 x7 x8) (k3_pay48 x0 x1 x2 x3 x4 x5 x6 x7 x8) (k3_pay49 x0 x1 x2 x3 x4 x5 x6 x7 x8) (k3_pay50 x0 x1 x2 x3 x4 x5 x6 x7 x8) (k3_pay51 x0 x1 x2 x3 x4 x5 x6 x7 x8) (k3_pay52 x0 x1 x2 x3 x4 x5 x6 x7 x8) (k3_pay53 x0 x1 x2 x3 x4 x5 x6 x7 x8) (k3_pay54 x0 x1 x2 x3 x4 x5 x6 x7 x8) (k3_pay55 x0 x1 x2 x3 x4 x5 x6 x7 x8) (k3_pay56 x0 x1 x2 x3 x4 x5 x6 x7 x8) (k3_pay57 x0 x1 x2 x3 x4 x5 x6 x7 x8) (k3_pay58 x0 x1 x2 x3 x4 x5 x6 x7 x8) (View.ld x4 r3_30) (View.ld x0 r3_31) (View.ld x4 r3_32) (View.ld x5 r3_33) (View.ld x6 r3_34) (View.ld x7 r3_35)

/-- The feed-forward network's input of the first sequence. -/
def hn3 (x0 x1 : Vec Ideal S128x2048 .f32) (x2 x3 : Vec Ideal S8x16 .f32) (x4 : Vec Ideal S2048x2048 .f32) (x5 : Vec Ideal S1x1x2048 .f32)
    (x6 : Vec Ideal S2048x2048 .f32) (x7 x8 : Vec Ideal S1x2048 .f32) : FVec Ideal S8x2048 .f32 :=
  k3_pay21 (k3_pay43 x0 x1 x2 x3 x4 x5 x6 x7 x8) (k3_pay44 x0 x1 x2 x3 x4 x5 x6 x7 x8) (k3_pay45 x0 x1 x2 x3 x4 x5 x6 x7 x8) (k3_pay46 x0 x1 x2 x3 x4 x5 x6 x7 x8) (k3_pay47 x0 x1 x2 x3 x4 x5 x6 x7 x8) (k3_pay48 x0 x1 x2 x3 x4 x5 x6 x7 x8) (k3_pay49 x0 x1 x2 x3 x4 x5 x6 x7 x8) (k3_pay50 x0 x1 x2 x3 x4 x5 x6 x7 x8) (k3_pay51 x0 x1 x2 x3 x4 x5 x6 x7 x8) (k3_pay52 x0 x1 x2 x3 x4 x5 x6 x7 x8) (k3_pay53 x0 x1 x2 x3 x4 x5 x6 x7 x8) (k3_pay54 x0 x1 x2 x3 x4 x5 x6 x7 x8) (k3_pay55 x0 x1 x2 x3 x4 x5 x6 x7 x8) (k3_pay56 x0 x1 x2 x3 x4 x5 x6 x7 x8) (k3_pay57 x0 x1 x2 x3 x4 x5 x6 x7 x8) (k3_pay58 x0 x1 x2 x3 x4 x5 x6 x7 x8) (View.ld x4 r3_30) (View.ld x0 r3_31) (View.ld x4 r3_32) (View.ld x5 r3_33) (View.ld x6 r3_34) (View.ld x7 r3_35) (View.ld x8 r3_35)

section

variable {x0 x1 : Vec Ideal S128x2048 .f32} {x2 x3 : Vec Ideal S8x16 .f32} {x4 : Vec Ideal S2048x2048 .f32} {x5 : Vec Ideal S1x1x2048 .f32}
  {x6 : Vec Ideal S2048x2048 .f32} {x7 x8 : Vec Ideal S1x2048 .f32} {μ : Fin 8 → Fin 16 → ℝ}

/-- The second sequence is computed as the first, from its own arrays. -/
theorem out3_9_eq : out3_9 x0 x1 x2 x3 x4 x5 x6 x7 x8 = View.canon [⟨r3_37, att3 x1 x0 x3 x2 x4 x5 x6 x7 x8⟩, ⟨r3_36, att3 x0 x1 x2 x3 x4 x5 x6 x7 x8⟩] := rfl

theorem out3_10_eq : out3_10 x0 x1 x2 x3 x4 x5 x6 x7 x8 = View.canon [⟨r3_37, hn3 x1 x0 x3 x2 x4 x5 x6 x7 x8⟩, ⟨r3_36, hn3 x0 x1 x2 x3 x4 x5 x6 x7 x8⟩] := rfl

theorem att3_apply (hw : ∀ b h d, x0 (ix2 ⟨h.val * 8 + b.val, by omega⟩ d) = (A.wm x (μ b h) b h d : EReal))
    (hd : ∀ b h, x2 (ix2 b h) = (A.den x (μ b h) b h : EReal)) (h4 : ∀ e d, x4 (ix2 e d) = (A.W ⟨4096 + e.val, by omega⟩ d : EReal))
    (h5 : ∀ e, x5 (ix3 0 0 e) = (A.bi ⟨4096 + e.val, by omega⟩ : EReal)) (h6 : ∀ f e, x6 (ix2 f e) = (A.Wo f e : EReal))
    (h7 : ∀ f, x7 (ix2 0 f) = (A.bo f : EReal)) (b : Fin 8) (f : Fin 2048) : att3 x0 x1 x2 x3 x4 x5 x6 x7 x8 (ix2 b f) = (A.att x b f : EReal) := by
  obtain ⟨p0, p1, p2, p3, p4, p5, p6, p7, p8, p9, p10, p11, p12, p13⟩ := pieces x0 x1 x2 x3 x4 x5 x6 x7 x8
  unfold att3
  rw [p0, p1, p2, p3, p4, p5, p6, p7, p8, p9, p10, p11, p12, p13]
  rw [pay20_apply (p := head x0 x2 x4)]
  · have l5 : View.ld x5 r3_33 = x5 := View.ld_unit_zero (by ext a; fin_cases a <;> rfl) _ _
    have l6 : View.ld x6 r3_34 = x6 := View.ld_unit_zero (by ext a; fin_cases a <;> rfl) _ _
    have l7 : View.ld x7 r3_35 = x7 := View.ld_unit_zero (by ext a; fin_cases a <;> rfl) _ _
    rw [l5, l6, l7]
    have he : ∀ e : Fin 2048, head x0 x2 x4 ⟨e.val / 128, by omega⟩ (ix2 b ⟨e.val % 128, by omega⟩) + x5 (ix3 0 0 e) = (A.ap x b e : EReal) := fun e => by
      rw [h5, ← A.ap_eq x (μ b ⟨e.val / 128, by omega⟩) b e ⟨e.val / 128, by omega⟩ rfl, EReal.coe_add, ← div_coe_coe (A.den_pos _ _ _ _).ne']
      congr 1
      unfold head
      refine congrArg₂ Ideal.div ?_ (hd b ⟨e.val / 128, by omega⟩)
      rw [coe_sum]
      refine Finset.sum_congr rfl fun d _ => ?_
      rw [EReal.coe_mul, ← hw, h4]
      congr 4
      show 4096 + (e.val / 128 * 128 + e.val % 128) = 4096 + e.val
      omega
    simp only [he, h6, h7]
    simp only [← EReal.coe_mul, ← EReal.coe_add, ← coe_sum, Args.att]
  · intro b j
    pointwise [k3_pay43, k3_pay58, k3_pay2, k3_pay19, View.ld_unit, head]
  · intro b j
    pointwise [k3_pay43, k3_pay2, View.ld_unit, head]

theorem hn3_apply (hw : ∀ b h d, x0 (ix2 ⟨h.val * 8 + b.val, by omega⟩ d) = (A.wm x (μ b h) b h d : EReal))
    (hd : ∀ b h, x2 (ix2 b h) = (A.den x (μ b h) b h : EReal)) (h4 : ∀ e d, x4 (ix2 e d) = (A.W ⟨4096 + e.val, by omega⟩ d : EReal))
    (h5 : ∀ e, x5 (ix3 0 0 e) = (A.bi ⟨4096 + e.val, by omega⟩ : EReal)) (h6 : ∀ f e, x6 (ix2 f e) = (A.Wo f e : EReal))
    (h7 : ∀ f, x7 (ix2 0 f) = (A.bo f : EReal)) (h8 : ∀ f, x8 (ix2 0 f) = (A.fnw f : EReal)) (b : Fin 8) (f : Fin 2048) :
    hn3 x0 x1 x2 x3 x4 x5 x6 x7 x8 (ix2 b f) = (A.hn x b f : EReal) := by
  have ha := att3_apply (x1 := x1) (x3 := x3) (x8 := x8) hw hd h4 h5 h6 h7
  have l8 : View.ld x8 r3_35 = x8 := View.ld_unit_zero (by ext a; fin_cases a <;> rfl) _ _
  unfold hn3
  unfold att3 at ha
  rw [l8]
  pointwise [k3_pay21]
  simp only [ha, h8, ofBits_2048, ofBits_eps, rsqrt_mean]
  simp only [← EReal.coe_mul, Args.hn, nrm]

end

end Cert.Value

end
-- ==== Proof.Value.Arr3.lean ====
/- The arrays the output launch leaves. -/
module

public import proofs.«01_k».proof.Proof.Value.Body3

@[expose] public section

set_option maxRecDepth 16384

noncomputable section

namespace Cert.Value

open Idealize.ShloMosaic Idealize.ShloMosaic.Pointwise Idealize.ShloMosaic.Pipeline Cert.KernelIdeal Cert.KernelIdeal.Gen

variable {A : Args} {V : (c : Dev nD) → (b : Ref sig .tc) → Buf (Elt Ideal) (c.tc.loc b)} {c : Dev nD}

/-- The sequence a row of the stacked arrays belongs to. -/
def pick (x0 x1 : Seq) (r : Fin 16) : Seq := if r.val < 8 then x0 else x1

/-- The batch a row of the stacked arrays belongs to. -/
def bat (r : Fin 16) : Fin 8 := ⟨r.val % 8, by omega⟩

/-- Rows stacked by sequence and batch. -/
def stack (f : Seq → Fin 8 → Fin 2048 → ℝ) (x0 x1 : Seq) : Vec Ideal S16x2048 .f32 := fun i => (f (pick x0 x1 (i 0)) (bat (i 0)) (i 1) : EReal)

variable {x0 x1 : Seq} {f : Seq → Fin 8 → Fin 2048 → ℝ}

theorem stack_of {i : S16x2048.Idx} {r : Fin 16} {d : Fin 2048} (h0 : (i 0).val = r.val) (h1 : (i 1).val = d.val) :
    stack f x0 x1 i = (f (pick x0 x1 r) (bat r) d : EReal) := by
  obtain rfl : i 0 = r := Fin.ext h0
  obtain rfl : i 1 = d := Fin.ext h1
  rfl

theorem stack_low {i : S16x2048.Idx} {b : Fin 8} {d : Fin 2048} (h0 : (i 0).val = b.val) (h1 : (i 1).val = d.val) :
    stack f x0 x1 i = (f x0 b d : EReal) := by
  refine (stack_of (r := ⟨b.val, by omega⟩) h0 h1).trans ?_
  rw [show pick x0 x1 ⟨b.val, by omega⟩ = x0 from if_pos b.isLt, show bat ⟨b.val, by omega⟩ = b from Fin.ext (by show b.val % 8 = b.val; omega)]

theorem stack_high {i : S16x2048.Idx} {b : Fin 8} {d : Fin 2048} (h0 : (i 0).val = 8 + b.val) (h1 : (i 1).val = d.val) :
    stack f x0 x1 i = (f x1 b d : EReal) := by
  refine (stack_of (r := ⟨8 + b.val, by omega⟩) h0 h1).trans ?_
  rw [show pick x0 x1 ⟨8 + b.val, by omega⟩ = x1 from if_neg (by show ¬8 + b.val < 8; omega),
    show bat ⟨8 + b.val, by omega⟩ = b from Fin.ext (by show (8 + b.val) % 8 = b.val; omega)]

/-- Two blocks of eight rows are the stacked array when each is its sequence's. -/
theorem stack_canon {p q : FVec Ideal S8x2048 .f32} (hp : ∀ b d, p (ix2 b d) = (f x0 b d : EReal)) (hq : ∀ b d, q (ix2 b d) = (f x1 b d : EReal))
    (r : Fin 16) (d : Fin 2048) : View.canon (Val := Elt Ideal) [⟨r3_37, q⟩, ⟨r3_36, p⟩] (ix2 r d) = stack f x0 x1 (ix2 r d) := by
  refine View.canon_apply_of_pieces (Val := Elt Ideal) (stack f x0 x1) _ ?_ (ix2 r d) (cover3_9 _ _ _)
  intro s hs
  simp only [List.mem_cons, List.not_mem_nil, or_false] at hs
  rcases hs with rfl | rfl
  · intro y
    idx_vars y
    refine (hq _ _).trans (Eq.symm (stack_high ?_ ?_))
    all_goals
      blk_simp [r3_37] <;> (try dsimp only) <;> omega
  · intro y
    idx_vars y
    refine (hp _ _).trans (Eq.symm (stack_low ?_ ?_))
    all_goals
      blk_simp [r3_36] <;> (try dsimp only) <;> omega

variable {μ₀ μ₁ : Fin 8 → Fin 16 → ℝ}

set_option maxHeartbeats 2000000 in
/-- The arrays launch 3 leaves. -/
theorem arr3 (h0 : ∀ b h d, (V c (arrRef spec3 0) : Vec Ideal S128x2048 .f32) (ix2 ⟨h.val * 8 + b.val, by omega⟩ d) = (A.wm x0 (μ₀ b h) b h d : EReal))
    (h1 : ∀ b h d, (V c (arrRef spec3 1) : Vec Ideal S128x2048 .f32) (ix2 ⟨h.val * 8 + b.val, by omega⟩ d) = (A.wm x1 (μ₁ b h) b h d : EReal))
    (h2 : ∀ b h, (V c (arrRef spec3 2) : Vec Ideal S8x16 .f32) (ix2 b h) = (A.den x0 (μ₀ b h) b h : EReal))
    (h3 : ∀ b h, (V c (arrRef spec3 3) : Vec Ideal S8x16 .f32) (ix2 b h) = (A.den x1 (μ₁ b h) b h : EReal))
    (h4 : ∀ e d, (V c (arrRef spec3 4) : Vec Ideal S6144x2048 .f32) (ix2 e d) = (A.W e d : EReal))
    (h5 : ∀ k e, (V c (arrRef spec3 5) : Vec Ideal S3x1x2048 .f32) (ix3 k 0 e) = (A.bi ⟨k.val * 2048 + e.val, by omega⟩ : EReal))
    (h6 : ∀ f e, (V c (arrRef spec3 6) : Vec Ideal S2048x2048 .f32) (ix2 f e) = (A.Wo f e : EReal))
    (h7 : ∀ d, (V c (arrRef spec3 7) : Vec Ideal S1x2048 .f32) (ix2 0 d) = (A.bo d : EReal))
    (h8 : ∀ d, (V c (arrRef spec3 8) : Vec Ideal S1x2048 .f32) (ix2 0 d) = (A.fnw d : EReal)) :
    (dat3 V c).arrAt 9 cfg3.N = stack A.att x0 x1 ∧ (dat3 V c).arrAt 10 cfg3.N = stack A.hn x0 x1 := by
  have e0 : ∀ t : Fin cfg3.N, win3_0.index t = ![0, 0] := (by decide +kernel : ∀ t : Fin grid3.N, _)
  have e1 : ∀ t : Fin cfg3.N, win3_1.index t = ![0, 0] := (by decide +kernel : ∀ t : Fin grid3.N, _)
  have e2 : ∀ t : Fin cfg3.N, win3_2.index t = ![0, 0] := (by decide +kernel : ∀ t : Fin grid3.N, _)
  have e3 : ∀ t : Fin cfg3.N, win3_3.index t = ![0, 0] := (by decide +kernel : ∀ t : Fin grid3.N, _)
  have e4 : ∀ t : Fin cfg3.N, win3_4.index t = ![2, 0] := (by decide +kernel : ∀ t : Fin grid3.N, _)
  have e5 : ∀ t : Fin cfg3.N, win3_5.index t = ![2, 0, 0] := (by decide +kernel : ∀ t : Fin grid3.N, _)
  have e6 : ∀ t : Fin cfg3.N, win3_6.index t = ![0, 0] := (by decide +kernel : ∀ t : Fin grid3.N, _)
  have e7 : ∀ t : Fin cfg3.N, win3_7.index t = ![0, 0] := (by decide +kernel : ∀ t : Fin grid3.N, _)
  have e8 : ∀ t : Fin cfg3.N, win3_8.index t = ![0, 0] := (by decide +kernel : ∀ t : Fin grid3.N, _)
  have e9 : ∀ t : Fin cfg3.N, win3_9.index t = ![0, 0] := (by decide +kernel : ∀ t : Fin grid3.N, _)
  have e10 : ∀ t : Fin cfg3.N, win3_10.index t = ![0, 0] := (by decide +kernel : ∀ t : Fin grid3.N, _)
  have i0 : ∀ t b h d, iblk3 V c 0 t (ix2 ⟨h.val * 8 + b.val, by omega⟩ d) = (A.wm x0 (μ₀ b h) b h d : EReal) := fun t (b : Fin 8) (h : Fin 16) d => by
    rw [← h0]
    blk_simp [iblk3, e0]
    blk_ext [e0]
  have i1 : ∀ t b h d, iblk3 V c 1 t (ix2 ⟨h.val * 8 + b.val, by omega⟩ d) = (A.wm x1 (μ₁ b h) b h d : EReal) := fun t (b : Fin 8) (h : Fin 16) d => by
    rw [← h1]
    blk_simp [iblk3, e1]
    blk_ext [e1]
  have i2 : ∀ t b h, iblk3 V c 2 t (ix2 b h) = (A.den x0 (μ₀ b h) b h : EReal) := fun t b h => by
    rw [← h2]
    blk_simp [iblk3, e2]
    blk_ext [e2]
  have i3 : ∀ t b h, iblk3 V c 3 t (ix2 b h) = (A.den x1 (μ₁ b h) b h : EReal) := fun t b h => by
    rw [← h3]
    blk_simp [iblk3, e3]
    blk_ext [e3]
  have i4 : ∀ t e d, iblk3 V c 4 t (ix2 e d) = (A.W ⟨4096 + e.val, by omega⟩ d : EReal) := fun t e d => by
    rw [← h4]
    blk_simp [iblk3, e4]
    blk_ext [e4]
  have i5 : ∀ t e, iblk3 V c 5 t (ix3 0 0 e) = (A.bi ⟨4096 + e.val, by omega⟩ : EReal) := fun t e => by
    rw [show A.bi ⟨4096 + e.val, by omega⟩ = A.bi ⟨(2 : Fin 3).val * 2048 + e.val, by have := e.isLt; show 2 * 2048 + e.val < 6144; omega⟩ from congrArg A.bi (Fin.ext (by show 4096 + e.val = 2 * 2048 + e.val; omega)), ← h5]
    blk_simp [iblk3, e5]
    blk_ext [e5]
  have i6 : ∀ t f e, iblk3 V c 6 t (ix2 f e) = (A.Wo f e : EReal) := fun t f e => by
    rw [← h6]
    blk_simp [iblk3, e6]
    blk_ext [e6]
  have i7 : ∀ t d, iblk3 V c 7 t (ix2 0 d) = (A.bo d : EReal) := fun t d => by
    rw [← h7]
    blk_simp [iblk3, e7]
    blk_ext [e7]
  have i8 : ∀ t d, iblk3 V c 8 t (ix2 0 d) = (A.fnw d : EReal) := fun t d => by
    rw [← h8]
    blk_simp [iblk3, e8]
    blk_ext [e8]
  constructor
  · refine (dat3 V c).arrAt_eq_of_covers 9 _ (by decide +kernel) fun t hf y => ?_
    blk_simp
    rw [after3_9, out3_9_eq]
    idx_vars y
    refine (stack_canon (f := A.att) (att3_apply (i0 t) (i2 t) (i4 t) (i5 t) (i6 t) (i7 t)) (att3_apply (i1 t) (i3 t) (i4 t) (i5 t) (i6 t) (i7 t)) _ _).trans ?_
    refine (stack_of rfl rfl).trans (Eq.symm (stack_of ?_ ?_))
    all_goals
      blk_simp [e9] <;> (try dsimp only) <;> omega
  · refine (dat3 V c).arrAt_eq_of_covers 10 _ (by decide +kernel) fun t hf y => ?_
    blk_simp
    rw [after3_10, out3_10_eq]
    idx_vars y
    refine (stack_canon (f := A.hn) (hn3_apply (i0 t) (i2 t) (i4 t) (i5 t) (i6 t) (i7 t) (i8 t)) (hn3_apply (i1 t) (i3 t) (i4 t) (i5 t) (i6 t) (i7 t) (i8 t)) _ _).trans ?_
    refine (stack_of rfl rfl).trans (Eq.symm (stack_of ?_ ?_))
    all_goals
      blk_simp [e10] <;> (try dsimp only) <;> omega

end Cert.Value

end
-- ==== Proof.Value.Arr4.lean ====
/- The array the feed-forward launch leaves. -/
module

public import proofs.«01_k».proof.Proof.Value.Arr3
public import proofs.«01_k».proof.Proof.KernelIdealRun.Region4

@[expose] public section

set_option maxRecDepth 16384

noncomputable section

namespace Cert.Value

open Idealize.ShloMosaic Idealize.ShloMosaic.Pointwise Idealize.ShloMosaic.Pipeline Cert.KernelIdeal Cert.KernelIdeal.Gen

variable {A : Args} {V : (c : Dev nD) → (b : Ref sig .tc) → Buf (Elt Ideal) (c.tc.loc b)} {c : Dev nD}

variable {x0 x1 : Seq}

/-- One step of the feed-forward launch: 1024 of the hidden columns, carried through the down projection. -/
def part (A : Args) (x0 x1 : Seq) (n : ℕ) (hn : n < 4) (r : Fin 16) (d : Fin 2048) : ℝ :=
  ∑ j : Fin 1024, A.act (pick x0 x1 r) (bat r) ⟨n * 1024 + j.val, by omega⟩ * A.dw d ⟨n * 1024 + j.val, by omega⟩

theorem pay4 {n : ℕ} {hn : n < 4} {y0 : Vec Ideal S16x2048 .f32} {y1 y2 : Vec Ideal S1024x2048 .f32} {y3 y4 : Vec Ideal S1x1x1024 .f32} {y5 : Vec Ideal S2048x1024 .f32}
    (h0 : ∀ r d, y0 (ix2 r d) = (A.hn (pick x0 x1 r) (bat r) d : EReal))
    (h1 : ∀ j d, y1 (ix2 j d) = (A.gu ⟨n * 1024 + j.val, by omega⟩ d : EReal)) (h2 : ∀ j d, y2 (ix2 j d) = (A.gu ⟨4096 + (n * 1024 + j.val), by omega⟩ d : EReal))
    (h3 : ∀ j, y3 (ix3 0 0 j) = (A.gub ⟨n * 1024 + j.val, by omega⟩ : EReal)) (h4 : ∀ j, y4 (ix3 0 0 j) = (A.gub ⟨4096 + (n * 1024 + j.val), by omega⟩ : EReal))
    (h5 : ∀ f j, y5 (ix2 f j) = (A.dw f ⟨n * 1024 + j.val, by omega⟩ : EReal)) (r : Fin 16) (d : Fin 2048) :
    k4_pay1 (F := Ideal) y0 y1 y3 y2 y4 y5 (ix2 r d) = (part A x0 x1 n hn r d : EReal) := by
  pointwise [k4_pay1]
  simp only [h0, h1, h2, h3, h4, h5]
  simp only [← EReal.coe_mul, ← EReal.coe_add, ← coe_sum, Ideal.logistic_coe]
  rfl

/-- The first step stores its part. -/
theorem out4_first (t : Fin cfg4.N) (h : t.val % 4 = 0) (h' : ¬1 ≤ t.val) :
    outsAt4 V c t.val t.isLt = k4_pay1 (iblk4 V c 0 t) (iblk4 V c 1 t) (iblk4 V c 3 t) (iblk4 V c 2 t) (iblk4 V c 4 t) (iblk4 V c 5 t) := by
  rw [outsAt4_A V c t h h']
  unfold out4_A_6
  rw [View.read_writes_eq_canon _ _ _ (cover4_A_6 c _ _ _ _ _ _ _ _ _ _ _ _ _ _ _ _ _ _ _ _ _ _ _)]
  refine (View.canon_unit_zero (by ext a; fin_cases a <;> rfl) _ _).trans ?_
  refine (show _ = k4_pay1 (View.readAt (Elt Ideal) (ms4_0 t).view (Rect.unit (s := S16x2048) ![0, 0] S16x2048.size inb_S16x2048_S16x2048_0_0).toLoadRect ((hs4_0 t).unread (iblk4 V c 0 t)))
      (View.readAt (Elt Ideal) (ms4_1 t).view (Rect.unit (s := S1024x2048) ![0, 0] S1024x2048.size inb_S1024x2048_S1024x2048_0_0).toLoadRect ((hs4_1 t).unread (iblk4 V c 1 t)))
      (View.readAt (Elt Ideal) (ms4_3 t).view (Rect.unit (s := S1x1x1024) ![0, 0, 0] S1x1x1024.size inb_S1x1x1024_S1x1x1024_0_0_0).toLoadRect ((hs4_3 t).unread (iblk4 V c 3 t)))
      (View.readAt (Elt Ideal) (ms4_2 t).view (Rect.unit (s := S1024x2048) ![0, 0] S1024x2048.size inb_S1024x2048_S1024x2048_0_0).toLoadRect ((hs4_2 t).unread (iblk4 V c 2 t)))
      (View.readAt (Elt Ideal) (ms4_4 t).view (Rect.unit (s := S1x1x1024) ![0, 0, 0] S1x1x1024.size inb_S1x1x1024_S1x1x1024_0_0_0).toLoadRect ((hs4_4 t).unread (iblk4 V c 4 t)))
      (View.readAt (Elt Ideal) (ms4_5 t).view (Rect.unit (s := S2048x1024) ![0, 0] S2048x1024.size inb_S2048x1024_S2048x1024_0_0).toLoadRect ((hs4_5 t).unread (iblk4 V c 5 t))) from rfl).trans ?_
  rw [load_whole, load_whole, load_whole, load_whole, load_whole, load_whole, View.ld_unit_zero (by ext a; fin_cases a <;> rfl),
    View.ld_unit_zero (by ext a; fin_cases a <;> rfl), View.ld_unit_zero (by ext a; fin_cases a <;> rfl), View.ld_unit_zero (by ext a; fin_cases a <;> rfl),
    View.ld_unit_zero (by ext a; fin_cases a <;> rfl), View.ld_unit_zero (by ext a; fin_cases a <;> rfl)]

/-- A later step adds its part to what the step before left. -/
theorem out4_next (t : Fin cfg4.N) (h : ¬t.val % 4 = 0) (h' : 1 ≤ t.val) :
    outsAt4 V c t.val t.isLt = k4_pay2 (iblk4 V c 0 t) (iblk4 V c 1 t) (iblk4 V c 3 t) (iblk4 V c 2 t) (iblk4 V c 4 t) (iblk4 V c 5 t)
      (outsAt4 V c (t.val - 1) (Nat.lt_of_le_of_lt (Nat.sub_le _ _) t.isLt)) := by
  rw [outsAt4_B V c t h h']
  unfold out4_B_6
  rw [View.read_writes_eq_canon _ _ _ (cover4_B_6 c _ _ _ _ _ _ _ _ _ _ _ _ _ _ _ _ _ _ _ _ _ _ _ _)]
  refine (View.canon_unit_zero (by ext a; fin_cases a <;> rfl) _ _).trans ?_
  refine (show _ = k4_pay2 (View.readAt (Elt Ideal) (ms4_0 t).view (Rect.unit (s := S16x2048) ![0, 0] S16x2048.size inb_S16x2048_S16x2048_0_0).toLoadRect ((hs4_0 t).unread (iblk4 V c 0 t)))
      (View.readAt (Elt Ideal) (ms4_1 t).view (Rect.unit (s := S1024x2048) ![0, 0] S1024x2048.size inb_S1024x2048_S1024x2048_0_0).toLoadRect ((hs4_1 t).unread (iblk4 V c 1 t)))
      (View.readAt (Elt Ideal) (ms4_3 t).view (Rect.unit (s := S1x1x1024) ![0, 0, 0] S1x1x1024.size inb_S1x1x1024_S1x1x1024_0_0_0).toLoadRect ((hs4_3 t).unread (iblk4 V c 3 t)))
      (View.readAt (Elt Ideal) (ms4_2 t).view (Rect.unit (s := S1024x2048) ![0, 0] S1024x2048.size inb_S1024x2048_S1024x2048_0_0).toLoadRect ((hs4_2 t).unread (iblk4 V c 2 t)))
      (View.readAt (Elt Ideal) (ms4_4 t).view (Rect.unit (s := S1x1x1024) ![0, 0, 0] S1x1x1024.size inb_S1x1x1024_S1x1x1024_0_0_0).toLoadRect ((hs4_4 t).unread (iblk4 V c 4 t)))
      (View.readAt (Elt Ideal) (ms4_5 t).view (Rect.unit (s := S2048x1024) ![0, 0] S2048x1024.size inb_S2048x1024_S2048x1024_0_0).toLoadRect ((hs4_5 t).unread (iblk4 V c 5 t)))
      (View.readAt (Elt Ideal) (ms4_6 t).view (Rect.unit (s := S16x2048) ![0, 0] S16x2048.size inb_S16x2048_S16x2048_0_0).toLoadRect
        ((hs4_6 t).unread (outsAt4 V c (t.val - 1) (Nat.lt_of_le_of_lt (Nat.sub_le _ _) t.isLt)))) from rfl).trans ?_
  rw [load_whole, load_whole, load_whole, load_whole, load_whole, load_whole, load_whole, View.ld_unit_zero (by ext a; fin_cases a <;> rfl),
    View.ld_unit_zero (by ext a; fin_cases a <;> rfl), View.ld_unit_zero (by ext a; fin_cases a <;> rfl), View.ld_unit_zero (by ext a; fin_cases a <;> rfl),
    View.ld_unit_zero (by ext a; fin_cases a <;> rfl), View.ld_unit_zero (by ext a; fin_cases a <;> rfl), View.ld_unit_zero (by ext a; fin_cases a <;> rfl)]

/-- The parts of the four steps add up to the feed-forward network. -/
theorem parts_sum (r : Fin 16) (d : Fin 2048) :
    ∑ n : Fin 4, part A x0 x1 n.val n.isLt r d = A.ffn (pick x0 x1 r) (bat r) d := by
  unfold Args.ffn part
  rw [sum_groups 4 1024 rfl]

set_option maxHeartbeats 2000000 in
/-- The array launch 4 leaves. -/
theorem arr4 (h0 : (V c (arrRef spec4 0) : Vec Ideal S16x2048 .f32) = stack A.hn x0 x1)
    (h1 : ∀ k d, (V c (arrRef spec4 1) : Vec Ideal S8192x2048 .f32) (ix2 k d) = (A.gu k d : EReal))
    (h2 : ∀ k d, (V c (arrRef spec4 2) : Vec Ideal S8192x2048 .f32) (ix2 k d) = (A.gu k d : EReal))
    (h3 : ∀ n j, (V c (arrRef spec4 3) : Vec Ideal S8x1x1024 .f32) (ix3 n 0 j) = (A.gub ⟨n.val * 1024 + j.val, by omega⟩ : EReal))
    (h4 : ∀ n j, (V c (arrRef spec4 4) : Vec Ideal S8x1x1024 .f32) (ix3 n 0 j) = (A.gub ⟨n.val * 1024 + j.val, by omega⟩ : EReal))
    (h5 : ∀ f k, (V c (arrRef spec4 5) : Vec Ideal S2048x4096 .f32) (ix2 f k) = (A.dw f k : EReal)) :
    (dat4 V c).arrAt 6 cfg4.N = stack A.ffn x0 x1 := by
  have e0 : ∀ t : Fin cfg4.N, win4_0.index t = ![0, 0] := (by decide +kernel : ∀ t : Fin grid4.N, _)
  have e1 : ∀ t : Fin cfg4.N, win4_1.index t = ![t.val, 0] := (by decide +kernel : ∀ t : Fin grid4.N, _)
  have e2 : ∀ t : Fin cfg4.N, win4_2.index t = ![t.val + 4, 0] := (by decide +kernel : ∀ t : Fin grid4.N, _)
  have e3 : ∀ t : Fin cfg4.N, win4_3.index t = ![t.val, 0, 0] := (by decide +kernel : ∀ t : Fin grid4.N, _)
  have e4 : ∀ t : Fin cfg4.N, win4_4.index t = ![t.val + 4, 0, 0] := (by decide +kernel : ∀ t : Fin grid4.N, _)
  have e5 : ∀ t : Fin cfg4.N, win4_5.index t = ![0, t.val] := (by decide +kernel : ∀ t : Fin grid4.N, _)
  have e6 : ∀ t : Fin cfg4.N, win4_6.index t = ![0, 0] := (by decide +kernel : ∀ t : Fin grid4.N, _)
  have ht : ∀ t : Fin cfg4.N, t.val < 4 := fun t => t.isLt
  have i0 : ∀ t r d, iblk4 V c 0 t (ix2 r d) = (A.hn (pick x0 x1 r) (bat r) d : EReal) := fun t r d => by
    rw [show (A.hn (pick x0 x1 r) (bat r) d : EReal) = (V c (arrRef spec4 0) : Vec Ideal S16x2048 .f32) (ix2 r d) by rw [h0]; rfl]
    blk_simp [iblk4, e0]
    blk_ext [e0]
  have i1 : ∀ t j d, iblk4 V c 1 t (ix2 j d) = (A.gu ⟨t.val * 1024 + j.val, by have := ht t; omega⟩ d : EReal) := fun t (j : Fin 1024) d => by
    rw [← h1]
    blk_simp [iblk4, e1]
    blk_ext [e1]
  have i2 : ∀ t j d, iblk4 V c 2 t (ix2 j d) = (A.gu ⟨4096 + (t.val * 1024 + j.val), by have := ht t; omega⟩ d : EReal) := fun t (j : Fin 1024) d => by
    rw [← h2]
    blk_simp [iblk4, e2]
    blk_ext [e2]
  have i3 : ∀ t j, iblk4 V c 3 t (ix3 0 0 j) = (A.gub ⟨t.val * 1024 + j.val, by have := ht t; omega⟩ : EReal) := fun t (j : Fin 1024) => by
    rw [← h3 ⟨t.val, by have := ht t; omega⟩ j]
    blk_simp [iblk4, e3]
    blk_ext [e3]
  have i4 : ∀ t j, iblk4 V c 4 t (ix3 0 0 j) = (A.gub ⟨4096 + (t.val * 1024 + j.val), by have := ht t; omega⟩ : EReal) := fun t (j : Fin 1024) => by
    rw [show A.gub ⟨4096 + (t.val * 1024 + j.val), by have := ht t; omega⟩ = A.gub ⟨(t.val + 4) * 1024 + j.val, by have := ht t; omega⟩ from
      congrArg A.gub (Fin.ext (by show 4096 + (t.val * 1024 + j.val) = (t.val + 4) * 1024 + j.val; omega)), ← h4 ⟨t.val + 4, by have := ht t; omega⟩ j]
    blk_simp [iblk4, e4]
    blk_ext [e4]
  have i5 : ∀ t f j, iblk4 V c 5 t (ix2 f j) = (A.dw f ⟨t.val * 1024 + j.val, by have := ht t; omega⟩ : EReal) := fun t f (j : Fin 1024) => by
    rw [← h5]
    blk_simp [iblk4, e5]
    blk_ext [e5]
  have hpay := fun t : Fin cfg4.N => pay4 (hn := ht t) (i0 t) (i1 t) (i2 t) (i3 t) (i4 t) (i5 t)
  have s0 : ∀ (h : 0 < cfg4.N) r d, outsAt4 V c 0 h (ix2 r d) = (part A x0 x1 0 (by omega) r d : EReal) := fun h r d => by
    refine (congrFun (out4_first (V := V) (c := c) ⟨0, h⟩ rfl (by show ¬1 ≤ 0; omega)) _).trans (hpay ⟨0, h⟩ r d)
  have step : ∀ n (h : n + 1 < cfg4.N) (p : Fin 16 → Fin 2048 → ℝ), (∀ r d, outsAt4 V c n (Nat.lt_of_succ_lt h) (ix2 r d) = (p r d : EReal)) →
      ∀ r d, outsAt4 V c (n + 1) h (ix2 r d) = ((p r d + part A x0 x1 (n + 1) (ht ⟨n + 1, h⟩) r d : ℝ) : EReal) := fun n h p hp r d => by
    refine (congrFun (out4_next (V := V) (c := c) ⟨n + 1, h⟩ (by have := ht ⟨n + 1, h⟩; dsimp only at this ⊢; omega) (Nat.le_add_left 1 n)) _).trans ?_
    pointwise [k4_pay2]
    rw [hpay ⟨n + 1, h⟩ r d, EReal.coe_add]
    congr 1
    exact hp r d
  have s3 : ∀ (t : Fin cfg4.N), t.val = 3 → ∀ r d, outsAt4 V c t.val t.isLt (ix2 r d) = (A.ffn (pick x0 x1 r) (bat r) d : EReal) := fun t h3 r d => by
    obtain ⟨n, hn⟩ := t
    obtain rfl : n = 3 := h3
    refine (step 2 hn _ (step 1 _ _ (step 0 _ _ (s0 _))) r d).trans ?_
    rw [← parts_sum]
    simp only [Fin.sum_univ_four]
    rfl
  refine (dat4 V c).arrAt_eq_of_covers 6 _ (by decide +kernel) fun t hf y => ?_
  have h3 : t.val = 3 := (by decide +kernel : ∀ t : Fin grid4.N, win4_6.flush t = true → t.val = 3) t hf
  blk_simp
  rw [after4_6]
  idx_vars y
  refine (s3 t h3 _ _).trans (Eq.symm (stack_of ?_ ?_))
  all_goals
    blk_simp [e6] <;> (try dsimp only) <;> omega

end Cert.Value

end
-- ==== Proof.Value.Arr5.lean ====
/- The array the last launch leaves. -/
module

public import proofs.«01_k».proof.Proof.Value.Arr3
public import proofs.«01_k».proof.Proof.KernelIdealRun.Region5

@[expose] public section

set_option maxRecDepth 16384

noncomputable section

namespace Cert.Value

open Idealize.ShloMosaic Idealize.ShloMosaic.Pointwise Idealize.ShloMosaic.Pipeline Cert.KernelIdeal Cert.KernelIdeal.Gen

variable {A : Args} {V : (c : Dev nD) → (b : Ref sig .tc) → Buf (Elt Ideal) (c.tc.loc b)} {c : Dev nD}

variable {x0 x1 : Seq}

/-- The result. -/
def outArr (A : Args) (x0 x1 : Seq) : Vec Ideal S8x2048 .f32 := fun i => (A.out x0 x1 (i 0) (i 1) : EReal)

theorem outArr_of {i : S8x2048.Idx} {b : Fin 8} {d : Fin 2048} (h0 : (i 0).val = b.val) (h1 : (i 1).val = d.val) :
    outArr A x0 x1 i = (A.out x0 x1 b d : EReal) := by
  unfold outArr
  rw [show i 0 = b from Fin.ext h0, show i 1 = d from Fin.ext h1]

theorem pay5 {y0 y1 : Vec Ideal S16x2048 .f32} {y2 : Vec Ideal S1x2048 .f32} {y3 : Vec Ideal S8x2048 .f32} {w0 w1 : Vec Ideal S1x2048 .f32} {y5 : Vec Ideal S1x1 .f32}
    (h0 : y0 = stack A.att x0 x1) (h1 : y1 = stack A.ffn x0 x1) (h2 : ∀ d, y2 (ix2 0 d) = (A.db d : EReal)) (h3 : ∀ b d, y3 (ix2 b d) = (A.q b d : EReal))
    (h4 : ∀ d, w0 (ix2 0 d) = (A.gw ⟨d.val, by omega⟩ : EReal)) (h5 : ∀ d, w1 (ix2 0 d) = (A.gw ⟨2048 + d.val, by omega⟩ : EReal)) (h6 : y5 (ix2 0 0) = (A.gb : EReal))
    (b : Fin 8) (d : Fin 2048) : k5_pay1 (F := Ideal) y0 y1 y2 y3 w0 w1 y5 (ix2 b d) = (A.out x0 x1 b d : EReal) := by
  subst h0 h1
  pointwise [k5_pay1]
  have lo : ∀ (f : Seq → Fin 8 → Fin 2048 → ℝ) (d : Fin 2048) (hb : b.val < 16), stack f x0 x1 (ix2 ⟨b.val, hb⟩ d) = (f x0 b d : EReal) := fun f d hb => stack_low rfl rfl
  have hi : ∀ (f : Seq → Fin 8 → Fin 2048 → ℝ) (d : Fin 2048) (hb : 8 + b.val < 16), stack f x0 x1 (ix2 ⟨8 + b.val, hb⟩ d) = (f x1 b d : EReal) := fun f d hb => stack_high rfl rfl
  simp only [lo, hi, h2, h3, h4, h5, h6]
  simp only [← EReal.coe_mul, ← EReal.coe_add, ← coe_sum]
  rw [show ∀ s, (∑ d, A.q b d * A.gw ⟨d.val, by omega⟩) + (∑ d, (A.att s b d + A.ffn s b d + A.db d) * A.gw ⟨2048 + d.val, by omega⟩) + A.gb = A.ds s b from fun _ => rfl,
    show ∀ s, (∑ d, A.q b d * A.gw ⟨d.val, by omega⟩) + (∑ d, (A.att s b d + A.ffn s b d + A.db d) * A.gw ⟨2048 + d.val, by omega⟩) + A.gb = A.ds s b from fun _ => rfl]
  have hm : ∀ a b : ℝ, max (a : EReal) (b : EReal) = ((max a b : ℝ) : EReal) := fun a b => (EReal.coe_strictMono.monotone.map_max).symm
  simp only [hm, ← EReal.coe_sub, Ideal.exp_coe]
  simp only [← EReal.coe_mul, ← EReal.coe_add]
  rw [div_coe_coe (by positivity)]
  rfl

set_option maxHeartbeats 2000000 in
/-- The array launch 5 leaves. -/
theorem arr5 (h0 : (V c (arrRef spec5 0) : Vec Ideal S16x2048 .f32) = stack A.att x0 x1)
    (h1 : (V c (arrRef spec5 1) : Vec Ideal S16x2048 .f32) = stack A.ffn x0 x1)
    (h2 : ∀ d, (V c (arrRef spec5 2) : Vec Ideal S1x2048 .f32) (ix2 0 d) = (A.db d : EReal))
    (h3 : ∀ b d, (V c (arrRef spec5 3) : Vec Ideal S8x2048 .f32) (ix2 b d) = (A.q b d : EReal))
    (h4 : ∀ k, (V c (arrRef spec5 4) : Vec Ideal S1x4096 .f32) (ix2 0 k) = (A.gw k : EReal))
    (h5 : (V c (arrRef spec5 5) : Vec Ideal S1x1 .f32) (ix2 0 0) = (A.gb : EReal)) :
    (dat5 V c).arrAt 6 cfg5.N = outArr A x0 x1 := by
  have e0 : ∀ t : Fin cfg5.N, win5_0.index t = ![0, 0] := (by decide +kernel : ∀ t : Fin grid5.N, _)
  have e1 : ∀ t : Fin cfg5.N, win5_1.index t = ![0, 0] := (by decide +kernel : ∀ t : Fin grid5.N, _)
  have e2 : ∀ t : Fin cfg5.N, win5_2.index t = ![0, 0] := (by decide +kernel : ∀ t : Fin grid5.N, _)
  have e3 : ∀ t : Fin cfg5.N, win5_3.index t = ![0, 0] := (by decide +kernel : ∀ t : Fin grid5.N, _)
  have e4 : ∀ t : Fin cfg5.N, win5_4.index t = ![0, 0] := (by decide +kernel : ∀ t : Fin grid5.N, _)
  have e5 : ∀ t : Fin cfg5.N, win5_5.index t = ![0, 0] := (by decide +kernel : ∀ t : Fin grid5.N, _)
  have e6 : ∀ t : Fin cfg5.N, win5_6.index t = ![0, 0] := (by decide +kernel : ∀ t : Fin grid5.N, _)
  refine (dat5 V c).arrAt_eq_of_covers 6 _ (by decide +kernel) fun t hf y => ?_
  have i0 : (iblk5 V c 0 t : Vec Ideal S16x2048 .f32) = stack A.att x0 x1 := by
    rw [← h0]
    funext x
    idx_vars x
    blk_simp [iblk5, e0]
    blk_ext [e0]
  have i1 : (iblk5 V c 1 t : Vec Ideal S16x2048 .f32) = stack A.ffn x0 x1 := by
    rw [← h1]
    funext x
    idx_vars x
    blk_simp [iblk5, e1]
    blk_ext [e1]
  have i2 : ∀ d, iblk5 V c 2 t (ix2 0 d) = (A.db d : EReal) := fun d => by
    rw [← h2]
    blk_simp [iblk5, e2]
    blk_ext [e2]
  have i3 : ∀ b d, iblk5 V c 3 t (ix2 b d) = (A.q b d : EReal) := fun b d => by
    rw [← h3]
    blk_simp [iblk5, e3]
    blk_ext [e3]
  have i4 : ∀ k, iblk5 V c 4 t (ix2 0 k) = (A.gw k : EReal) := fun k => by
    rw [← h4]
    blk_simp [iblk5, e4]
    blk_ext [e4]
  have i5 : iblk5 V c 5 t (ix2 0 0) = (A.gb : EReal) := by
    rw [← h5]
    blk_simp [iblk5, e5]
    blk_ext [e5]
  blk_simp
  rw [after5_6]
  unfold out5_6
  rw [View.canon_unit_zero (by ext a; fin_cases a <;> rfl)]
  idx_vars y
  refine (pay5 (A := A) (x0 := x0) (x1 := x1) ?_ ?_ ?_ ?_ ?_ ?_ ?_ _ _).trans (Eq.symm (outArr_of ?_ ?_))
  · rw [View.ld_unit_zero (by ext a; fin_cases a <;> rfl), i0]
  · rw [View.ld_unit_zero (by ext a; fin_cases a <;> rfl), i1]
  · rw [View.ld_unit_zero (by ext a; fin_cases a <;> rfl)]
    exact i2
  · rw [View.ld_unit_zero (by ext a; fin_cases a <;> rfl)]
    exact i3
  · intro d
    rw [← i4]
    pointwise [View.ld_unit]
  · intro d
    rw [← i4]
    pointwise [View.ld_unit]
  · rw [View.ld_unit_zero (by ext a; fin_cases a <;> rfl)]
    exact i5
  all_goals
    blk_simp [e6] <;> (try dsimp only) <;> omega

end Cert.Value

end
-- ==== Proof.Value.Chain.lean ====
/- The values the kernel program computes, launch by launch. -/
module

public import proofs.«01_k».proof.Proof.Value.Given
public import proofs.«01_k».proof.Proof.Value.Arr0
public import proofs.«01_k».proof.Proof.Value.Arr1
public import proofs.«01_k».proof.Proof.Value.Arr3
public import proofs.«01_k».proof.Proof.Value.Arr4
public import proofs.«01_k».proof.Proof.Value.Arr5
public import proofs.«01_k».proof.Proof.KernelIdealRun.Fold0

@[expose] public section

set_option maxRecDepth 16384

noncomputable section

namespace Cert.Value

open Idealize.ShloMosaic Idealize.ShloMosaic.Pointwise Idealize.ShloMosaic.Pipeline Cert.KernelIdeal Cert.KernelIdeal.Gen

variable {A : Args} {V : (c : Dev nD) → (b : Ref sig .tc) → Buf (Elt Ideal) (c.tc.loc b)} {c : Dev nD}

variable {x0 x1 : Seq} {m : (ℓ : Loc nD τ sig) → Buf (Elt Ideal) ℓ} {ρ : Dev nD → PrngReg}

/-- The kernel program's arguments hold the reals `A`, `x0`, `x1`. -/
abbrev Holds (A : Args) (x0 x1 : Seq) (m : (ℓ : Loc nD τ sig) → Buf (Elt Ideal) ℓ) (c : Dev nD) : Prop :=
  Given A x0 x1 (m (c.tc.loc main_arg0)) (m (c.tc.loc main_arg1)) (m (c.tc.loc main_arg2)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) (m (c.tc.loc main_arg16)) (m (c.tc.loc main_arg17)) (m (c.tc.loc main_arg18))

section

variable (G : Holds A x0 x1 m c)
include G

theorem v0 (d : Fin 2048) : (W1 m ρ c (Proc.devRef .tc main_v0) : Vec Ideal S1x2048 .f32) (ix2 0 d) = (A.qnw d : EReal) := by
  rw [← G.h5]
  show StableHlo.after hostOps0 (W0 m ρ c) (Proc.devRef .tc main_v0) _ = _
  after_results
  pointwise

theorem v1 (d : Fin 2048) : (W1 m ρ c (Proc.devRef .tc main_v1) : Vec Ideal S1x2048 .f32) (ix2 0 d) = (A.mnw d : EReal) := by
  rw [← G.h6]
  show StableHlo.after hostOps0 (W0 m ρ c) (Proc.devRef .tc main_v1) _ = _
  after_results
  pointwise

theorem v2 (d : Fin 2048) : (W1 m ρ c (Proc.devRef .tc main_v2) : Vec Ideal S1x2048 .f32) (ix2 0 d) = (A.fnw d : EReal) := by
  rw [← G.h7]
  show StableHlo.after hostOps0 (W0 m ρ c) (Proc.devRef .tc main_v2) _ = _
  after_results
  pointwise

theorem v3 (k : Fin 3) (e : Fin 2048) : (W1 m ρ c (Proc.devRef .tc main_v3) : Vec Ideal S3x1x2048 .f32) (ix3 k 0 e) = (A.bi ⟨k.val * 2048 + e.val, by omega⟩ : EReal) := by
  rw [← G.h9]
  show StableHlo.after hostOps0 (W0 m ρ c) (Proc.devRef .tc main_v3) _ = _
  after_results
  pointwise

theorem v4 (d : Fin 2048) : (W1 m ρ c (Proc.devRef .tc main_v4) : Vec Ideal S1x2048 .f32) (ix2 0 d) = (A.sink d : EReal) := by
  rw [← G.h12]
  show StableHlo.after hostOps0 (W0 m ρ c) (Proc.devRef .tc main_v4) _ = _
  after_results
  pointwise

theorem v5 (d : Fin 2048) : (W1 m ρ c (Proc.devRef .tc main_v5) : Vec Ideal S1x2048 .f32) (ix2 0 d) = (A.bo d : EReal) := by
  rw [← G.h11]
  show StableHlo.after hostOps0 (W0 m ρ c) (Proc.devRef .tc main_v5) _ = _
  after_results
  pointwise

theorem v6 (d : Fin 2048) : (W1 m ρ c (Proc.devRef .tc main_v6) : Vec Ideal S1x2048 .f32) (ix2 0 d) = (A.db d : EReal) := by
  rw [← G.h18]
  show StableHlo.after hostOps0 (W0 m ρ c) (Proc.devRef .tc main_v6) _ = _
  after_results
  pointwise

theorem v7 : (W1 m ρ c (Proc.devRef .tc main_v7) : Vec Ideal S1x1 .f32) (ix2 0 0) = (A.gb : EReal) := by
  rw [← G.h14]
  show StableHlo.after hostOps0 (W0 m ρ c) (Proc.devRef .tc main_v7) _ = _
  after_results
  pointwise

omit G

/-- What the first host stretch leaves stays to the end. -/
theorem keep3 : ∀ r ∈ hostOps0_W, W3 m ρ c (Proc.devRef .tc r) = W1 m ρ c (Proc.devRef .tc r) := fun r hr =>
  (W3_of m ρ c r ((by decide +kernel : ∀ r ∈ hostOps0_W, r ∉ hostOps1_W) r hr)).trans
    (W2_of m ρ c r ((by decide +kernel : ∀ r ∈ hostOps0_W, ∀ w : Fin cfg0.W, arrRef spec0 w = r → (cfg0.win w).isOut = false) r hr))

theorem keep4 : ∀ r ∈ hostOps0_W, W4 m ρ c (Proc.devRef .tc r) = W1 m ρ c (Proc.devRef .tc r) := fun r hr =>
  (W4_of m ρ c r ((by decide +kernel : ∀ r ∈ hostOps0_W, ∀ w : Fin cfg1.W, arrRef spec1 w = r → (cfg1.win w).isOut = false) r hr)).trans (keep3 r hr)

theorem keep6 : ∀ r ∈ hostOps0_W, W6 m ρ c (Proc.devRef .tc r) = W1 m ρ c (Proc.devRef .tc r) := fun r hr =>
  (W6_of m ρ c r ((by decide +kernel : ∀ r ∈ hostOps0_W, r ∉ hostOps3_W) r hr)).trans
    ((W5_of m ρ c r ((by decide +kernel : ∀ r ∈ hostOps0_W, ∀ w : Fin cfg2.W, arrRef spec2 w = r → (cfg2.win w).isOut = false) r hr)).trans (keep4 r hr))

theorem keep9 : ∀ r ∈ hostOps0_W, W9 m ρ c (Proc.devRef .tc r) = W1 m ρ c (Proc.devRef .tc r) := fun r hr =>
  (W9_of m ρ c r ((by decide +kernel : ∀ r ∈ hostOps0_W, ∀ w : Fin cfg4.W, arrRef spec4 w = r → (cfg4.win w).isOut = false) r hr)).trans
    ((W8_of m ρ c r ((by decide +kernel : ∀ r ∈ hostOps0_W, r ∉ hostOps4_W) r hr)).trans
      ((W7_of m ρ c r ((by decide +kernel : ∀ r ∈ hostOps0_W, ∀ w : Fin cfg3.W, arrRef spec3 w = r → (cfg3.win w).isOut = false) r hr)).trans (keep6 r hr)))

include G

/-- After launch 0. -/
theorem after0 : W2 m ρ c (Proc.devRef .tc main_v8_0) = nqArr A ∧ W2 m ρ c (Proc.devRef .tc main_v8_1) = cArr A := by
  have h := arr0 (A := A) (V := V1 m ρ) (c := c)
    (fun b d => (congrFun (W1_args m ρ c main_arg0 (by decide)) _).trans (G.h0 b d)) (v0 G)
    (fun e d => (congrFun (W1_args m ρ c main_arg8 (by decide)) _).trans (G.h8 e d)) (v3 G)
    (fun e d => (congrFun (W1_args m ρ c main_arg8 (by decide)) _).trans (G.h8 e d))
  exact ⟨(W2_arr m ρ c 5).trans h.1, (W2_arr m ρ c 6).trans h.2⟩

/-- Before launch 1: the carried-back queries, batch by batch. -/
theorem v11 (i : Fin 128) (d : Fin 2048) :
    (W3 m ρ c (Proc.devRef .tc main_v11) : Vec Ideal S128x2048 .f32) (ix2 i d) = (A.cq ⟨i.val / 16, by omega⟩ ⟨i.val % 16, by omega⟩ d : EReal) := by
  show StableHlo.after hostOps1 (W2 m ρ c) (Proc.devRef .tc main_v11) _ = _
  after_results
  rw [(after0 G).2]
  pointwise
  refine (cArr_of (r := ⟨i.val % 16 * 8 + i.val / 16, by omega⟩) rfl rfl).trans ?_
  congr 2 <;> (refine Fin.ext ?_; dsimp only; omega)

theorem after1 : ∃ μ, W4 m ρ c (Proc.devRef .tc main_v12_0) = wmArr A x0 μ ∧ W4 m ρ c (Proc.devRef .tc main_v12_1) = denArr A x0 μ := by
  obtain ⟨μ, h⟩ := arr1 (A := A) (x := x0) (V := V3 m ρ) (c := c)
    (fun b s d => (congrFun (W3_args m ρ c main_arg1 (by decide)) _).trans (G.h1 b s d))
    (fun b d => (congrFun ((W3_of m ρ c main_v8_0 (by decide)).trans (after0 G).1) _).trans (nqArr_of rfl rfl)) (v11 G)
    (fun d => (congrFun (keep3 main_v1 (by decide)) _).trans (v1 G d)) (fun d => (congrFun (keep3 main_v4 (by decide)) _).trans (v4 G d))
  exact ⟨μ, (W4_arr m ρ c 5).trans h.1, (W4_arr m ρ c 6).trans h.2⟩

theorem after2 : ∃ μ, W5 m ρ c (Proc.devRef .tc main_v13_0) = wmArr A x1 μ ∧ W5 m ρ c (Proc.devRef .tc main_v13_1) = denArr A x1 μ := by
  obtain ⟨μ, h⟩ := arr2 (A := A) (x := x1) (V := V4 m ρ) (c := c)
    (fun b s d => (congrFun (W4_args m ρ c main_arg2 (by decide)) _).trans (G.h2 b s d))
    (fun b d => (congrFun ((W4_of m ρ c main_v8_0 (by decide +kernel)).trans ((W3_of m ρ c main_v8_0 (by decide)).trans (after0 G).1)) _).trans (nqArr_of rfl rfl))
    (fun i d => (congrFun (W4_of m ρ c main_v11 (by decide +kernel)) _).trans (v11 G i d))
    (fun d => (congrFun (keep4 main_v1 (by decide)) _).trans (v1 G d)) (fun d => (congrFun (keep4 main_v4 (by decide)) _).trans (v4 G d))
  exact ⟨μ, (W5_arr m ρ c 5).trans h.1, (W5_arr m ρ c 6).trans h.2⟩

omit G

theorem v16 {μ} (h : W5 m ρ c (Proc.devRef .tc main_v12_0) = wmArr A x0 μ) (b : Fin 8) (h' : Fin 16) (d : Fin 2048) :
    (W6 m ρ c (Proc.devRef .tc main_v16) : Vec Ideal S128x2048 .f32) (ix2 ⟨h'.val * 8 + b.val, by omega⟩ d) = (A.wm x0 (μ b h') b h' d : EReal) := by
  show StableHlo.after hostOps3 (W5 m ρ c) (Proc.devRef .tc main_v16) _ = _
  after_results
  rw [h]
  pointwise
  exact wmArr_of rfl rfl

theorem v19 {μ} (h : W5 m ρ c (Proc.devRef .tc main_v13_0) = wmArr A x1 μ) (b : Fin 8) (h' : Fin 16) (d : Fin 2048) :
    (W6 m ρ c (Proc.devRef .tc main_v19) : Vec Ideal S128x2048 .f32) (ix2 ⟨h'.val * 8 + b.val, by omega⟩ d) = (A.wm x1 (μ b h') b h' d : EReal) := by
  show StableHlo.after hostOps3 (W5 m ρ c) (Proc.devRef .tc main_v19) _ = _
  after_results
  rw [h]
  pointwise
  exact wmArr_of rfl rfl

theorem v20 {μ} (h : W5 m ρ c (Proc.devRef .tc main_v12_1) = denArr A x0 μ) (b : Fin 8) (h' : Fin 16) :
    (W6 m ρ c (Proc.devRef .tc main_v20) : Vec Ideal S8x16 .f32) (ix2 b h') = (A.den x0 (μ b h') b h' : EReal) := by
  show StableHlo.after hostOps3 (W5 m ρ c) (Proc.devRef .tc main_v20) _ = _
  after_results
  rw [h]
  pointwise
  exact denArr_of rfl rfl

theorem v21 {μ} (h : W5 m ρ c (Proc.devRef .tc main_v13_1) = denArr A x1 μ) (b : Fin 8) (h' : Fin 16) :
    (W6 m ρ c (Proc.devRef .tc main_v21) : Vec Ideal S8x16 .f32) (ix2 b h') = (A.den x1 (μ b h') b h' : EReal) := by
  show StableHlo.after hostOps3 (W5 m ρ c) (Proc.devRef .tc main_v21) _ = _
  after_results
  rw [h]
  pointwise
  exact denArr_of rfl rfl

include G

theorem after3 : W7 m ρ c (Proc.devRef .tc main_v22_0) = stack A.att x0 x1 ∧ W7 m ρ c (Proc.devRef .tc main_v22_1) = stack A.hn x0 x1 := by
  obtain ⟨μ₀, h0, h0'⟩ := after1 (ρ := ρ) G
  obtain ⟨μ₁, h1, h1'⟩ := after2 (ρ := ρ) G
  have h := arr3 (A := A) (x0 := x0) (x1 := x1) (V := V6 m ρ) (c := c) (μ₀ := μ₀) (μ₁ := μ₁)
    (v16 ((W5_of m ρ c main_v12_0 (by decide +kernel)).trans h0)) (v19 h1) (v20 ((W5_of m ρ c main_v12_1 (by decide +kernel)).trans h0')) (v21 h1')
    (fun e d => (congrFun (W6_args m ρ c main_arg8 (by decide)) _).trans (G.h8 e d))
    (fun k e => (congrFun (keep6 main_v3 (by decide)) _).trans (v3 G k e))
    (fun f e => (congrFun (W6_args m ρ c main_arg10 (by decide)) _).trans (G.h10 f e))
    (fun d => (congrFun (keep6 main_v5 (by decide)) _).trans (v5 G d)) (fun d => (congrFun (keep6 main_v2 (by decide)) _).trans (v2 G d))
  exact ⟨(W7_arr m ρ c 9).trans h.1, (W7_arr m ρ c 10).trans h.2⟩

theorem v23 (n : Fin 8) (j : Fin 1024) :
    (W8 m ρ c (Proc.devRef .tc main_v23) : Vec Ideal S8x1x1024 .f32) (ix3 n 0 j) = (A.gub ⟨n.val * 1024 + j.val, by omega⟩ : EReal) := by
  rw [← G.h16]
  show StableHlo.after hostOps4 (W7 m ρ c) (Proc.devRef .tc main_v23) _ = _
  after_results
  rw [W7_args m ρ c main_arg16 (by decide)]
  pointwise

theorem after4 : W9 m ρ c (Proc.devRef .tc main_v24) = stack A.ffn x0 x1 := by
  refine (W9_arr m ρ c 6).trans ?_
  exact arr4 (A := A) (x0 := x0) (x1 := x1) (V := V8 m ρ) (c := c) ((W8_of m ρ c main_v22_1 (by decide)).trans (after3 G).2)
    (fun k d => (congrFun (W8_args m ρ c main_arg15 (by decide)) _).trans (G.h15 k d))
    (fun k d => (congrFun (W8_args m ρ c main_arg15 (by decide)) _).trans (G.h15 k d)) (v23 G) (v23 G)
    (fun f k => (congrFun (W8_args m ρ c main_arg17 (by decide)) _).trans (G.h17 f k))

/-- The kernel program's result. -/
theorem kernel_value : W10 m ρ c (Proc.devRef .tc main_v25) = outArr A x0 x1 := by
  refine (W10_arr m ρ c 6).trans ?_
  exact arr5 (A := A) (x0 := x0) (x1 := x1) (V := V9 m ρ) (c := c)
    ((W9_of m ρ c main_v22_0 (by decide +kernel)).trans ((W8_of m ρ c main_v22_0 (by decide)).trans (after3 G).1)) (after4 G)
    (fun d => (congrFun (keep9 main_v6 (by decide)) _).trans (v6 G d))
    (fun b d => (congrFun (W9_args m ρ c main_arg0 (by decide)) _).trans (G.h0 b d))
    (fun k => (congrFun (W9_args m ρ c main_arg13 (by decide)) _).trans (G.h13 k))
    ((congrFun (keep9 main_v7 (by decide)) _).trans (v7 G))

end

end Cert.Value

end
-- ==== Proof.Value.RefBlocks.lean ====
/- The reference's normalised query, block means and block scores. -/
module

public import proofs.«01_k».proof.Proof.Value.Given
public import proofs.«01_k».proof.Proof.Gen.ReferenceIdeal.Read

@[expose] public section

set_option maxRecDepth 16384

noncomputable section

namespace Cert.Value

open Idealize.ShloMosaic Idealize.ShloMosaic.Pointwise Cert.ReferenceIdeal Cert.ReferenceIdeal.Gen Cert.ReferenceIdeal.Read

variable {A : Args} {x : Seq} {x0 : Vec Ideal ⟨2, ![8, 2048]⟩ .f32} {x1 : Vec Ideal ⟨3, ![8, 2048, 2048]⟩ .f32} {x3 : IVec ⟨2, ![8, 2048]⟩ 1}
  {x5 x6 : Vec Ideal ⟨1, ![2048]⟩ .f32}

/-- The normalised query. -/
theorem v12_at (h0 : ∀ i j, x0 (ix2 i j) = (A.q i j : EReal)) (h5 : ∀ i, x5 (ix1 i) = (A.qnw i : EReal)) (b : Fin 8) (d : Fin 2048) :
    val_main_v12 (F := Ideal) x0 x5 (ix2 b d) = (A.nq b d : EReal) := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  simp only [h0, h5, ofBits_2048, ofBits_eps, rsqrt_mean]
  simp only [← EReal.coe_mul, ← EReal.coe_add, ← coe_sum]
  rfl

/-- A token that is not masked counts once. -/
theorem counts : FloatOps.uitofp (F := Ideal) (w := 1) .f32 (~~~0#1) = ((1 : ℝ) : EReal) := by
  show (((~~~0#1 : BitVec 1).toNat : ℝ) : EReal) = _
  norm_num

/-- The mean of a block. -/
theorem v30_at (h1 : ∀ i j k, x1 (ix3 i j k) = (x i j k : EReal)) (h3 : ∀ i, x3 i = 0#1) (b : Fin 8) (n : Fin 128) (d : Fin 2048) :
    val_main_v30 (F := Ideal) x1 x3 (ix3 b n d) = (Args.blk x b n d : EReal) := by
  have hm : ∀ a b : ℝ, max (a : EReal) b = ((max a b : ℝ) : EReal) := fun a b => (EReal.coe_strictMono.monotone.map_max).symm
  pointwise [val_main_v30, val_main_v29, val_main_v28, val_main_v27, val_main_v26, val_main_v25, val_main_v24, val_main_v23,
    val_main_v22, val_main_v21, val_main_v20, val_main_v19, val_main_v18, val_main_cst_2, val_main_cst_3, val_main_cst_4]
  have hs : ∑ _k : Fin 16, ((1 : ℝ) : EReal) = ((16 : ℝ) : EReal) := by
    rw [← coe_sum]; norm_num
  simp only [h1, h3, counts, hs, ← EReal.coe_one, hm, ← EReal.coe_mul, ← coe_sum]
  rw [show max (16 : ℝ) 1 = 16 by norm_num, div_coe_coe (by norm_num)]
  simp only [mul_one]
  rfl

/-- A fold by `and` that met a zero everywhere. -/
theorem fold_andi_zero (n : ℕ) : (Finset.univ : Finset (Fin (n + 1))).fold IntOp.andi 1#1 (fun _ => 0#1) = 0#1 := by
  rw [Finset.fold_const _ (by decide), if_neg Finset.univ_nonempty.ne_empty]
  decide

/-- No block is masked. -/
theorem v31_at (h3 : ∀ i, x3 i = 0#1) (i : S8x128.Idx) : val_main_v31 (F := Ideal) x3 i = 0#1 := by
  idx_vars i
  pointwise [val_main_v31, val_main_v19, val_main_c_5]
  simp only [h3]
  exact fold_andi_zero 15

/-- A selection by a mask that is off. -/
theorem select_off {α : Type} (a b : α) : Scalar.select (0#1) a b = b := rfl

/-- A selection by a mask that is on. -/
theorem select_on {α : Type} (a b : α) : Scalar.select (1#1) a b = a := rfl

/-- A block's score. -/
theorem v62_at (h0 : ∀ i j, x0 (ix2 i j) = (A.q i j : EReal)) (h5 : ∀ i, x5 (ix1 i) = (A.qnw i : EReal)) (h6 : ∀ i, x6 (ix1 i) = (A.mnw i : EReal))
    (h1 : ∀ i j k, x1 (ix3 i j k) = (x i j k : EReal)) (h3 : ∀ i, x3 i = 0#1) (b : Fin 8) (n : Fin 128) :
    val_main_v62 (F := Ideal) x0 x1 x3 x5 x6 (ix2 b n) = (A.sc x b n : EReal) := by
  have hq : ∀ d, val_main_v57 (F := Ideal) x0 x5 (ix2 b d) = (A.nq b d : EReal) := v12_at h0 h5 b
  have hb := v30_at (x := x) h1 h3 b n
  pointwise [val_main_v62, val_main_v61, val_main_v60, val_main_v59, val_main_v58, val_main_v44, val_main_v43, val_main_v42,
    val_main_v41, val_main_v40, val_main_v39, val_main_v38, val_main_v37, val_main_v36, val_main_v35, val_main_v34, val_main_v33,
    val_main_v32, val_main_cst_6, val_main_cst_7, val_main_cst_8, val_main_cst_12]
  simp only [hq, hb, h6, v31_at h3, select_off, ofBits_2048, ofBits_eps, rsqrt_mean]
  simp only [← EReal.coe_mul, ← EReal.coe_add, ← coe_sum]
  rfl

/-- The block taken at position `t`. -/
def best (s : Fin 128 → ℝ) (t : Fin 64) : Fin 128 := sortedFrom (fun a b : Fin 128 => decide (s b < s a)) ⟨t.val, by omega⟩

/-- The positions the top-k search finds. -/
theorem topK_at {y : FVec Ideal S8x128 .f32} {s : Fin 8 → Fin 128 → ℝ} (hy : ∀ b n, y (ix2 b n) = (s b n : EReal)) (b : Fin 8) (t : Fin 64) :
    (Host.topK S8x64 1 (FloatOps.cmpfTotal (F := Ideal) (φ := .f32) .gt) y sliceFits_S8x128_S8x64).2 (ix2 b t) = BitVec.ofNat 32 (best (s b) t).val := by
  have ha : ∀ k : Fin 128, (ix2 b (⟨t.val, by omega⟩ : Fin 128)).along (s := S8x128) 1 k = ix2 b k := fun k => by
    funext a
    match a with
    | ⟨0, _⟩ => rfl
    | ⟨1, _⟩ => rfl
  have hc : (fun k k' : Fin 128 => FloatOps.cmpfTotal (F := Ideal) (φ := .f32) .gt (s b k : EReal) (s b k' : EReal) == 1#1)
      = fun k k' => decide (s b k' < s b k) := by
    funext k k'
    show ((BitVec.ofBool (decide ((s b k' : EReal) < (s b k : EReal)))) == 1#1) = _
    by_cases h : s b k' < s b k
    · rw [decide_eq_true (EReal.coe_lt_coe_iff.mpr h), decide_eq_true h]; rfl
    · rw [decide_eq_false (fun h' => h (EReal.coe_lt_coe_iff.mp h')), decide_eq_false h]; rfl
  pointwise [Host.topK, Host.sort2]
  simp only [ha, hy]
  unfold best
  rw [← hc]
  rfl

end Cert.Value

end
-- ==== Proof.Value.RefGather.lean ====
/- The reference's best blocks, read off the top-k search. -/
module

public import proofs.«01_k».proof.Proof.Value.RefBlocks
public import Idealize.ShloMosaic.Lib.ReduceAll

@[expose] public section

set_option maxRecDepth 16384

noncomputable section

namespace Cert.Value

open Idealize.ShloMosaic Idealize.ShloMosaic.Pointwise Cert.ReferenceIdeal Cert.ReferenceIdeal.Gen Cert.ReferenceIdeal.Read

/-- Words of block positions: none is negative, none is past the last block. -/
theorem word_at : ∀ k : Fin 128, IntOp.cmpi .slt (BitVec.ofNat 32 k.val) 0#32 = 0#1 ∧ IntOp.cmpi .sge (BitVec.ofNat 32 k.val) 0#32 = 1#1
    ∧ IntOp.cmpi .sle (BitVec.ofNat 32 k.val) 127#32 = 1#1 ∧ min (BitVec.ofNat 32 k.val).toInt.toNat 127 = k.val := by
  decide +kernel

/-- The gather of the blocks reads each at its position. -/
theorem gather_at (y : S8x128x2048.Idx → EReal) (ix : IVec S8x64x1 32) (b : Fin 8) (t : Fin 64) (d : Fin 2048) (k : Fin 128)
    (hk : ix (ix3 b t 0) = BitVec.ofNat 32 k.val) :
    Host.gather gather_S8x128x2048_S8x64x1_S8x64x2048_2_1_0_0_1_2_112048 y ix (ix3 b t d) = y (ix3 b k d) := by
  unfold Host.gather
  refine congrArg y (funext fun a => Fin.ext ?_)
  show gather_S8x128x2048_S8x64x1_S8x64x2048_2_1_0_0_1_2_112048.start (ix3 b t d) ix a + gather_S8x128x2048_S8x64x1_S8x64x2048_2_1_0_0_1_2_112048.batchCoord (ix3 b t d) a + gather_S8x128x2048_S8x64x1_S8x64x2048_2_1_0_0_1_2_112048.offCoord (ix3 b t d) a = _
  have h012 : a = 0 ∨ a = 1 ∨ a = 2 := by
    match a with
    | ⟨0, _⟩ => exact .inl rfl
    | ⟨1, _⟩ => exact .inr (.inl rfl)
    | ⟨2, _⟩ => exact .inr (.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ gather_S8x128x2048_S8x64x1_S8x64x2048_2_1_0_0_1_2_112048.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S8x128x2048_S8x64x1_S8x64x2048_2_1_0_0_1_2_112048.startIndexMap from List.mem_singleton.mpr rfl)]
    have hsi : gather_S8x128x2048_S8x64x1_S8x64x2048_2_1_0_0_1_2_112048.siIdx (ix3 b t d) ⟨List.idxOf (1 : Fin 3) gather_S8x128x2048_S8x64x1_S8x64x2048_2_1_0_0_1_2_112048.startIndexMap,
        List.idxOf_lt_length_iff.2 (List.mem_singleton.mpr rfl)⟩ = ix3 b t 0 := by
      funext c; refine Fin.ext ?_
      match c with
      | ⟨0, _⟩ => rfl
      | ⟨1, _⟩ => rfl
      | ⟨2, _⟩ => rfl
    rw [hsi, hk]
    exact (word_at k).2.2.2
  · rw [GatherDims.batchCoord_eq_zero _ _ _ (fun h => absurd (List.mem_singleton.mp h) (by decide))]
    unfold GatherDims.start GatherDims.offCoord
    rw [dif_neg (show ¬ (2 : Fin 3) ∈ gather_S8x128x2048_S8x64x1_S8x64x2048_2_1_0_0_1_2_112048.startIndexMap from fun h => absurd (List.mem_singleton.mp h) (by decide)),
      dif_pos (show (2 : Fin 3) ∈ gather_S8x128x2048_S8x64x1_S8x64x2048_2_1_0_0_1_2_112048.sKept from (GatherDims.mem_sKept _ _).mpr
        ⟨fun h => absurd (List.mem_singleton.mp h) (by decide), fun h => absurd (List.mem_singleton.mp h) (by decide)⟩)]
    simp only [Nat.zero_add]
    rfl

variable {A : Args} {x : Seq} {x0 : Vec Ideal ⟨2, ![8, 2048]⟩ .f32} {x1 : Vec Ideal ⟨3, ![8, 2048, 2048]⟩ .f32} {x3 : IVec ⟨2, ![8, 2048]⟩ 1}
  {x5 x6 : Vec Ideal ⟨1, ![2048]⟩ .f32}

section
variable (h0 : ∀ i j, x0 (ix2 i j) = (A.q i j : EReal)) (h5 : ∀ i, x5 (ix1 i) = (A.qnw i : EReal)) (h6 : ∀ i, x6 (ix1 i) = (A.mnw i : EReal))
    (h1 : ∀ i j k, x1 (ix3 i j k) = (x i j k : EReal)) (h3 : ∀ i, x3 i = 0#1)
include h0 h5 h6 h1 h3

/-- The positions of the best blocks. -/
theorem indices_at (b : Fin 8) (t : Fin 64) :
    val_main_indices (F := Ideal) x0 x1 x3 x5 x6 (ix2 b t) = BitVec.ofNat 32 (best (A.sc x b) t).val :=
  topK_at (v62_at h0 h5 h6 h1 h3) b t

/-- The best blocks. -/
theorem v64_at (b : Fin 8) (t : Fin 64) (d : Fin 2048) :
    val_main_v64 (F := Ideal) x0 x1 x3 x5 x6 (ix3 b t d) = (Args.blk x b (best (A.sc x b) t) d : EReal) := by
  have hi := indices_at h0 h5 h6 h1 h3
  have h4 : ∀ b t, val_main_call1_v4 (F := Ideal) x0 x1 x3 x5 x6 (ix3 b t 0) = BitVec.ofNat 32 (best (A.sc x b) t).val := fun b t => by
    pointwise [val_main_call1_v4, val_main_call1_v3, val_main_call1_v2, val_main_call1_v1, val_main_call1_v0, val_main_v63, val_main_call1_c, val_main_call1_c_0]
    rw [hi, (word_at _).1, select_off]
  have hv : ∀ i, val_main_call1_v10 (F := Ideal) x0 x1 x3 x5 x6 i = 1#1 := fun i => by
    idx_vars i
    obtain rfl : i2 = 0 := Subsingleton.elim _ _
    pointwise [val_main_call1_v10, val_main_call1_v9, val_main_call1_v8, val_main_call1_v7, val_main_call1_v6, val_main_call1_v5, val_main_call1_c_1, val_main_call1_c_2]
    rw [h4, (word_at _).2.1, (word_at _).2.2.1]
    rfl
  have hm : val_main_call1_v11 (F := Ideal) x0 x1 x3 x5 x6 (ix2 b t) = 1#1 := Host.reduce_andi_one _ _ _ _ _ rfl hv
  have hg : val_main_call1_v12 (F := Ideal) x0 x1 x3 x5 x6 (ix3 b t d) = (Args.blk x b (best (A.sc x b) t) d : EReal) :=
    (gather_at _ _ b t d _ (h4 b t)).trans (v30_at h1 h3 b _ d)
  pointwise [val_main_v64, val_main_call1_v13]
  rw [hm, select_on, hg]

/-- No best block is masked. -/
theorem v65_at (b : Fin 8) (t : Fin 64) : val_main_v65 (F := Ideal) x0 x1 x3 x5 x6 (ix2 b t) = 0#1 := by
  have hi := indices_at h0 h5 h6 h1 h3
  have h4 : ∀ b t, val_main_call2_v5 (F := Ideal) x0 x1 x3 x5 x6 (ix3 b t 0) = BitVec.ofNat 32 (best (A.sc x b) t).val := fun b t => by
    pointwise [val_main_call2_v5, val_main_call2_v4, val_main_call2_v3, val_main_call2_v2, val_main_call2_v1, val_main_call2_v0, val_main_call2_c, val_main_call2_c_0]
    rw [hi, (word_at _).1, select_off]
  have hv : ∀ i, val_main_call2_v11 (F := Ideal) x0 x1 x3 x5 x6 i = 1#1 := fun i => by
    idx_vars i
    obtain rfl : i2 = 0 := Subsingleton.elim _ _
    pointwise [val_main_call2_v11, val_main_call2_v10, val_main_call2_v9, val_main_call2_v8, val_main_call2_v7, val_main_call2_v6, val_main_call2_c_1, val_main_call2_c_2]
    rw [h4, (word_at _).2.1, (word_at _).2.2.1]
    rfl
  have hm : val_main_call2_v12 (F := Ideal) x0 x1 x3 x5 x6 (ix2 b t) = 1#1 := Host.reduce_andi_one _ _ _ _ _ rfl hv
  have hg : val_main_call2_v13 (F := Ideal) x0 x1 x3 x5 x6 (ix2 b t) = 0#1 := by
    unfold val_main_call2_v13 Host.gather
    exact v31_at h3 _
  pointwise [val_main_v65]
  rw [hm, select_on, hg]

end

end Cert.Value

end
-- ==== Proof.Value.RefMemory.lean ====
/- The reference's memory rows. -/
module

public import proofs.«01_k».proof.Proof.Value.RefGather

@[expose] public section

set_option maxRecDepth 16384

noncomputable section

namespace Cert.Value

open Idealize.ShloMosaic Idealize.ShloMosaic.Pointwise Cert.ReferenceIdeal Cert.ReferenceIdeal.Gen Cert.ReferenceIdeal.Read

/-- The 578 memory rows: the sink, the recent tokens, the best blocks, the mean. -/
def row (A : Args) (x : Seq) (b : Fin 8) (j : Fin 578) : Fin 2048 → ℝ :=
  if j.val < 1 then A.sink
  else if h : j.val - 1 < 512 then Args.recent x b ⟨j.val - 1, by omega⟩
  else if h : j.val - 1 - 512 < 64 then Args.blk x b (best (A.sc x b) ⟨j.val - 1 - 512, by omega⟩)
  else Args.avg x b

variable {A : Args} {x : Seq} {x0 : Vec Ideal ⟨2, ![8, 2048]⟩ .f32} {x1 : Vec Ideal ⟨3, ![8, 2048, 2048]⟩ .f32} {x3 : IVec ⟨2, ![8, 2048]⟩ 1}
  {x5 x6 : Vec Ideal ⟨1, ![2048]⟩ .f32} {x12 : Vec Ideal ⟨3, ![1, 1, 2048]⟩ .f32}

/-- The mean of the sequence. -/
theorem v76_at (h1 : ∀ i j k, x1 (ix3 i j k) = (x i j k : EReal)) (h3 : ∀ i, x3 i = 0#1) (b : Fin 8) (d : Fin 2048) :
    val_main_v76 (F := Ideal) x1 x3 (ix2 b d) = (Args.avg x b d : EReal) := by
  have hm : ∀ a b : ℝ, max (a : EReal) b = ((max a b : ℝ) : EReal) := fun a b => (EReal.coe_strictMono.monotone.map_max).symm
  pointwise [val_main_v76, val_main_v75, val_main_v74, val_main_v73, val_main_v72, val_main_v71, val_main_v70, val_main_v69,
    val_main_v68, val_main_v67, val_main_v66, val_main_cst_14, val_main_cst_15, val_main_cst_16]
  have hs : ∑ _k : Fin 2048, ((1 : ℝ) : EReal) = ((2048 : ℝ) : EReal) := by
    rw [← coe_sum, Finset.sum_const, Finset.card_univ, Fintype.card_fin, nsmul_eq_mul, mul_one]; norm_num
  simp only [h1, h3, counts, hs, ← EReal.coe_one, hm, ← EReal.coe_mul, ← coe_sum]
  rw [show max (2048 : ℝ) 1 = 2048 by norm_num, div_coe_coe (by norm_num)]
  simp only [mul_one]
  rw [Args.avg_eq]

section
variable (h0 : ∀ i j, x0 (ix2 i j) = (A.q i j : EReal)) (h5 : ∀ i, x5 (ix1 i) = (A.qnw i : EReal)) (h6 : ∀ i, x6 (ix1 i) = (A.mnw i : EReal))
    (h1 : ∀ i j k, x1 (ix3 i j k) = (x i j k : EReal)) (h3 : ∀ i, x3 i = 0#1)
include h0 h5 h6 h1 h3

/-- The memory. -/
theorem v80_at (h12 : ∀ j, x12 (ix3 0 0 j) = (A.sink j : EReal)) (b : Fin 8) (j : Fin 578) (d : Fin 2048) :
    val_main_v80 (F := Ideal) x0 x1 x3 x5 x6 x12 (ix3 b j d) = (row A x b j d : EReal) := by
  have h64 := v64_at h0 h5 h6 h1 h3
  have h76 := v76_at (x := x) h1 h3
  pointwise [val_main_v80, val_main_v77, val_main_v16, val_main_v14]
  simp only [h12, h1, h64, h76]
  unfold row
  split_ifs <;> rfl

/-- No memory row is masked. -/
theorem v81_at (b : Fin 8) (j : Fin 578) : val_main_v81 (F := Ideal) x0 x1 x3 x5 x6 (ix2 b j) = 0#1 := by
  have h65 := v65_at h0 h5 h6 h1 h3
  have h78 : ∀ b, val_main_v78 (F := Ideal) x3 (ix1 b) = 0#1 := fun b => by
    pointwise [val_main_v78, val_main_c_17]
    simp only [h3]
    exact fold_andi_zero 2047
  pointwise [val_main_v81, val_main_v79, val_main_v17, val_main_v15, val_main_c]
  simp only [h3, h65, h78]
  split_ifs <;> rfl

/-- The mask the attention takes. -/
theorem v97_at (b : Fin 8) (j : Fin 578) : val_main_v97 (F := Ideal) x0 x1 x3 x5 x6 (ix2 b j) = 0#1 := by
  have h81 := v81_at h0 h5 h6 h1 h3 b j
  pointwise [val_main_v97, val_main_call3_v1, val_main_c_22]
  rw [h81]
  unfold Scalar.select
  split <;> rfl

/-- The normalised memory. -/
theorem v94_at (h12 : ∀ j, x12 (ix3 0 0 j) = (A.sink j : EReal)) (b : Fin 8) (j : Fin 578) (d : Fin 2048) :
    val_main_v94 (F := Ideal) x0 x1 x3 x5 x6 x12 (ix3 b j d) = (nrm (row A x b j) A.mnw d : EReal) := by
  have h80 := v80_at h0 h5 h6 h1 h3 h12 b j
  pointwise [val_main_v94, val_main_v93, val_main_v92, val_main_v91, val_main_v90, val_main_v89, val_main_v88, val_main_v87,
    val_main_v86, val_main_v85, val_main_v84, val_main_v83, val_main_v82, val_main_cst_18, val_main_cst_19, val_main_cst_20]
  simp only [h80, h6, ofBits_2048, ofBits_eps, rsqrt_mean]
  simp only [← EReal.coe_mul, ← EReal.coe_add, ← coe_sum]
  rfl

end

end Cert.Value

end
-- ==== Proof.Value.RefAttention.lean ====
/- The reference's attention. -/
module

public import proofs.«01_k».proof.Proof.Value.RefMemory

@[expose] public section

set_option maxRecDepth 16384

noncomputable section

namespace Cert.Value

open Idealize.ShloMosaic Idealize.ShloMosaic.Pointwise Cert.ReferenceIdeal Cert.ReferenceIdeal.Gen Cert.ReferenceIdeal.Read

/-- The greatest of finitely many reals, from the least extended real on, is a real. -/
theorem fold_max_real (n : ℕ) (f : Fin (n + 1) → ℝ) : ∃ M : ℝ, (Finset.univ : Finset (Fin (n + 1))).fold max ⊥ (fun i => (f i : EReal)) = M := by
  have h1 : (Finset.univ : Finset (Fin (n + 1))).fold max ⊥ (fun i => (f i : EReal)) < ⊤ :=
    Finset.fold_max_lt _ |>.mpr ⟨bot_lt_top, fun i _ => EReal.coe_lt_top _⟩
  have h2 : ⊥ < (Finset.univ : Finset (Fin (n + 1))).fold max ⊥ (fun i => (f i : EReal)) :=
    Finset.lt_fold_max _ |>.mpr (.inr ⟨0, Finset.mem_univ _, EReal.bot_lt_coe _⟩)
  exact ⟨_, (EReal.coe_toReal h1.ne h2.ne').symm⟩

/-- A sum over the memory rows, each weighted by the exponential of its logit. -/
theorem row_sum (A : Args) (x : Seq) (b : Fin 8) (h : Fin 16) (g : (Fin 2048 → ℝ) → ℝ) :
    ∑ j, Real.exp (A.lg b h (row A x b j)) * g (row A x b j) = A.mem x 0 b h g := by
  have r0 : row A x b ⟨0, by omega⟩ = A.sink := rfl
  have r1 : ∀ r : Fin 512, row A x b ⟨1 + r.val, by omega⟩ = Args.recent x b r := fun r => by
    have hr := r.isLt
    unfold row
    rw [if_neg (by show ¬ 1 + r.val < 1; omega), dif_pos (by show 1 + r.val - 1 < 512; omega)]
    exact congrArg (Args.recent x b) (Fin.ext (by show 1 + r.val - 1 = r.val; omega))
  have r2 : ∀ t : Fin 64, row A x b ⟨513 + t.val, by omega⟩ = Args.blk x b (best (A.sc x b) t) := fun t => by
    have ht := t.isLt
    unfold row
    rw [if_neg (by show ¬ 513 + t.val < 1; omega), dif_neg (by show ¬ 513 + t.val - 1 < 512; omega),
      dif_pos (by show 513 + t.val - 1 - 512 < 64; omega)]
    exact congrArg (fun k => Args.blk x b (best (A.sc x b) k)) (Fin.ext (by show 513 + t.val - 1 - 512 = t.val; omega))
  have r3 : row A x b ⟨577, by omega⟩ = Args.avg x b := rfl
  rw [sum_memory]
  simp only [r0, r1, r2, r3]
  unfold Args.mem
  simp only [sub_zero]
  rw [show ∑ t : Fin 64, Real.exp (A.lg b h (Args.blk x b (best (A.sc x b) t))) * g (Args.blk x b (best (A.sc x b) t)) = _ from
    sum_best (A.sc x b) fun n => Real.exp (A.lg b h (Args.blk x b n)) * g (Args.blk x b n)]

variable {A : Args} {x : Seq} {x0 : Vec Ideal ⟨2, ![8, 2048]⟩ .f32} {x1 : Vec Ideal ⟨3, ![8, 2048, 2048]⟩ .f32} {x3 : IVec ⟨2, ![8, 2048]⟩ 1}
  {x5 x6 : Vec Ideal ⟨1, ![2048]⟩ .f32} {x8 : Vec Ideal ⟨2, ![6144, 2048]⟩ .f32} {x9 : Vec Ideal ⟨1, ![6144]⟩ .f32}
  {x10 : Vec Ideal ⟨2, ![2048, 2048]⟩ .f32} {x11 : Vec Ideal ⟨1, ![2048]⟩ .f32} {x12 : Vec Ideal ⟨3, ![1, 1, 2048]⟩ .f32}

section
variable (h0 : ∀ i j, x0 (ix2 i j) = (A.q i j : EReal)) (h5 : ∀ i, x5 (ix1 i) = (A.qnw i : EReal)) (h6 : ∀ i, x6 (ix1 i) = (A.mnw i : EReal))
    (h1 : ∀ i j k, x1 (ix3 i j k) = (x i j k : EReal)) (h3 : ∀ i, x3 i = 0#1) (h8 : ∀ i j, x8 (ix2 i j) = (A.W i j : EReal))
    (h9 : ∀ i, x9 (ix1 i) = (A.bi i : EReal)) (h12 : ∀ j, x12 (ix3 0 0 j) = (A.sink j : EReal))

include h0 h5 h8 h9 in
/-- The query's heads. -/
theorem v110_at (b : Fin 8) (h : Fin 16) (e : Fin 128) :
    val_main_v110 (F := Ideal) x0 x5 x8 x9 (ix4 b h 0 e) = (A.qh b ⟨h.val * 128 + e.val, by omega⟩ : EReal) := by
  have hq := v12_at h0 h5
  pointwise [val_main_v110, val_main_v109, val_main_v108, val_main_v107, val_main_v106, val_main_v105, val_main_v104, val_main_v101,
    val_main_v98, val_main_v13]
  simp only [hq, h8, h9, ← EReal.coe_mul, ← coe_sum, ← EReal.coe_add]
  rfl

include h0 h5 h6 h1 h3 h8 h9 h12

/-- The keys. -/
theorem v117_at (b : Fin 8) (h : Fin 16) (j : Fin 578) (e : Fin 128) :
    val_main_v117 (F := Ideal) x0 x1 x3 x5 x6 x8 x9 x12 (ix4 b h j e)
      = (((∑ d, nrm (row A x b j) A.mnw d * A.W ⟨2048 + (h.val * 128 + e.val), by omega⟩ d) + A.bi ⟨2048 + (h.val * 128 + e.val), by omega⟩ : ℝ) : EReal) := by
  have hm := v94_at h0 h5 h6 h1 h3 h12 b j
  pointwise [val_main_v117, val_main_v116, val_main_v115, val_main_v114, val_main_v113, val_main_v112, val_main_v111, val_main_v102,
    val_main_v99]
  simp only [hm, h8, h9, ← EReal.coe_mul, ← coe_sum, ← EReal.coe_add]

/-- The values. -/
theorem v124_at (b : Fin 8) (h : Fin 16) (j : Fin 578) (e : Fin 128) :
    val_main_v124 (F := Ideal) x0 x1 x3 x5 x6 x8 x9 x12 (ix4 b h j e)
      = (((∑ d, nrm (row A x b j) A.mnw d * A.W ⟨4096 + (h.val * 128 + e.val), by omega⟩ d) + A.bi ⟨4096 + (h.val * 128 + e.val), by omega⟩ : ℝ) : EReal) := by
  have hm := v94_at h0 h5 h6 h1 h3 h12 b j
  pointwise [val_main_v124, val_main_v123, val_main_v122, val_main_v121, val_main_v120, val_main_v119, val_main_v118, val_main_v103,
    val_main_v100]
  simp only [hm, h8, h9, ← EReal.coe_mul, ← coe_sum, ← EReal.coe_add]

/-- The logits. -/
theorem v130_at (b : Fin 8) (h : Fin 16) (j : Fin 578) :
    val_main_v130 (F := Ideal) x0 x1 x3 x5 x6 x8 x9 x12 (ix4 b h 0 j)
      = (((∑ e : Fin 128, A.qh b ⟨h.val * 128 + e.val, by omega⟩
          * ((∑ d, nrm (row A x b j) A.mnw d * A.W ⟨2048 + (h.val * 128 + e.val), by omega⟩ d) + A.bi ⟨2048 + (h.val * 128 + e.val), by omega⟩))
          * (Real.sqrt 128)⁻¹ : ℝ) : EReal) := by
  have hq := v110_at h0 h5 h8 h9 b h
  have hk := v117_at h0 h5 h6 h1 h3 h8 h9 h12 b h j
  have hm := v97_at h0 h5 h6 h1 h3 b j
  pointwise [val_main_v130, val_main_call4_v0, val_main_v129, val_main_v128, val_main_v127, val_main_v126, val_main_v125, val_main_cst_23]
  simp only [hq, hk, hm, select_off, ofBits_128, ← EReal.coe_mul, ← coe_sum]
  rw [Ideal.sqrt_coe, if_neg (by norm_num), div_coe_coe (by positivity), div_eq_mul_inv]

/-- The weighted values. -/
theorem v142_at (b : Fin 8) (h : Fin 16) (e : Fin 128) :
    val_main_v142 (F := Ideal) x0 x1 x3 x5 x6 x8 x9 x12 (ix4 b h 0 e) = (A.ap x b ⟨h.val * 128 + e.val, by omega⟩ : EReal) := by
  have hl := v130_at h0 h5 h6 h1 h3 h8 h9 h12 b h
  have hv := fun j => v124_at h0 h5 h6 h1 h3 h8 h9 h12 b h j e
  obtain ⟨M, hM⟩ : ∃ M : ℝ, val_main_v133 (F := Ideal) x0 x1 x3 x5 x6 x8 x9 x12 (ix3 b h 0) = M := by
    pointwise [val_main_v133, val_main_v132, val_main_v131, val_main_cst_25, val_main_cst_26]
    simp only [hl, ofBits_negInf]
    obtain ⟨M, hM⟩ := fold_max_real 577 fun j => (∑ e : Fin 128, A.qh b ⟨h.val * 128 + e.val, by omega⟩
          * ((∑ d, nrm (row A x b j) A.mnw d * A.W ⟨2048 + (h.val * 128 + e.val), by omega⟩ d) + A.bi ⟨2048 + (h.val * 128 + e.val), by omega⟩))
          * (Real.sqrt 128)⁻¹
    refine ⟨M, ?_⟩
    rw [hM]
    exact max_eq_right bot_le
  pointwise [val_main_v142, val_main_v141, val_main_v140, val_main_v139, val_main_v138, val_main_v137, val_main_v136, val_main_v135, val_main_v134, val_main_cst_27]
  have hS : 0 < ∑ j : Fin 578, Real.exp ((∑ e : Fin 128, A.qh b ⟨h.val * 128 + e.val, by omega⟩
      * ((∑ d, nrm (row A x b j) A.mnw d * A.W ⟨2048 + (h.val * 128 + e.val), by omega⟩ d) + A.bi ⟨2048 + (h.val * 128 + e.val), by omega⟩))
      * (Real.sqrt 128)⁻¹ - M) := Finset.sum_pos (fun j _ => Real.exp_pos _) Finset.univ_nonempty
  simp only [hl, hv, hM, ← EReal.coe_sub, Ideal.exp_coe, ← coe_sum]
  simp only [div_coe_coe hS.ne', ← EReal.coe_mul, ← coe_sum]
  refine congrArg _ ?_
  refine (attention (fun j => nrm (row A x b j) A.mnw) (fun e => A.qh b ⟨h.val * 128 + e.val, by omega⟩)
    (fun e => A.bi ⟨2048 + (h.val * 128 + e.val), by omega⟩) (fun e d => A.W ⟨2048 + (h.val * 128 + e.val), by omega⟩ d)
    (A.W ⟨4096 + (h.val * 128 + e.val), by omega⟩) (A.bi ⟨4096 + (h.val * 128 + e.val), by omega⟩) M (Real.sqrt 128)⁻¹).trans ?_
  rw [← A.ap_eq x 0 b ⟨h.val * 128 + e.val, by omega⟩ h (by show h.val = (h.val * 128 + e.val) / 128; omega)]
  unfold Args.wm Args.den
  simp only [← row_sum, mul_one]
  rfl

/-- The attention. -/
theorem v150_at (h10 : ∀ i j, x10 (ix2 i j) = (A.Wo i j : EReal)) (h11 : ∀ i, x11 (ix1 i) = (A.bo i : EReal)) (b : Fin 8) (f : Fin 2048) :
    val_main_v150 (F := Ideal) x0 x1 x3 x5 x6 x8 x9 x10 x11 x12 (ix2 b f) = (A.att x b f : EReal) := by
  have hw := v142_at h0 h5 h6 h1 h3 h8 h9 h12 b
  pointwise [val_main_v150, val_main_v149, val_main_v148, val_main_v147, val_main_v146, val_main_v145, val_main_v144, val_main_v143]
  have hw' : ∀ (e : Fin 2048) (p : e.val / 128 < 16) (q : e.val % 128 < 128),
      val_main_v142 (F := Ideal) x0 x1 x3 x5 x6 x8 x9 x12 (ix4 b ⟨e.val / 128, p⟩ 0 ⟨e.val % 128, q⟩) = (A.ap x b e : EReal) := fun e p q => by
    rw [hw]
    exact congrArg (fun k => (A.ap x b k : EReal)) (Fin.ext (by show e.val / 128 * 128 + e.val % 128 = e.val; omega))
  simp only [hw', h10, h11, ← EReal.coe_mul, ← coe_sum, ← EReal.coe_add]
  rfl

end

end Cert.Value

end
-- ==== Proof.Value.RefOut.lean ====
/- The reference's feed-forward network, gate and result. -/
module

public import proofs.«01_k».proof.Proof.Value.RefAttention

@[expose] public section

set_option maxRecDepth 16384

noncomputable section

namespace Cert.Value

open Idealize.ShloMosaic Idealize.ShloMosaic.Pointwise Cert.ReferenceIdeal Cert.ReferenceIdeal.Gen Cert.ReferenceIdeal.Read

variable {A : Args} {x y : Seq} {x0 : Vec Ideal ⟨2, ![8, 2048]⟩ .f32} {x1 x2 : Vec Ideal ⟨3, ![8, 2048, 2048]⟩ .f32} {x3 x4 : IVec ⟨2, ![8, 2048]⟩ 1}
  {x5 x6 x7 : Vec Ideal ⟨1, ![2048]⟩ .f32} {x8 : Vec Ideal ⟨2, ![6144, 2048]⟩ .f32} {x9 : Vec Ideal ⟨1, ![6144]⟩ .f32}
  {x10 : Vec Ideal ⟨2, ![2048, 2048]⟩ .f32} {x11 : Vec Ideal ⟨1, ![2048]⟩ .f32} {x12 : Vec Ideal ⟨3, ![1, 1, 2048]⟩ .f32}
  {x13 : Vec Ideal ⟨2, ![1, 4096]⟩ .f32} {x14 : Vec Ideal ⟨1, ![1]⟩ .f32} {x15 : Vec Ideal ⟨2, ![8192, 2048]⟩ .f32}
  {x16 : Vec Ideal ⟨1, ![8192]⟩ .f32} {x17 : Vec Ideal ⟨2, ![2048, 4096]⟩ .f32} {x18 : Vec Ideal ⟨1, ![2048]⟩ .f32}

/-- A fold by `or` that met a one everywhere. -/
theorem fold_ori_one (n : ℕ) : (Finset.univ : Finset (Fin (n + 1))).fold IntOp.ori 0#1 (fun _ => ~~~0#1) = ~~~0#1 := by
  rw [Finset.fold_const _ (by decide), if_neg Finset.univ_nonempty.ne_empty]
  decide

/-- Every sequence has a token that is not masked. -/
theorem v154_at (h3 : ∀ i, x3 i = 0#1) (b : Fin 8) : val_main_v154 (F := Ideal) x3 (ix2 b 0) = ((1 : ℝ) : EReal) := by
  pointwise [val_main_v154, val_main_v153, val_main_v152, val_main_v151, val_main_c_28]
  simp only [h3]
  rw [fold_ori_one 2047]
  exact counts

section
variable (G : Given A x y x0 x1 x2 x5 x6 x7 x8 x9 x10 x11 x12 x13 x14 x15 x16 x17 x18) (h3 : ∀ i, x3 i = 0#1)
include G h3

/-- The feed-forward network's input. -/
theorem v167_at (b : Fin 8) (d : Fin 2048) :
    val_main_v167 (F := Ideal) x0 x1 x3 x5 x6 x7 x8 x9 x10 x11 x12 (ix2 b d) = (A.hn x b d : EReal) := by
  have ha := v150_at G.h0 G.h5 G.h6 G.h1 h3 G.h8 G.h9 G.h12 G.h10 G.h11 b
  have h7 := G.h7
  pointwise [val_main_v167, val_main_v166, val_main_v165, val_main_v164, val_main_v163, val_main_v162, val_main_v161, val_main_v160,
    val_main_v159, val_main_v158, val_main_v157, val_main_v156, val_main_v155, val_main_cst_29, val_main_cst_30, val_main_cst_31]
  simp only [ha, h7, ofBits_2048, ofBits_eps, rsqrt_mean]
  simp only [← EReal.coe_mul, ← EReal.coe_add, ← coe_sum]
  rfl

/-- The gate and value rows. -/
theorem v172_at (b : Fin 8) (k : Fin 8192) :
    val_main_v172 (F := Ideal) x0 x1 x3 x5 x6 x7 x8 x9 x10 x11 x12 x15 x16 (ix2 b k) = (A.gv x b k : EReal) := by
  have hn := v167_at G h3 b
  have h15 := G.h15
  have h16 := G.h16
  pointwise [val_main_v172, val_main_v171, val_main_v170, val_main_v169, val_main_v168]
  simp only [hn, h15, h16, ← EReal.coe_mul, ← coe_sum, ← EReal.coe_add]
  rfl

/-- The activation. -/
theorem v176_at (b : Fin 8) (k : Fin 4096) :
    val_main_v176 (F := Ideal) x0 x1 x3 x5 x6 x7 x8 x9 x10 x11 x12 x15 x16 (ix2 b k) = (A.act x b k : EReal) := by
  have hg := v172_at G h3 b
  pointwise [val_main_v176, val_main_v175, val_main_v174, val_main_v173, val_main_call5_v5, val_main_call5_v4, val_main_call5_v3,
    val_main_call5_v2, val_main_call5_v1, val_main_call5_v0, val_main_call5_cst, val_main_call5_cst_0]
  simp only [hg, ← EReal.coe_neg, Ideal.exp_coe, ← EReal.coe_one, ← EReal.coe_add]
  rw [div_coe_coe (by positivity), ← EReal.coe_mul, ← EReal.coe_mul, one_div]
  rfl

/-- The update. -/
theorem v184_at (b : Fin 8) (f : Fin 2048) :
    val_main_v184 (F := Ideal) x0 x1 x3 x5 x6 x7 x8 x9 x10 x11 x12 x15 x16 x17 x18 (ix2 b f) = (A.upd x b f : EReal) := by
  have ha := v150_at G.h0 G.h5 G.h6 G.h1 h3 G.h8 G.h9 G.h12 G.h10 G.h11 b f
  have hk := v176_at G h3 b
  have hv := v154_at h3 b
  have h17 := G.h17
  have h18 := G.h18
  pointwise [val_main_v184, val_main_v183, val_main_v182, val_main_v181, val_main_v180, val_main_v179, val_main_v178, val_main_v177]
  simp only [ha, hk, hv, h17, h18, ← EReal.coe_mul, ← coe_sum, ← EReal.coe_add, mul_one]
  rw [← add_assoc]
  rfl

/-- The gate's score. -/
theorem v193_at (b : Fin 8) :
    val_main_v193 (F := Ideal) x0 x1 x3 x5 x6 x7 x8 x9 x10 x11 x12 x13 x14 x15 x16 x17 x18 (ix2 b 0) = (A.ds x b : EReal) := by
  have hu := v184_at G h3 b
  have hv := v154_at h3 b
  have h0 := G.h0
  have h13 := G.h13
  have h14 := G.h14
  pointwise [val_main_v193, val_main_v192, val_main_v191, val_main_v190, val_main_v189, val_main_v188, val_main_v187, val_main_v186, val_main_v185, val_main_cst_32]
  rw [hv, if_neg (not_le.mpr (EReal.coe_pos.mpr one_pos))]
  simp only [hu, h0, h13, h14, ← EReal.coe_mul, ← coe_sum, ← EReal.coe_add]
  rfl

end

/-- The second sequence's update is computed as the first's. -/
theorem v364_eq : val_main_v364 (F := Ideal) x0 x2 x4 x5 x6 x7 x8 x9 x10 x11 x12 x15 x16 x17 x18
    = val_main_v184 (F := Ideal) x0 x2 x4 x5 x6 x7 x8 x9 x10 x11 x12 x15 x16 x17 x18 := rfl

/-- The second sequence's score is computed as the first's. -/
theorem v373_eq : val_main_v373 (F := Ideal) x0 x2 x4 x5 x6 x7 x8 x9 x10 x11 x12 x13 x14 x15 x16 x17 x18
    = val_main_v193 (F := Ideal) x0 x2 x4 x5 x6 x7 x8 x9 x10 x11 x12 x13 x14 x15 x16 x17 x18 := rfl

/-- The greater of two, from the least extended real on. -/
theorem fold_max_two (a b : EReal) :
    (Finset.univ : Finset (Fin 2)).fold max ⊥ (fun i => if _h : i.val < 1 then a else b) = max a b := by
  rw [show (Finset.univ : Finset (Fin 2)) = {0, 1} from rfl, Finset.fold_insert (by decide), Finset.fold_singleton]
  rw [dif_pos (by decide), dif_neg (by decide), max_eq_left (bot_le (a := b))]

/-- The reference's result. -/
theorem v393_at (G : Given A x y x0 x1 x2 x5 x6 x7 x8 x9 x10 x11 x12 x13 x14 x15 x16 x17 x18) (h3 : ∀ i, x3 i = 0#1) (h4 : ∀ i, x4 i = 0#1)
    (b : Fin 8) (f : Fin 2048) :
    val_main_v393 (F := Ideal) x0 x1 x2 x3 x4 x5 x6 x7 x8 x9 x10 x11 x12 x13 x14 x15 x16 x17 x18 (ix2 b f) = (A.out x y b f : EReal) := by
  have G' : Given A y y x0 x2 x2 x5 x6 x7 x8 x9 x10 x11 x12 x13 x14 x15 x16 x17 x18 := { G with h1 := G.h2 }
  have u0 := v184_at G h3 b f
  have u1 := v364_eq (x0 := x0) ▸ v184_at G' h4 b f
  have d0 := v193_at G h3 b
  have d1 := v373_eq (x0 := x0) ▸ v193_at G' h4 b
  pointwise [val_main_v393, val_main_v392, val_main_v391, val_main_v390, val_main_v389, val_main_v388, val_main_v387, val_main_v386,
    val_main_v385, val_main_v384, val_main_v383, val_main_v382, val_main_v381, val_main_v380, val_main_v379, val_main_v378,
    val_main_v377, val_main_v376, val_main_v375, val_main_v374, val_main_cst_69, val_main_cst_70, val_main_cst_71, val_main_cst_72]
  have hm : ∀ a b : ℝ, max (a : EReal) b = ((max a b : ℝ) : EReal) := fun a b => (EReal.coe_strictMono.monotone.map_max).symm
  have hb : ∀ a : EReal, max ⊥ a = a := fun a => max_eq_right bot_le
  have hS : 0 < Real.exp (A.ds x b - max (A.ds x b) (A.ds y b)) + Real.exp (A.ds y b - max (A.ds x b) (A.ds y b)) := by positivity
  simp only [u0, u1, d0, d1, ofBits_negInf, fold_max_two, hb, hm, Fin.sum_univ_one, ← EReal.coe_sub, Ideal.exp_coe, ← EReal.coe_add]
  rw [div_coe_coe hS.ne', div_coe_coe hS.ne', ← EReal.coe_mul, ← EReal.coe_mul, ← EReal.coe_add]
  refine congrArg _ ?_
  unfold Args.out
  ring

end Cert.Value

end
-- ==== Proof.lean ====
/- Assembles the certificate: the runs of both printings of the kernel, the run of the reference, and the two results' equality. -/
module

public import proofs.«01_k».proof.Defs
public import proofs.«01_k».proof.Proof.KernelRun.Run
public import proofs.«01_k».proof.Proof.KernelIdealRun.Run
public import proofs.«01_k».proof.Proof.Gen.ReferenceIdeal.Run
public import proofs.«01_k».proof.Proof.Value.Pre
public import proofs.«01_k».proof.Proof.Value.Chain
public import proofs.«01_k».proof.Proof.Value.RefOut

@[expose] public section

noncomputable section

namespace Cert.Proof

open Idealize.ShloMosaic Idealize.ShloMosaic.TcCoe Idealize.ShloMosaic.Pointwise Idealize.SL.Sem Cert.Value

/-- Both named constants stand where the kernel's own words stood: the mask as −∞, the softmax scale as 1/√128. -/
theorem preserves : Cert.preserves_Kernel_KernelIdeal :=
  ⟨IdealRules.named_const.statement Cert.KernelIdeal.κ "mask" .f32 0xF149F2CA#32 ⊥ rfl,
    IdealRules.named_const.statement Cert.KernelIdeal.κ "inv_sqrt_dh" .f32 0x3DB504F3#32 (((Real.sqrt 128)⁻¹ : ℝ) : EReal) rfl⟩

/-- The reference ends with its arguments unchanged and every semaphore at zero. -/
theorem reference_frame : Cert.quiescent_ReferenceIdeal := fun m g _ =>
  (θ_run Cert.ReferenceIdeal.defs _ _).mono
    (fun r h => ⟨fun c => (h c).2, Idealize.ShloMosaic.sem_eq_zero_of_no_sems (by decide) r.2⟩) (Cert.ReferenceIdeal.Value.run m g)

/-- The kernel's result and the reference's, from the same real arguments with the masks off, are the same array. -/
theorem algebraic : Cert.algebraic_KernelIdeal_ReferenceIdeal_pre_finite_unmasked := by
  intro m g m' g' hpre hargs
  refine ⟨fun c => outArr (argsOf (m ((c.tc : Thread Cert.KernelIdeal.nD Cert.KernelIdeal.τ).loc Cert.KernelIdeal.main_arg0)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)))
    (seqOf (m ((c.tc : Thread Cert.KernelIdeal.nD Cert.KernelIdeal.τ).loc Cert.KernelIdeal.main_arg1))) (seqOf (m ((c.tc : Thread Cert.KernelIdeal.nD Cert.KernelIdeal.τ).loc Cert.KernelIdeal.main_arg2))), ?_, ?_⟩
  · exact (θ_run Cert.KernelIdeal.defs _ _).mono
      (fun r h c => ⟨(h.1 c).1.trans (kernel_value (given_of_pre (hpre c)).1), (h.1 c).2⟩) (Cert.KernelIdeal.Gen.run m g)
  · refine (θ_run Cert.ReferenceIdeal.defs _ _).mono (fun r h c => ⟨?_, (h c).2⟩) (Cert.ReferenceIdeal.Value.run m' g')
    refine (h c).1.trans ((Cert.ReferenceIdeal.Read.val_main_v393_eq (StableHlo.launchContents m' c)).trans ?_)
    obtain ⟨G, h3, h4⟩ := given_of_pre (hpre c)
    obtain ⟨e0, e1, e2, e3, e4, e5, e6, e7, e8, e9, e10, e11, e12, e13, e14, e15, e16, e17, e18⟩ := hargs c
    show Cert.ReferenceIdeal.Read.val_main_v393 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) = _
    rw [e0, e1, e2, e3, e4, e5, e6, e7, e8, e9, e10, e11, e12, e13, e14, e15, e16, e17, e18]
    funext i
    have hi : i = ix2 (i 0) (i 1) := by funext d; match d with | 0 => rfl | 1 => rfl
    rw [hi]
    exact v393_at G h3 h4 (i 0) (i 1)

/-- Everything the certificate claims. -/
theorem claim : Cert.Claim :=
  ⟨Cert.Kernel.Gen.facts, Cert.KernelIdeal.Gen.facts, Cert.ReferenceIdeal.Gen.facts, Cert.Pre_finite_unmasked.Gen.facts,
    fun m g _ => Cert.Kernel.Gen.frame m g,
    fun m g _ => Cert.KernelIdeal.Gen.frame m g,
    fun m g _ => Cert.KernelIdeal.Gen.frame m g,
    reference_frame, fun m g _ => reference_frame m g trivial,
    preserves, algebraic⟩

end Cert.Proof

end
